-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.bf16_pair.Statement Cert.KernelIdeal.S1x128x2x128 Cert.KernelIdeal.S1x128x1x128
  ∧ IdealRules.bf16_pair.Statement Cert.KernelIdeal.S256x128 Cert.KernelIdeal.S128x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)) (v3 : (c : Dev Cert.KernelIdeal.nD) → Buf (Elt Ideal) ((c.tc : Thread Cert.KernelIdeal.nD Cert.KernelIdeal.τ).loc Cert.KernelIdeal.main_v18_3)) (v4 : (c : Dev Cert.KernelIdeal.nD) → Buf (Elt Ideal) ((c.tc : Thread Cert.KernelIdeal.nD Cert.KernelIdeal.τ).loc Cert.KernelIdeal.main_v18_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v18_2) = v2 c
          ∧ r.2.mem ((c.tc : Thread Cert.KernelIdeal.nD Cert.KernelIdeal.τ).loc Cert.KernelIdeal.main_v18_3) = v3 c
          ∧ r.2.mem ((c.tc : Thread Cert.KernelIdeal.nD Cert.KernelIdeal.τ).loc Cert.KernelIdeal.main_v18_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51_0) = v0 c
          ∧ r.2.mem ((c.tc : Thread Cert.ReferenceIdeal.nD Cert.ReferenceIdeal.τ).loc Cert.ReferenceIdeal.main_v51_1) = v1 c
          ∧ r.2.mem ((c.tc : Thread Cert.ReferenceIdeal.nD Cert.ReferenceIdeal.τ).loc Cert.ReferenceIdeal.main_v51_2) = v2 c
          ∧ r.2.mem ((c.tc : Thread Cert.ReferenceIdeal.nD Cert.ReferenceIdeal.τ).loc Cert.ReferenceIdeal.main_v51_3) = v3 c
          ∧ r.2.mem ((c.tc : Thread Cert.ReferenceIdeal.nD Cert.ReferenceIdeal.τ).loc Cert.ReferenceIdeal.main_v51_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x8192x28x128 : Shape := ⟨4, ![2, 8192, 28, 128]⟩
abbrev S2x8192x4x128 : Shape := ⟨4, ![2, 8192, 4, 128]⟩
abbrev S2x8192x3584 : Shape := ⟨3, ![2, 8192, 3584]⟩
abbrev S2x8192 : Shape := ⟨2, ![2, 8192]⟩
abbrev S3584x4608 : Shape := ⟨2, ![3584, 4608]⟩
abbrev S28x36 : Shape := ⟨2, ![28, 36]⟩
abbrev S2x28x8192x128 : Shape := ⟨4, ![2, 28, 8192, 128]⟩
abbrev S2x32768x128 : Shape := ⟨3, ![2, 32768, 128]⟩
abbrev S64 : Shape := ⟨1, ![64]⟩
abbrev S_ : Shape := ⟨0, ![]⟩
abbrev S1x64 : Shape := ⟨2, ![1, 64]⟩
abbrev S1x1x1x64 : Shape := ⟨4, ![1, 1, 1, 64]⟩
abbrev S8x1x2x64 : Shape := ⟨4, ![8, 1, 2, 64]⟩
abbrev S8x128 : Shape := ⟨2, ![8, 128]⟩
abbrev S2x8192x4608 : Shape := ⟨3, ![2, 8192, 4608]⟩
abbrev S36x2x8192 : Shape := ⟨3, ![36, 2, 8192]⟩
abbrev S28x2x8192 : Shape := ⟨3, ![28, 2, 8192]⟩
abbrev S2x28x128x128 : Shape := ⟨4, ![2, 28, 128, 128]⟩
abbrev S2x512x128 : Shape := ⟨3, ![2, 512, 128]⟩
abbrev S2x128x3584 : Shape := ⟨3, ![2, 128, 3584]⟩
abbrev S2x128 : Shape := ⟨2, ![2, 128]⟩
abbrev S2x128x4608 : Shape := ⟨3, ![2, 128, 4608]⟩
abbrev S36x2x128 : Shape := ⟨3, ![36, 2, 128]⟩
abbrev S28x2x128 : Shape := ⟨3, ![28, 2, 128]⟩
abbrev S4608x3584 : Shape := ⟨2, ![4608, 3584]⟩
abbrev S2x256x4608 : Shape := ⟨3, ![2, 256, 4608]⟩
abbrev S256x4608 : Shape := ⟨2, ![256, 4608]⟩
abbrev S256x128 : Shape := ⟨2, ![256, 128]⟩
abbrev S2 : Shape := ⟨1, ![2]⟩
abbrev S1 : Shape := ⟨1, ![1]⟩
abbrev S1x256x4608 : Shape := ⟨3, ![1, 256, 4608]⟩
abbrev S1x128x128 : Shape := ⟨3, ![1, 128, 128]⟩
abbrev S128x128 : Shape := ⟨2, ![128, 128]⟩
abbrev S1x1 : Shape := ⟨2, ![1, 1]⟩
abbrev S128x256 : Shape := ⟨2, ![128, 256]⟩
abbrev S1x128 : Shape := ⟨2, ![1, 128]⟩
abbrev S1x1x128x128 : Shape := ⟨4, ![1, 1, 128, 128]⟩
abbrev S128 : Shape := ⟨1, ![128]⟩
abbrev S128x1 : Shape := ⟨2, ![128, 1]⟩
abbrev S2x256x128 : Shape := ⟨3, ![2, 256, 128]⟩
abbrev S2x256x2x128 : Shape := ⟨4, ![2, 256, 2, 128]⟩
abbrev S1x128x2x128 : Shape := ⟨4, ![1, 128, 2, 128]⟩
abbrev S1x128x1x128 : Shape := ⟨4, ![1, 128, 1, 128]⟩
abbrev S36x128 : Shape := ⟨2, ![36, 128]⟩
abbrev S36x1x128 : Shape := ⟨3, ![36, 1, 128]⟩
abbrev S4608x512 : Shape := ⟨2, ![4608, 512]⟩
abbrev S256x512 : Shape := ⟨2, ![256, 512]⟩
abbrev S28x128 : Shape := ⟨2, ![28, 128]⟩
abbrev S28x1x128 : Shape := ⟨3, ![28, 1, 128]⟩

abbrev nBuf : Space → Nat
  | .hbm => 35
  | .vmem => 29
  | .smem => 1
  | _ => 0

abbrev bufTy : (tb : Table) → Fin (tcTables nBuf tb) → BufTy
  | .hbm, ⟨0, _⟩ => ⟨S2x8192x28x128, .bf16⟩
  | .hbm, ⟨1, _⟩ => ⟨S2x8192x4x128, .bf16⟩
  | .hbm, ⟨2, _⟩ => ⟨S2x8192x4x128, .bf16⟩
  | .hbm, ⟨3, _⟩ => ⟨S2x8192x3584, .bf16⟩
  | .hbm, ⟨4, _⟩ => ⟨S2x8192, .i32⟩
  | .hbm, ⟨5, _⟩ => ⟨S3584x4608, .fp8e4m3⟩
  | .hbm, ⟨6, _⟩ => ⟨S28x36, .f32⟩
  | .hbm, ⟨7, _⟩ => ⟨S2x28x8192x128, .bf16⟩
  | .hbm, ⟨8, _⟩ => ⟨S2x32768x128, .bf16⟩
  | .hbm, ⟨9, _⟩ => ⟨S2x32768x128, .bf16⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S1x64, .f32⟩
  | .hbm, ⟨27, _⟩ => ⟨S1x1x1x64, .f32⟩
  | .hbm, ⟨28, _⟩ => ⟨S8x1x2x64, .f32⟩
  | .hbm, ⟨29, _⟩ => ⟨S8x128, .f32⟩
  | .hbm, ⟨30, _⟩ => ⟨S2x8192x3584, .bf16⟩
  | .hbm, ⟨31, _⟩ => ⟨S2x8192x4608, .fp8e5m2⟩
  | .hbm, ⟨32, _⟩ => ⟨S36x2x8192, .f32⟩
  | .hbm, ⟨33, _⟩ => ⟨S2x8192x3584, .fp8e5m2⟩
  | .hbm, ⟨34, _⟩ => ⟨S28x2x8192, .f32⟩
  | .local _ .vmem, ⟨0, _⟩ => ⟨S2x28x128x128, .bf16⟩
  | .local _ .vmem, ⟨1, _⟩ => ⟨S2x28x128x128, .bf16⟩
  | .local _ .vmem, ⟨2, _⟩ => ⟨S2x512x128, .bf16⟩
  | .local _ .vmem, ⟨3, _⟩ => ⟨S2x512x128, .bf16⟩
  | .local _ .vmem, ⟨4, _⟩ => ⟨S2x512x128, .bf16⟩
  | .local _ .vmem, ⟨5, _⟩ => ⟨S2x512x128, .bf16⟩
  | .local _ .vmem, ⟨6, _⟩ => ⟨S2x128x3584, .bf16⟩
  | .local _ .vmem, ⟨7, _⟩ => ⟨S2x128x3584, .bf16⟩
  | .local _ .vmem, ⟨8, _⟩ => ⟨S2x128, .i32⟩
  | .local _ .vmem, ⟨9, _⟩ => ⟨S2x128, .i32⟩
  | .local _ .vmem, ⟨10, _⟩ => ⟨S8x128, .f32⟩
  | .local _ .vmem, ⟨11, _⟩ => ⟨S2x128x3584, .bf16⟩
  | .local _ .vmem, ⟨12, _⟩ => ⟨S2x128x3584, .bf16⟩
  | .local _ .vmem, ⟨13, _⟩ => ⟨S2x128x4608, .fp8e5m2⟩
  | .local _ .vmem, ⟨14, _⟩ => ⟨S2x128x4608, .fp8e5m2⟩
  | .local _ .vmem, ⟨15, _⟩ => ⟨S36x2x128, .f32⟩
  | .local _ .vmem, ⟨16, _⟩ => ⟨S36x2x128, .f32⟩
  | .local _ .vmem, ⟨17, _⟩ => ⟨S2x128x3584, .fp8e5m2⟩
  | .local _ .vmem, ⟨18, _⟩ => ⟨S2x128x3584, .fp8e5m2⟩
  | .local _ .vmem, ⟨19, _⟩ => ⟨S28x2x128, .f32⟩
  | .local _ .vmem, ⟨20, _⟩ => ⟨S28x2x128, .f32⟩
  | .local _ .vmem, ⟨21, _⟩ => ⟨S4608x3584, .bf16⟩
  | .local _ .vmem, ⟨22, _⟩ => ⟨S2x256x4608, .fp8e4m3⟩
  | .local _ .vmem, ⟨23, _⟩ => ⟨S256x4608, .bf16⟩
  | .local _ .vmem, ⟨24, _⟩ => ⟨S256x4608, .bf16⟩
  | .local _ .vmem, ⟨25, _⟩ => ⟨S256x128, .f32⟩
  | .local _ .vmem, ⟨26, _⟩ => ⟨S256x128, .f32⟩
  | .local _ .vmem, ⟨27, _⟩ => ⟨S256x128, .f32⟩
  | .local _ .vmem, ⟨28, _⟩ => ⟨S256x128, .f32⟩
  | .local _ .smem, ⟨0, _⟩ => ⟨S28x36, .f32⟩
  | _, _ => ⟨S2x8192x28x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18_0 : Ref sig .tc := ⟨.hbm, 30, rfl⟩
abbrev main_v18_1 : Ref sig .tc := ⟨.hbm, 31, rfl⟩
abbrev main_v18_2 : Ref sig .tc := ⟨.hbm, 32, rfl⟩
abbrev main_v18_3 : Ref sig .tc := ⟨.hbm, 33, rfl⟩
abbrev main_v18_4 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [BitOps F]

abbrev grid0 : Pipeline.Grid := ⟨1, ![65], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 : Fin 1 → Nat :=
  let c0_i32_6 : BitVec 32 := 0#32
  let c2_i32_7 : BitVec 32 := 2#32
  let v14 : BitVec 32 := Scalar.remsi c0_i32_6 c2_i32_7
  ![v14.toNat]
def k0_off2 : Fin 3 → Nat :=
  let c0_i32_6 : BitVec 32 := 0#32
  let c2_i32_7 : BitVec 32 := 2#32
  let v14 : BitVec 32 := Scalar.remsi c0_i32_6 c2_i32_7
  let c0_i32_8 : BitVec 32 := 0#32
  let c0_i32_9 : BitVec 32 := 0#32
  ![v14.toNat, 0, 0]
@[reducible] def k0_t1_loop : Scf.Loop 32 :=
  let c0_i32_12 : BitVec 32 := 0#32
  let c14_i32 : BitVec 32 := 14#32
  let v20 : BitVec 32 := Scalar.addi c0_i32_12 c14_i32
  let c1_i32_13 : BitVec 32 := 1#32
  ⟨c0_i32_12, v20, c1_i32_13⟩
def k0_cond2 (k0_t1 : Fin k0_t1_loop.trips) : BitVec 1 :=
  let c0_i32_12 : BitVec 32 := 0#32
  let c1_i32_13 : BitVec 32 := 1#32
  let arg23 : BitVec 32 := Scf.iv c0_i32_12 c1_i32_13 k0_t1
  let c1_i32_1941 : BitVec 32 := 1#32
  let v4110 : BitVec 32 := Scalar.addi arg23 c1_i32_1941
  let c14_i32_1942 : BitVec 32 := 14#32
  let v4111 : BitVec 1 := Scalar.cmpi .slt v4110 c14_i32_1942
  let v4112 : BitVec 32 := Scalar.extui v4111
  let c0_i32_1943 : BitVec 32 := 0#32
  let v4113 : BitVec 1 := Scalar.cmpi .ne v4112 c0_i32_1943
  v4113

def k0_off3 (k0_t1 : Fin k0_t1_loop.trips) : Fin 1 → Nat :=
  let c0_i32_12 : BitVec 32 := 0#32
  let c1_i32_13 : BitVec 32 := 1#32
  let arg23 : BitVec 32 := Scf.iv c0_i32_12 c1_i32_13 k0_t1
  let c1_i32_2346 : BitVec 32 := 1#32
  let v5168 : BitVec 32 := Scalar.addi arg23 c1_i32_2346
  let c2_i32_2347 : BitVec 32 := 2#32
  let v5169 : BitVec 32 := Scalar.remsi v5168 c2_i32_2347
  ![v5169.toNat]
def k0_off4 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c1_i32_2346 : BitVec 32 := 1#32
  let v5168 : BitVec 32 := Scalar.addi arg23 c1_i32_2346
  let c2_i32_2347 : BitVec 32 := 2#32
  let v5169 : BitVec 32 := Scalar.remsi v5168 c2_i32_2347
  let c0_i32_2349 : BitVec 32 := 0#32
  let c0_i32_2350 : BitVec 32 := 0#32
  ![v5169.toNat, 0, 0]
def k0_off5 (k0_t1 : Fin k0_t1_loop.trips) : Fin 2 → Nat :=
  let c0_i32_12 : BitVec 32 := 0#32
  let c1_i32_13 : BitVec 32 := 1#32
  let arg23 : BitVec 32 := Scf.iv c0_i32_12 c1_i32_13 k0_t1
  let c1_i32_2346 : BitVec 32 := 1#32
  let v5168 : BitVec 32 := Scalar.addi arg23 c1_i32_2346
  let c256_i32_2348 : BitVec 32 := 256#32
  let v5170 : BitVec 32 := Scalar.muli v5168 c256_i32_2348
  let c0_i32_2351 : BitVec 32 := 0#32
  ![v5170.toNat, 0]
def k0_off6 (k0_t1 : Fin k0_t1_loop.trips) : Fin 1 → Nat :=
  let c0_i32_12 : BitVec 32 := 0#32
  let c1_i32_13 : BitVec 32 := 1#32
  let arg23 : BitVec 32 := Scf.iv c0_i32_12 c1_i32_13 k0_t1
  let c2_i32_1944 : BitVec 32 := 2#32
  let v4114 : BitVec 32 := Scalar.remsi arg23 c2_i32_1944
  ![v4114.toNat]
def k0_off7 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1944 : BitVec 32 := 2#32
  let v4114 : BitVec 32 := Scalar.remsi arg23 c2_i32_1944
  let c0_i32_1945 : BitVec 32 := 0#32
  let c0_i32_1946 : BitVec 32 := 0#32
  ![v4114.toNat, 0, 0]
def k0_off8 (k0_t1 : Fin k0_t1_loop.trips) : Fin 2 → Nat :=
  let c0_i32_12 : BitVec 32 := 0#32
  let c1_i32_13 : BitVec 32 := 1#32
  let arg23 : BitVec 32 := Scf.iv c0_i32_12 c1_i32_13 k0_t1
  let c256_i32 : BitVec 32 := 256#32
  let v4115 : BitVec 32 := Scalar.muli arg23 c256_i32
  let c0_i32_1947 : BitVec 32 := 0#32
  ![v4115.toNat, 0]
def k0_mult1 (k0_t1 : Fin k0_t1_loop.trips) : BitVec 32 :=
  let c0_i32_12 : BitVec 32 := 0#32
  let c1_i32_13 : BitVec 32 := 1#32
  let arg23 : BitVec 32 := Scf.iv c0_i32_12 c1_i32_13 k0_t1
  let c256_i32_1949 : BitVec 32 := 256#32
  let v4122 : BitVec 32 := Scalar.muli arg23 c256_i32_1949
  v4122
def k0_off9 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4124 : Index := Scalar.indexCast v4121
  let c0_1950 : Index := 0#32
  let c0_1951 : Index := 0#32
  ![v4124.toNat, 0, 0]
def k0_off10 (k0_t1 : Fin k0_t1_loop.trips) (c0_i32_1953 : BitVec 32) : Fin 2 → Nat :=
  let c0_i32_12 : BitVec 32 := 0#32
  let c1_i32_13 : BitVec 32 := 1#32
  let arg23 : BitVec 32 := Scf.iv c0_i32_12 c1_i32_13 k0_t1
  let c2_i32_1952 : BitVec 32 := 2#32
  let v4127 : BitVec 32 := Scalar.muli arg23 c2_i32_1952
  let v4128 : BitVec 32 := Scalar.addi v4127 c0_i32_1953
  let v4129 : Index := Scalar.indexCast v4128
  let c0_1954 : Index := 0#32
  ![v4129.toNat, 0]
def k0_off11 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4136 : Index := Scalar.indexCast v4121
  let c128_1955 : Index := 128#32
  let c0_1956 : Index := 0#32
  ![v4136.toNat, 128, 0]
def k0_off12 (k0_t1 : Fin k0_t1_loop.trips) : Fin 2 → Nat :=
  let c0_1960 : Index := 0#32
  let c0_i32_12 : BitVec 32 := 0#32
  let c1_i32_13 : BitVec 32 := 1#32
  let arg23 : BitVec 32 := Scf.iv c0_i32_12 c1_i32_13 k0_t1
  let c256_i32_1949 : BitVec 32 := 256#32
  let v4122 : BitVec 32 := Scalar.muli arg23 c256_i32_1949
  let v4123 : BitVec 32 := v4122
  let v4149 : Index := Scalar.indexCast v4123
  ![0, v4149.toNat]
def k0_off13 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4153 : Index := Scalar.indexCast v4121
  let c0_1961 : Index := 0#32
  let c128_1962 : Index := 128#32
  ![v4153.toNat, 0, 128]
def k0_off14 (k0_t1 : Fin k0_t1_loop.trips) (c0_i32_1964 : BitVec 32) : Fin 2 → Nat :=
  let c0_i32_12 : BitVec 32 := 0#32
  let c1_i32_13 : BitVec 32 := 1#32
  let arg23 : BitVec 32 := Scf.iv c0_i32_12 c1_i32_13 k0_t1
  let c2_i32_1963 : BitVec 32 := 2#32
  let v4156 : BitVec 32 := Scalar.muli arg23 c2_i32_1963
  let v4157 : BitVec 32 := Scalar.addi v4156 c0_i32_1964
  let v4158 : Index := Scalar.indexCast v4157
  let c1_1965 : Index := 1#32
  ![v4158.toNat, 1]
def k0_off15 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4165 : Index := Scalar.indexCast v4121
  let c128_1966 : Index := 128#32
  let c128_1967 : Index := 128#32
  ![v4165.toNat, 128, 128]
def k0_off16 (k0_t1 : Fin k0_t1_loop.trips) : Fin 2 → Nat :=
  let c128_1971 : Index := 128#32
  let c0_i32_12 : BitVec 32 := 0#32
  let c1_i32_13 : BitVec 32 := 1#32
  let arg23 : BitVec 32 := Scf.iv c0_i32_12 c1_i32_13 k0_t1
  let c256_i32_1949 : BitVec 32 := 256#32
  let v4122 : BitVec 32 := Scalar.muli arg23 c256_i32_1949
  let v4123 : BitVec 32 := v4122
  let v4178 : Index := Scalar.indexCast v4123
  ![128, v4178.toNat]
def k0_off17 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4182 : Index := Scalar.indexCast v4121
  let c0_1972 : Index := 0#32
  let c256_1973 : Index := 256#32
  ![v4182.toNat, 0, 256]
def k0_off18 (k0_t1 : Fin k0_t1_loop.trips) (c0_i32_1975 : BitVec 32) : Fin 2 → Nat :=
  let c0_i32_12 : BitVec 32 := 0#32
  let c1_i32_13 : BitVec 32 := 1#32
  let arg23 : BitVec 32 := Scf.iv c0_i32_12 c1_i32_13 k0_t1
  let c2_i32_1974 : BitVec 32 := 2#32
  let v4185 : BitVec 32 := Scalar.muli arg23 c2_i32_1974
  let v4186 : BitVec 32 := Scalar.addi v4185 c0_i32_1975
  let v4187 : Index := Scalar.indexCast v4186
  let c2_1976 : Index := 2#32
  ![v4187.toNat, 2]
def k0_off19 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4194 : Index := Scalar.indexCast v4121
  let c128_1977 : Index := 128#32
  let c256_1978 : Index := 256#32
  ![v4194.toNat, 128, 256]
def k0_off20 (k0_t1 : Fin k0_t1_loop.trips) : Fin 2 → Nat :=
  let c256_1982 : Index := 256#32
  let c0_i32_12 : BitVec 32 := 0#32
  let c1_i32_13 : BitVec 32 := 1#32
  let arg23 : BitVec 32 := Scf.iv c0_i32_12 c1_i32_13 k0_t1
  let c256_i32_1949 : BitVec 32 := 256#32
  let v4122 : BitVec 32 := Scalar.muli arg23 c256_i32_1949
  let v4123 : BitVec 32 := v4122
  let v4207 : Index := Scalar.indexCast v4123
  ![256, v4207.toNat]
def k0_off21 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4211 : Index := Scalar.indexCast v4121
  let c0_1983 : Index := 0#32
  let c384_1984 : Index := 384#32
  ![v4211.toNat, 0, 384]
def k0_off22 (k0_t1 : Fin k0_t1_loop.trips) (c0_i32_1986 : BitVec 32) : Fin 2 → Nat :=
  let c0_i32_12 : BitVec 32 := 0#32
  let c1_i32_13 : BitVec 32 := 1#32
  let arg23 : BitVec 32 := Scf.iv c0_i32_12 c1_i32_13 k0_t1
  let c2_i32_1985 : BitVec 32 := 2#32
  let v4214 : BitVec 32 := Scalar.muli arg23 c2_i32_1985
  let v4215 : BitVec 32 := Scalar.addi v4214 c0_i32_1986
  let v4216 : Index := Scalar.indexCast v4215
  let c3_1987 : Index := 3#32
  ![v4216.toNat, 3]
def k0_off23 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4223 : Index := Scalar.indexCast v4121
  let c128_1988 : Index := 128#32
  let c384_1989 : Index := 384#32
  ![v4223.toNat, 128, 384]
def k0_off24 (k0_t1 : Fin k0_t1_loop.trips) : Fin 2 → Nat :=
  let c384_1993 : Index := 384#32
  let c0_i32_12 : BitVec 32 := 0#32
  let c1_i32_13 : BitVec 32 := 1#32
  let arg23 : BitVec 32 := Scf.iv c0_i32_12 c1_i32_13 k0_t1
  let c256_i32_1949 : BitVec 32 := 256#32
  let v4122 : BitVec 32 := Scalar.muli arg23 c256_i32_1949
  let v4123 : BitVec 32 := v4122
  let v4236 : Index := Scalar.indexCast v4123
  ![384, v4236.toNat]
def k0_off25 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4240 : Index := Scalar.indexCast v4121
  let c0_1994 : Index := 0#32
  let c512_1995 : Index := 512#32
  ![v4240.toNat, 0, 512]
def k0_off26 (k0_t1 : Fin k0_t1_loop.trips) (c0_i32_1997 : BitVec 32) : Fin 2 → Nat :=
  let c0_i32_12 : BitVec 32 := 0#32
  let c1_i32_13 : BitVec 32 := 1#32
  let arg23 : BitVec 32 := Scf.iv c0_i32_12 c1_i32_13 k0_t1
  let c2_i32_1996 : BitVec 32 := 2#32
  let v4243 : BitVec 32 := Scalar.muli arg23 c2_i32_1996
  let v4244 : BitVec 32 := Scalar.addi v4243 c0_i32_1997
  let v4245 : Index := Scalar.indexCast v4244
  let c4_1998 : Index := 4#32
  ![v4245.toNat, 4]
def k0_off27 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4252 : Index := Scalar.indexCast v4121
  let c128_1999 : Index := 128#32
  let c512_2000 : Index := 512#32
  ![v4252.toNat, 128, 512]
def k0_off28 (k0_t1 : Fin k0_t1_loop.trips) : Fin 2 → Nat :=
  let c512_2004 : Index := 512#32
  let c0_i32_12 : BitVec 32 := 0#32
  let c1_i32_13 : BitVec 32 := 1#32
  let arg23 : BitVec 32 := Scf.iv c0_i32_12 c1_i32_13 k0_t1
  let c256_i32_1949 : BitVec 32 := 256#32
  let v4122 : BitVec 32 := Scalar.muli arg23 c256_i32_1949
  let v4123 : BitVec 32 := v4122
  let v4265 : Index := Scalar.indexCast v4123
  ![512, v4265.toNat]
def k0_off29 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4269 : Index := Scalar.indexCast v4121
  let c0_2005 : Index := 0#32
  let c640_2006 : Index := 640#32
  ![v4269.toNat, 0, 640]
def k0_off30 (k0_t1 : Fin k0_t1_loop.trips) (c0_i32_2008 : BitVec 32) : Fin 2 → Nat :=
  let c0_i32_12 : BitVec 32 := 0#32
  let c1_i32_13 : BitVec 32 := 1#32
  let arg23 : BitVec 32 := Scf.iv c0_i32_12 c1_i32_13 k0_t1
  let c2_i32_2007 : BitVec 32 := 2#32
  let v4272 : BitVec 32 := Scalar.muli arg23 c2_i32_2007
  let v4273 : BitVec 32 := Scalar.addi v4272 c0_i32_2008
  let v4274 : Index := Scalar.indexCast v4273
  let c5_2009 : Index := 5#32
  ![v4274.toNat, 5]
def k0_off31 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4281 : Index := Scalar.indexCast v4121
  let c128_2010 : Index := 128#32
  let c640_2011 : Index := 640#32
  ![v4281.toNat, 128, 640]
def k0_off32 (k0_t1 : Fin k0_t1_loop.trips) : Fin 2 → Nat :=
  let c640_2015 : Index := 640#32
  let c0_i32_12 : BitVec 32 := 0#32
  let c1_i32_13 : BitVec 32 := 1#32
  let arg23 : BitVec 32 := Scf.iv c0_i32_12 c1_i32_13 k0_t1
  let c256_i32_1949 : BitVec 32 := 256#32
  let v4122 : BitVec 32 := Scalar.muli arg23 c256_i32_1949
  let v4123 : BitVec 32 := v4122
  let v4294 : Index := Scalar.indexCast v4123
  ![640, v4294.toNat]
def k0_off33 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4298 : Index := Scalar.indexCast v4121
  let c0_2016 : Index := 0#32
  let c768_2017 : Index := 768#32
  ![v4298.toNat, 0, 768]
def k0_off34 (k0_t1 : Fin k0_t1_loop.trips) (c0_i32_2019 : BitVec 32) : Fin 2 → Nat :=
  let c0_i32_12 : BitVec 32 := 0#32
  let c1_i32_13 : BitVec 32 := 1#32
  let arg23 : BitVec 32 := Scf.iv c0_i32_12 c1_i32_13 k0_t1
  let c2_i32_2018 : BitVec 32 := 2#32
  let v4301 : BitVec 32 := Scalar.muli arg23 c2_i32_2018
  let v4302 : BitVec 32 := Scalar.addi v4301 c0_i32_2019
  let v4303 : Index := Scalar.indexCast v4302
  let c6_2020 : Index := 6#32
  ![v4303.toNat, 6]
def k0_off35 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4310 : Index := Scalar.indexCast v4121
  let c128_2021 : Index := 128#32
  let c768_2022 : Index := 768#32
  ![v4310.toNat, 128, 768]
def k0_off36 (k0_t1 : Fin k0_t1_loop.trips) : Fin 2 → Nat :=
  let c768_2026 : Index := 768#32
  let c0_i32_12 : BitVec 32 := 0#32
  let c1_i32_13 : BitVec 32 := 1#32
  let arg23 : BitVec 32 := Scf.iv c0_i32_12 c1_i32_13 k0_t1
  let c256_i32_1949 : BitVec 32 := 256#32
  let v4122 : BitVec 32 := Scalar.muli arg23 c256_i32_1949
  let v4123 : BitVec 32 := v4122
  let v4323 : Index := Scalar.indexCast v4123
  ![768, v4323.toNat]
def k0_off37 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4327 : Index := Scalar.indexCast v4121
  let c0_2027 : Index := 0#32
  let c896_2028 : Index := 896#32
  ![v4327.toNat, 0, 896]
def k0_off38 (k0_t1 : Fin k0_t1_loop.trips) (c0_i32_2030 : BitVec 32) : Fin 2 → Nat :=
  let c0_i32_12 : BitVec 32 := 0#32
  let c1_i32_13 : BitVec 32 := 1#32
  let arg23 : BitVec 32 := Scf.iv c0_i32_12 c1_i32_13 k0_t1
  let c2_i32_2029 : BitVec 32 := 2#32
  let v4330 : BitVec 32 := Scalar.muli arg23 c2_i32_2029
  let v4331 : BitVec 32 := Scalar.addi v4330 c0_i32_2030
  let v4332 : Index := Scalar.indexCast v4331
  let c7_2031 : Index := 7#32
  ![v4332.toNat, 7]
def k0_off39 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4339 : Index := Scalar.indexCast v4121
  let c128_2032 : Index := 128#32
  let c896_2033 : Index := 896#32
  ![v4339.toNat, 128, 896]
def k0_off40 (k0_t1 : Fin k0_t1_loop.trips) : Fin 2 → Nat :=
  let c896_2037 : Index := 896#32
  let c0_i32_12 : BitVec 32 := 0#32
  let c1_i32_13 : BitVec 32 := 1#32
  let arg23 : BitVec 32 := Scf.iv c0_i32_12 c1_i32_13 k0_t1
  let c256_i32_1949 : BitVec 32 := 256#32
  let v4122 : BitVec 32 := Scalar.muli arg23 c256_i32_1949
  let v4123 : BitVec 32 := v4122
  let v4352 : Index := Scalar.indexCast v4123
  ![896, v4352.toNat]
def k0_off41 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4356 : Index := Scalar.indexCast v4121
  let c0_2038 : Index := 0#32
  let c1024_2039 : Index := 1024#32
  ![v4356.toNat, 0, 1024]
def k0_off42 (k0_t1 : Fin k0_t1_loop.trips) (c0_i32_2041 : BitVec 32) : Fin 2 → Nat :=
  let c0_i32_12 : BitVec 32 := 0#32
  let c1_i32_13 : BitVec 32 := 1#32
  let arg23 : BitVec 32 := Scf.iv c0_i32_12 c1_i32_13 k0_t1
  let c2_i32_2040 : BitVec 32 := 2#32
  let v4359 : BitVec 32 := Scalar.muli arg23 c2_i32_2040
  let v4360 : BitVec 32 := Scalar.addi v4359 c0_i32_2041
  let v4361 : Index := Scalar.indexCast v4360
  let c8_2042 : Index := 8#32
  ![v4361.toNat, 8]
def k0_off43 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4368 : Index := Scalar.indexCast v4121
  let c128_2043 : Index := 128#32
  let c1024_2044 : Index := 1024#32
  ![v4368.toNat, 128, 1024]
def k0_off44 (k0_t1 : Fin k0_t1_loop.trips) : Fin 2 → Nat :=
  let c1024_2048 : Index := 1024#32
  let c0_i32_12 : BitVec 32 := 0#32
  let c1_i32_13 : BitVec 32 := 1#32
  let arg23 : BitVec 32 := Scf.iv c0_i32_12 c1_i32_13 k0_t1
  let c256_i32_1949 : BitVec 32 := 256#32
  let v4122 : BitVec 32 := Scalar.muli arg23 c256_i32_1949
  let v4123 : BitVec 32 := v4122
  let v4381 : Index := Scalar.indexCast v4123
  ![1024, v4381.toNat]
def k0_off45 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4385 : Index := Scalar.indexCast v4121
  let c0_2049 : Index := 0#32
  let c1152_2050 : Index := 1152#32
  ![v4385.toNat, 0, 1152]
def k0_off46 (k0_t1 : Fin k0_t1_loop.trips) (c0_i32_2052 : BitVec 32) : Fin 2 → Nat :=
  let c0_i32_12 : BitVec 32 := 0#32
  let c1_i32_13 : BitVec 32 := 1#32
  let arg23 : BitVec 32 := Scf.iv c0_i32_12 c1_i32_13 k0_t1
  let c2_i32_2051 : BitVec 32 := 2#32
  let v4388 : BitVec 32 := Scalar.muli arg23 c2_i32_2051
  let v4389 : BitVec 32 := Scalar.addi v4388 c0_i32_2052
  let v4390 : Index := Scalar.indexCast v4389
  let c9_2053 : Index := 9#32
  ![v4390.toNat, 9]
def k0_off47 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4397 : Index := Scalar.indexCast v4121
  let c128_2054 : Index := 128#32
  let c1152_2055 : Index := 1152#32
  ![v4397.toNat, 128, 1152]
def k0_off48 (k0_t1 : Fin k0_t1_loop.trips) : Fin 2 → Nat :=
  let c1152_2059 : Index := 1152#32
  let c0_i32_12 : BitVec 32 := 0#32
  let c1_i32_13 : BitVec 32 := 1#32
  let arg23 : BitVec 32 := Scf.iv c0_i32_12 c1_i32_13 k0_t1
  let c256_i32_1949 : BitVec 32 := 256#32
  let v4122 : BitVec 32 := Scalar.muli arg23 c256_i32_1949
  let v4123 : BitVec 32 := v4122
  let v4410 : Index := Scalar.indexCast v4123
  ![1152, v4410.toNat]
def k0_off49 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4414 : Index := Scalar.indexCast v4121
  let c0_2060 : Index := 0#32
  let c1280_2061 : Index := 1280#32
  ![v4414.toNat, 0, 1280]
def k0_off50 (k0_t1 : Fin k0_t1_loop.trips) (c0_i32_2063 : BitVec 32) : Fin 2 → Nat :=
  let c0_i32_12 : BitVec 32 := 0#32
  let c1_i32_13 : BitVec 32 := 1#32
  let arg23 : BitVec 32 := Scf.iv c0_i32_12 c1_i32_13 k0_t1
  let c2_i32_2062 : BitVec 32 := 2#32
  let v4417 : BitVec 32 := Scalar.muli arg23 c2_i32_2062
  let v4418 : BitVec 32 := Scalar.addi v4417 c0_i32_2063
  let v4419 : Index := Scalar.indexCast v4418
  let c10_2064 : Index := 10#32
  ![v4419.toNat, 10]
def k0_off51 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4426 : Index := Scalar.indexCast v4121
  let c128_2065 : Index := 128#32
  let c1280_2066 : Index := 1280#32
  ![v4426.toNat, 128, 1280]
def k0_off52 (k0_t1 : Fin k0_t1_loop.trips) : Fin 2 → Nat :=
  let c1280_2070 : Index := 1280#32
  let c0_i32_12 : BitVec 32 := 0#32
  let c1_i32_13 : BitVec 32 := 1#32
  let arg23 : BitVec 32 := Scf.iv c0_i32_12 c1_i32_13 k0_t1
  let c256_i32_1949 : BitVec 32 := 256#32
  let v4122 : BitVec 32 := Scalar.muli arg23 c256_i32_1949
  let v4123 : BitVec 32 := v4122
  let v4439 : Index := Scalar.indexCast v4123
  ![1280, v4439.toNat]
def k0_off53 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4443 : Index := Scalar.indexCast v4121
  let c0_2071 : Index := 0#32
  let c1408_2072 : Index := 1408#32
  ![v4443.toNat, 0, 1408]
def k0_off54 (k0_t1 : Fin k0_t1_loop.trips) (c0_i32_2074 : BitVec 32) : Fin 2 → Nat :=
  let c0_i32_12 : BitVec 32 := 0#32
  let c1_i32_13 : BitVec 32 := 1#32
  let arg23 : BitVec 32 := Scf.iv c0_i32_12 c1_i32_13 k0_t1
  let c2_i32_2073 : BitVec 32 := 2#32
  let v4446 : BitVec 32 := Scalar.muli arg23 c2_i32_2073
  let v4447 : BitVec 32 := Scalar.addi v4446 c0_i32_2074
  let v4448 : Index := Scalar.indexCast v4447
  let c11_2075 : Index := 11#32
  ![v4448.toNat, 11]
def k0_off55 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4455 : Index := Scalar.indexCast v4121
  let c128_2076 : Index := 128#32
  let c1408_2077 : Index := 1408#32
  ![v4455.toNat, 128, 1408]
def k0_off56 (k0_t1 : Fin k0_t1_loop.trips) : Fin 2 → Nat :=
  let c1408_2081 : Index := 1408#32
  let c0_i32_12 : BitVec 32 := 0#32
  let c1_i32_13 : BitVec 32 := 1#32
  let arg23 : BitVec 32 := Scf.iv c0_i32_12 c1_i32_13 k0_t1
  let c256_i32_1949 : BitVec 32 := 256#32
  let v4122 : BitVec 32 := Scalar.muli arg23 c256_i32_1949
  let v4123 : BitVec 32 := v4122
  let v4468 : Index := Scalar.indexCast v4123
  ![1408, v4468.toNat]
def k0_off57 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4472 : Index := Scalar.indexCast v4121
  let c0_2082 : Index := 0#32
  let c1536_2083 : Index := 1536#32
  ![v4472.toNat, 0, 1536]
def k0_off58 (k0_t1 : Fin k0_t1_loop.trips) (c0_i32_2085 : BitVec 32) : Fin 2 → Nat :=
  let c0_i32_12 : BitVec 32 := 0#32
  let c1_i32_13 : BitVec 32 := 1#32
  let arg23 : BitVec 32 := Scf.iv c0_i32_12 c1_i32_13 k0_t1
  let c2_i32_2084 : BitVec 32 := 2#32
  let v4475 : BitVec 32 := Scalar.muli arg23 c2_i32_2084
  let v4476 : BitVec 32 := Scalar.addi v4475 c0_i32_2085
  let v4477 : Index := Scalar.indexCast v4476
  let c12_2086 : Index := 12#32
  ![v4477.toNat, 12]
def k0_off59 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4484 : Index := Scalar.indexCast v4121
  let c128_2087 : Index := 128#32
  let c1536_2088 : Index := 1536#32
  ![v4484.toNat, 128, 1536]
def k0_off60 (k0_t1 : Fin k0_t1_loop.trips) : Fin 2 → Nat :=
  let c1536_2092 : Index := 1536#32
  let c0_i32_12 : BitVec 32 := 0#32
  let c1_i32_13 : BitVec 32 := 1#32
  let arg23 : BitVec 32 := Scf.iv c0_i32_12 c1_i32_13 k0_t1
  let c256_i32_1949 : BitVec 32 := 256#32
  let v4122 : BitVec 32 := Scalar.muli arg23 c256_i32_1949
  let v4123 : BitVec 32 := v4122
  let v4497 : Index := Scalar.indexCast v4123
  ![1536, v4497.toNat]
def k0_off61 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4501 : Index := Scalar.indexCast v4121
  let c0_2093 : Index := 0#32
  let c1664_2094 : Index := 1664#32
  ![v4501.toNat, 0, 1664]
def k0_off62 (k0_t1 : Fin k0_t1_loop.trips) (c0_i32_2096 : BitVec 32) : Fin 2 → Nat :=
  let c0_i32_12 : BitVec 32 := 0#32
  let c1_i32_13 : BitVec 32 := 1#32
  let arg23 : BitVec 32 := Scf.iv c0_i32_12 c1_i32_13 k0_t1
  let c2_i32_2095 : BitVec 32 := 2#32
  let v4504 : BitVec 32 := Scalar.muli arg23 c2_i32_2095
  let v4505 : BitVec 32 := Scalar.addi v4504 c0_i32_2096
  let v4506 : Index := Scalar.indexCast v4505
  let c13_2097 : Index := 13#32
  ![v4506.toNat, 13]
def k0_off63 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4513 : Index := Scalar.indexCast v4121
  let c128_2098 : Index := 128#32
  let c1664_2099 : Index := 1664#32
  ![v4513.toNat, 128, 1664]
def k0_off64 (k0_t1 : Fin k0_t1_loop.trips) : Fin 2 → Nat :=
  let c1664_2103 : Index := 1664#32
  let c0_i32_12 : BitVec 32 := 0#32
  let c1_i32_13 : BitVec 32 := 1#32
  let arg23 : BitVec 32 := Scf.iv c0_i32_12 c1_i32_13 k0_t1
  let c256_i32_1949 : BitVec 32 := 256#32
  let v4122 : BitVec 32 := Scalar.muli arg23 c256_i32_1949
  let v4123 : BitVec 32 := v4122
  let v4526 : Index := Scalar.indexCast v4123
  ![1664, v4526.toNat]
def k0_off65 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4530 : Index := Scalar.indexCast v4121
  let c0_2104 : Index := 0#32
  let c1792_2105 : Index := 1792#32
  ![v4530.toNat, 0, 1792]
def k0_off66 (k0_t1 : Fin k0_t1_loop.trips) (c0_i32_2107 : BitVec 32) : Fin 2 → Nat :=
  let c0_i32_12 : BitVec 32 := 0#32
  let c1_i32_13 : BitVec 32 := 1#32
  let arg23 : BitVec 32 := Scf.iv c0_i32_12 c1_i32_13 k0_t1
  let c2_i32_2106 : BitVec 32 := 2#32
  let v4533 : BitVec 32 := Scalar.muli arg23 c2_i32_2106
  let v4534 : BitVec 32 := Scalar.addi v4533 c0_i32_2107
  let v4535 : Index := Scalar.indexCast v4534
  let c14_2108 : Index := 14#32
  ![v4535.toNat, 14]
def k0_off67 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4542 : Index := Scalar.indexCast v4121
  let c128_2109 : Index := 128#32
  let c1792_2110 : Index := 1792#32
  ![v4542.toNat, 128, 1792]
def k0_off68 (k0_t1 : Fin k0_t1_loop.trips) : Fin 2 → Nat :=
  let c1792_2114 : Index := 1792#32
  let c0_i32_12 : BitVec 32 := 0#32
  let c1_i32_13 : BitVec 32 := 1#32
  let arg23 : BitVec 32 := Scf.iv c0_i32_12 c1_i32_13 k0_t1
  let c256_i32_1949 : BitVec 32 := 256#32
  let v4122 : BitVec 32 := Scalar.muli arg23 c256_i32_1949
  let v4123 : BitVec 32 := v4122
  let v4555 : Index := Scalar.indexCast v4123
  ![1792, v4555.toNat]
def k0_off69 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4559 : Index := Scalar.indexCast v4121
  let c0_2115 : Index := 0#32
  let c1920_2116 : Index := 1920#32
  ![v4559.toNat, 0, 1920]
def k0_off70 (k0_t1 : Fin k0_t1_loop.trips) (c0_i32_2118 : BitVec 32) : Fin 2 → Nat :=
  let c0_i32_12 : BitVec 32 := 0#32
  let c1_i32_13 : BitVec 32 := 1#32
  let arg23 : BitVec 32 := Scf.iv c0_i32_12 c1_i32_13 k0_t1
  let c2_i32_2117 : BitVec 32 := 2#32
  let v4562 : BitVec 32 := Scalar.muli arg23 c2_i32_2117
  let v4563 : BitVec 32 := Scalar.addi v4562 c0_i32_2118
  let v4564 : Index := Scalar.indexCast v4563
  let c15_2119 : Index := 15#32
  ![v4564.toNat, 15]
def k0_off71 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4571 : Index := Scalar.indexCast v4121
  let c128_2120 : Index := 128#32
  let c1920_2121 : Index := 1920#32
  ![v4571.toNat, 128, 1920]
def k0_off72 (k0_t1 : Fin k0_t1_loop.trips) : Fin 2 → Nat :=
  let c1920_2125 : Index := 1920#32
  let c0_i32_12 : BitVec 32 := 0#32
  let c1_i32_13 : BitVec 32 := 1#32
  let arg23 : BitVec 32 := Scf.iv c0_i32_12 c1_i32_13 k0_t1
  let c256_i32_1949 : BitVec 32 := 256#32
  let v4122 : BitVec 32 := Scalar.muli arg23 c256_i32_1949
  let v4123 : BitVec 32 := v4122
  let v4584 : Index := Scalar.indexCast v4123
  ![1920, v4584.toNat]
def k0_off73 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4588 : Index := Scalar.indexCast v4121
  let c0_2126 : Index := 0#32
  let c2048_2127 : Index := 2048#32
  ![v4588.toNat, 0, 2048]
def k0_off74 (k0_t1 : Fin k0_t1_loop.trips) (c0_i32_2129 : BitVec 32) : Fin 2 → Nat :=
  let c0_i32_12 : BitVec 32 := 0#32
  let c1_i32_13 : BitVec 32 := 1#32
  let arg23 : BitVec 32 := Scf.iv c0_i32_12 c1_i32_13 k0_t1
  let c2_i32_2128 : BitVec 32 := 2#32
  let v4591 : BitVec 32 := Scalar.muli arg23 c2_i32_2128
  let v4592 : BitVec 32 := Scalar.addi v4591 c0_i32_2129
  let v4593 : Index := Scalar.indexCast v4592
  let c16_2130 : Index := 16#32
  ![v4593.toNat, 16]
def k0_off75 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4600 : Index := Scalar.indexCast v4121
  let c128_2131 : Index := 128#32
  let c2048_2132 : Index := 2048#32
  ![v4600.toNat, 128, 2048]
def k0_off76 (k0_t1 : Fin k0_t1_loop.trips) : Fin 2 → Nat :=
  let c2048_2136 : Index := 2048#32
  let c0_i32_12 : BitVec 32 := 0#32
  let c1_i32_13 : BitVec 32 := 1#32
  let arg23 : BitVec 32 := Scf.iv c0_i32_12 c1_i32_13 k0_t1
  let c256_i32_1949 : BitVec 32 := 256#32
  let v4122 : BitVec 32 := Scalar.muli arg23 c256_i32_1949
  let v4123 : BitVec 32 := v4122
  let v4613 : Index := Scalar.indexCast v4123
  ![2048, v4613.toNat]
def k0_off77 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4617 : Index := Scalar.indexCast v4121
  let c0_2137 : Index := 0#32
  let c2176_2138 : Index := 2176#32
  ![v4617.toNat, 0, 2176]
def k0_off78 (k0_t1 : Fin k0_t1_loop.trips) (c0_i32_2140 : BitVec 32) : Fin 2 → Nat :=
  let c0_i32_12 : BitVec 32 := 0#32
  let c1_i32_13 : BitVec 32 := 1#32
  let arg23 : BitVec 32 := Scf.iv c0_i32_12 c1_i32_13 k0_t1
  let c2_i32_2139 : BitVec 32 := 2#32
  let v4620 : BitVec 32 := Scalar.muli arg23 c2_i32_2139
  let v4621 : BitVec 32 := Scalar.addi v4620 c0_i32_2140
  let v4622 : Index := Scalar.indexCast v4621
  let c17_2141 : Index := 17#32
  ![v4622.toNat, 17]
def k0_off79 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4629 : Index := Scalar.indexCast v4121
  let c128_2142 : Index := 128#32
  let c2176_2143 : Index := 2176#32
  ![v4629.toNat, 128, 2176]
def k0_off80 (k0_t1 : Fin k0_t1_loop.trips) : Fin 2 → Nat :=
  let c2176_2147 : Index := 2176#32
  let c0_i32_12 : BitVec 32 := 0#32
  let c1_i32_13 : BitVec 32 := 1#32
  let arg23 : BitVec 32 := Scf.iv c0_i32_12 c1_i32_13 k0_t1
  let c256_i32_1949 : BitVec 32 := 256#32
  let v4122 : BitVec 32 := Scalar.muli arg23 c256_i32_1949
  let v4123 : BitVec 32 := v4122
  let v4642 : Index := Scalar.indexCast v4123
  ![2176, v4642.toNat]
def k0_off81 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4646 : Index := Scalar.indexCast v4121
  let c0_2148 : Index := 0#32
  let c2304_2149 : Index := 2304#32
  ![v4646.toNat, 0, 2304]
def k0_off82 (k0_t1 : Fin k0_t1_loop.trips) (c0_i32_2151 : BitVec 32) : Fin 2 → Nat :=
  let c0_i32_12 : BitVec 32 := 0#32
  let c1_i32_13 : BitVec 32 := 1#32
  let arg23 : BitVec 32 := Scf.iv c0_i32_12 c1_i32_13 k0_t1
  let c2_i32_2150 : BitVec 32 := 2#32
  let v4649 : BitVec 32 := Scalar.muli arg23 c2_i32_2150
  let v4650 : BitVec 32 := Scalar.addi v4649 c0_i32_2151
  let v4651 : Index := Scalar.indexCast v4650
  let c18_2152 : Index := 18#32
  ![v4651.toNat, 18]
def k0_off83 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4658 : Index := Scalar.indexCast v4121
  let c128_2153 : Index := 128#32
  let c2304_2154 : Index := 2304#32
  ![v4658.toNat, 128, 2304]
def k0_off84 (k0_t1 : Fin k0_t1_loop.trips) : Fin 2 → Nat :=
  let c2304_2158 : Index := 2304#32
  let c0_i32_12 : BitVec 32 := 0#32
  let c1_i32_13 : BitVec 32 := 1#32
  let arg23 : BitVec 32 := Scf.iv c0_i32_12 c1_i32_13 k0_t1
  let c256_i32_1949 : BitVec 32 := 256#32
  let v4122 : BitVec 32 := Scalar.muli arg23 c256_i32_1949
  let v4123 : BitVec 32 := v4122
  let v4671 : Index := Scalar.indexCast v4123
  ![2304, v4671.toNat]
def k0_off85 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4675 : Index := Scalar.indexCast v4121
  let c0_2159 : Index := 0#32
  let c2432_2160 : Index := 2432#32
  ![v4675.toNat, 0, 2432]
def k0_off86 (k0_t1 : Fin k0_t1_loop.trips) (c0_i32_2162 : BitVec 32) : Fin 2 → Nat :=
  let c0_i32_12 : BitVec 32 := 0#32
  let c1_i32_13 : BitVec 32 := 1#32
  let arg23 : BitVec 32 := Scf.iv c0_i32_12 c1_i32_13 k0_t1
  let c2_i32_2161 : BitVec 32 := 2#32
  let v4678 : BitVec 32 := Scalar.muli arg23 c2_i32_2161
  let v4679 : BitVec 32 := Scalar.addi v4678 c0_i32_2162
  let v4680 : Index := Scalar.indexCast v4679
  let c19_2163 : Index := 19#32
  ![v4680.toNat, 19]
def k0_off87 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4687 : Index := Scalar.indexCast v4121
  let c128_2164 : Index := 128#32
  let c2432_2165 : Index := 2432#32
  ![v4687.toNat, 128, 2432]
def k0_off88 (k0_t1 : Fin k0_t1_loop.trips) : Fin 2 → Nat :=
  let c2432_2169 : Index := 2432#32
  let c0_i32_12 : BitVec 32 := 0#32
  let c1_i32_13 : BitVec 32 := 1#32
  let arg23 : BitVec 32 := Scf.iv c0_i32_12 c1_i32_13 k0_t1
  let c256_i32_1949 : BitVec 32 := 256#32
  let v4122 : BitVec 32 := Scalar.muli arg23 c256_i32_1949
  let v4123 : BitVec 32 := v4122
  let v4700 : Index := Scalar.indexCast v4123
  ![2432, v4700.toNat]
def k0_off89 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4704 : Index := Scalar.indexCast v4121
  let c0_2170 : Index := 0#32
  let c2560_2171 : Index := 2560#32
  ![v4704.toNat, 0, 2560]
def k0_off90 (k0_t1 : Fin k0_t1_loop.trips) (c0_i32_2173 : BitVec 32) : Fin 2 → Nat :=
  let c0_i32_12 : BitVec 32 := 0#32
  let c1_i32_13 : BitVec 32 := 1#32
  let arg23 : BitVec 32 := Scf.iv c0_i32_12 c1_i32_13 k0_t1
  let c2_i32_2172 : BitVec 32 := 2#32
  let v4707 : BitVec 32 := Scalar.muli arg23 c2_i32_2172
  let v4708 : BitVec 32 := Scalar.addi v4707 c0_i32_2173
  let v4709 : Index := Scalar.indexCast v4708
  let c20_2174 : Index := 20#32
  ![v4709.toNat, 20]
def k0_off91 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4716 : Index := Scalar.indexCast v4121
  let c128_2175 : Index := 128#32
  let c2560_2176 : Index := 2560#32
  ![v4716.toNat, 128, 2560]
def k0_off92 (k0_t1 : Fin k0_t1_loop.trips) : Fin 2 → Nat :=
  let c2560_2180 : Index := 2560#32
  let c0_i32_12 : BitVec 32 := 0#32
  let c1_i32_13 : BitVec 32 := 1#32
  let arg23 : BitVec 32 := Scf.iv c0_i32_12 c1_i32_13 k0_t1
  let c256_i32_1949 : BitVec 32 := 256#32
  let v4122 : BitVec 32 := Scalar.muli arg23 c256_i32_1949
  let v4123 : BitVec 32 := v4122
  let v4729 : Index := Scalar.indexCast v4123
  ![2560, v4729.toNat]
def k0_off93 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4733 : Index := Scalar.indexCast v4121
  let c0_2181 : Index := 0#32
  let c2688_2182 : Index := 2688#32
  ![v4733.toNat, 0, 2688]
def k0_off94 (k0_t1 : Fin k0_t1_loop.trips) (c0_i32_2184 : BitVec 32) : Fin 2 → Nat :=
  let c0_i32_12 : BitVec 32 := 0#32
  let c1_i32_13 : BitVec 32 := 1#32
  let arg23 : BitVec 32 := Scf.iv c0_i32_12 c1_i32_13 k0_t1
  let c2_i32_2183 : BitVec 32 := 2#32
  let v4736 : BitVec 32 := Scalar.muli arg23 c2_i32_2183
  let v4737 : BitVec 32 := Scalar.addi v4736 c0_i32_2184
  let v4738 : Index := Scalar.indexCast v4737
  let c21_2185 : Index := 21#32
  ![v4738.toNat, 21]
def k0_off95 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4745 : Index := Scalar.indexCast v4121
  let c128_2186 : Index := 128#32
  let c2688_2187 : Index := 2688#32
  ![v4745.toNat, 128, 2688]
def k0_off96 (k0_t1 : Fin k0_t1_loop.trips) : Fin 2 → Nat :=
  let c2688_2191 : Index := 2688#32
  let c0_i32_12 : BitVec 32 := 0#32
  let c1_i32_13 : BitVec 32 := 1#32
  let arg23 : BitVec 32 := Scf.iv c0_i32_12 c1_i32_13 k0_t1
  let c256_i32_1949 : BitVec 32 := 256#32
  let v4122 : BitVec 32 := Scalar.muli arg23 c256_i32_1949
  let v4123 : BitVec 32 := v4122
  let v4758 : Index := Scalar.indexCast v4123
  ![2688, v4758.toNat]
def k0_off97 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4762 : Index := Scalar.indexCast v4121
  let c0_2192 : Index := 0#32
  let c2816_2193 : Index := 2816#32
  ![v4762.toNat, 0, 2816]
def k0_off98 (k0_t1 : Fin k0_t1_loop.trips) (c0_i32_2195 : BitVec 32) : Fin 2 → Nat :=
  let c0_i32_12 : BitVec 32 := 0#32
  let c1_i32_13 : BitVec 32 := 1#32
  let arg23 : BitVec 32 := Scf.iv c0_i32_12 c1_i32_13 k0_t1
  let c2_i32_2194 : BitVec 32 := 2#32
  let v4765 : BitVec 32 := Scalar.muli arg23 c2_i32_2194
  let v4766 : BitVec 32 := Scalar.addi v4765 c0_i32_2195
  let v4767 : Index := Scalar.indexCast v4766
  let c22_2196 : Index := 22#32
  ![v4767.toNat, 22]
def k0_off99 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4774 : Index := Scalar.indexCast v4121
  let c128_2197 : Index := 128#32
  let c2816_2198 : Index := 2816#32
  ![v4774.toNat, 128, 2816]
def k0_off100 (k0_t1 : Fin k0_t1_loop.trips) : Fin 2 → Nat :=
  let c2816_2202 : Index := 2816#32
  let c0_i32_12 : BitVec 32 := 0#32
  let c1_i32_13 : BitVec 32 := 1#32
  let arg23 : BitVec 32 := Scf.iv c0_i32_12 c1_i32_13 k0_t1
  let c256_i32_1949 : BitVec 32 := 256#32
  let v4122 : BitVec 32 := Scalar.muli arg23 c256_i32_1949
  let v4123 : BitVec 32 := v4122
  let v4787 : Index := Scalar.indexCast v4123
  ![2816, v4787.toNat]
def k0_off101 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4791 : Index := Scalar.indexCast v4121
  let c0_2203 : Index := 0#32
  let c2944_2204 : Index := 2944#32
  ![v4791.toNat, 0, 2944]
def k0_off102 (k0_t1 : Fin k0_t1_loop.trips) (c0_i32_2206 : BitVec 32) : Fin 2 → Nat :=
  let c0_i32_12 : BitVec 32 := 0#32
  let c1_i32_13 : BitVec 32 := 1#32
  let arg23 : BitVec 32 := Scf.iv c0_i32_12 c1_i32_13 k0_t1
  let c2_i32_2205 : BitVec 32 := 2#32
  let v4794 : BitVec 32 := Scalar.muli arg23 c2_i32_2205
  let v4795 : BitVec 32 := Scalar.addi v4794 c0_i32_2206
  let v4796 : Index := Scalar.indexCast v4795
  let c23_2207 : Index := 23#32
  ![v4796.toNat, 23]
def k0_off103 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4803 : Index := Scalar.indexCast v4121
  let c128_2208 : Index := 128#32
  let c2944_2209 : Index := 2944#32
  ![v4803.toNat, 128, 2944]
def k0_off104 (k0_t1 : Fin k0_t1_loop.trips) : Fin 2 → Nat :=
  let c2944_2213 : Index := 2944#32
  let c0_i32_12 : BitVec 32 := 0#32
  let c1_i32_13 : BitVec 32 := 1#32
  let arg23 : BitVec 32 := Scf.iv c0_i32_12 c1_i32_13 k0_t1
  let c256_i32_1949 : BitVec 32 := 256#32
  let v4122 : BitVec 32 := Scalar.muli arg23 c256_i32_1949
  let v4123 : BitVec 32 := v4122
  let v4816 : Index := Scalar.indexCast v4123
  ![2944, v4816.toNat]
def k0_off105 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4820 : Index := Scalar.indexCast v4121
  let c0_2214 : Index := 0#32
  let c3072_2215 : Index := 3072#32
  ![v4820.toNat, 0, 3072]
def k0_off106 (k0_t1 : Fin k0_t1_loop.trips) (c0_i32_2217 : BitVec 32) : Fin 2 → Nat :=
  let c0_i32_12 : BitVec 32 := 0#32
  let c1_i32_13 : BitVec 32 := 1#32
  let arg23 : BitVec 32 := Scf.iv c0_i32_12 c1_i32_13 k0_t1
  let c2_i32_2216 : BitVec 32 := 2#32
  let v4823 : BitVec 32 := Scalar.muli arg23 c2_i32_2216
  let v4824 : BitVec 32 := Scalar.addi v4823 c0_i32_2217
  let v4825 : Index := Scalar.indexCast v4824
  let c24_2218 : Index := 24#32
  ![v4825.toNat, 24]
def k0_off107 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4832 : Index := Scalar.indexCast v4121
  let c128_2219 : Index := 128#32
  let c3072_2220 : Index := 3072#32
  ![v4832.toNat, 128, 3072]
def k0_off108 (k0_t1 : Fin k0_t1_loop.trips) : Fin 2 → Nat :=
  let c3072_2224 : Index := 3072#32
  let c0_i32_12 : BitVec 32 := 0#32
  let c1_i32_13 : BitVec 32 := 1#32
  let arg23 : BitVec 32 := Scf.iv c0_i32_12 c1_i32_13 k0_t1
  let c256_i32_1949 : BitVec 32 := 256#32
  let v4122 : BitVec 32 := Scalar.muli arg23 c256_i32_1949
  let v4123 : BitVec 32 := v4122
  let v4845 : Index := Scalar.indexCast v4123
  ![3072, v4845.toNat]
def k0_off109 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4849 : Index := Scalar.indexCast v4121
  let c0_2225 : Index := 0#32
  let c3200_2226 : Index := 3200#32
  ![v4849.toNat, 0, 3200]
def k0_off110 (k0_t1 : Fin k0_t1_loop.trips) (c0_i32_2228 : BitVec 32) : Fin 2 → Nat :=
  let c0_i32_12 : BitVec 32 := 0#32
  let c1_i32_13 : BitVec 32 := 1#32
  let arg23 : BitVec 32 := Scf.iv c0_i32_12 c1_i32_13 k0_t1
  let c2_i32_2227 : BitVec 32 := 2#32
  let v4852 : BitVec 32 := Scalar.muli arg23 c2_i32_2227
  let v4853 : BitVec 32 := Scalar.addi v4852 c0_i32_2228
  let v4854 : Index := Scalar.indexCast v4853
  let c25_2229 : Index := 25#32
  ![v4854.toNat, 25]
def k0_off111 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4861 : Index := Scalar.indexCast v4121
  let c128_2230 : Index := 128#32
  let c3200_2231 : Index := 3200#32
  ![v4861.toNat, 128, 3200]
def k0_off112 (k0_t1 : Fin k0_t1_loop.trips) : Fin 2 → Nat :=
  let c3200_2235 : Index := 3200#32
  let c0_i32_12 : BitVec 32 := 0#32
  let c1_i32_13 : BitVec 32 := 1#32
  let arg23 : BitVec 32 := Scf.iv c0_i32_12 c1_i32_13 k0_t1
  let c256_i32_1949 : BitVec 32 := 256#32
  let v4122 : BitVec 32 := Scalar.muli arg23 c256_i32_1949
  let v4123 : BitVec 32 := v4122
  let v4874 : Index := Scalar.indexCast v4123
  ![3200, v4874.toNat]
def k0_off113 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4878 : Index := Scalar.indexCast v4121
  let c0_2236 : Index := 0#32
  let c3328_2237 : Index := 3328#32
  ![v4878.toNat, 0, 3328]
def k0_off114 (k0_t1 : Fin k0_t1_loop.trips) (c0_i32_2239 : BitVec 32) : Fin 2 → Nat :=
  let c0_i32_12 : BitVec 32 := 0#32
  let c1_i32_13 : BitVec 32 := 1#32
  let arg23 : BitVec 32 := Scf.iv c0_i32_12 c1_i32_13 k0_t1
  let c2_i32_2238 : BitVec 32 := 2#32
  let v4881 : BitVec 32 := Scalar.muli arg23 c2_i32_2238
  let v4882 : BitVec 32 := Scalar.addi v4881 c0_i32_2239
  let v4883 : Index := Scalar.indexCast v4882
  let c26_2240 : Index := 26#32
  ![v4883.toNat, 26]
def k0_off115 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4890 : Index := Scalar.indexCast v4121
  let c128_2241 : Index := 128#32
  let c3328_2242 : Index := 3328#32
  ![v4890.toNat, 128, 3328]
def k0_off116 (k0_t1 : Fin k0_t1_loop.trips) : Fin 2 → Nat :=
  let c3328_2246 : Index := 3328#32
  let c0_i32_12 : BitVec 32 := 0#32
  let c1_i32_13 : BitVec 32 := 1#32
  let arg23 : BitVec 32 := Scf.iv c0_i32_12 c1_i32_13 k0_t1
  let c256_i32_1949 : BitVec 32 := 256#32
  let v4122 : BitVec 32 := Scalar.muli arg23 c256_i32_1949
  let v4123 : BitVec 32 := v4122
  let v4903 : Index := Scalar.indexCast v4123
  ![3328, v4903.toNat]
def k0_off117 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4907 : Index := Scalar.indexCast v4121
  let c0_2247 : Index := 0#32
  let c3456_2248 : Index := 3456#32
  ![v4907.toNat, 0, 3456]
def k0_off118 (k0_t1 : Fin k0_t1_loop.trips) (c0_i32_2250 : BitVec 32) : Fin 2 → Nat :=
  let c0_i32_12 : BitVec 32 := 0#32
  let c1_i32_13 : BitVec 32 := 1#32
  let arg23 : BitVec 32 := Scf.iv c0_i32_12 c1_i32_13 k0_t1
  let c2_i32_2249 : BitVec 32 := 2#32
  let v4910 : BitVec 32 := Scalar.muli arg23 c2_i32_2249
  let v4911 : BitVec 32 := Scalar.addi v4910 c0_i32_2250
  let v4912 : Index := Scalar.indexCast v4911
  let c27_2251 : Index := 27#32
  ![v4912.toNat, 27]
def k0_off119 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4919 : Index := Scalar.indexCast v4121
  let c128_2252 : Index := 128#32
  let c3456_2253 : Index := 3456#32
  ![v4919.toNat, 128, 3456]
def k0_off120 (k0_t1 : Fin k0_t1_loop.trips) : Fin 2 → Nat :=
  let c3456_2257 : Index := 3456#32
  let c0_i32_12 : BitVec 32 := 0#32
  let c1_i32_13 : BitVec 32 := 1#32
  let arg23 : BitVec 32 := Scf.iv c0_i32_12 c1_i32_13 k0_t1
  let c256_i32_1949 : BitVec 32 := 256#32
  let v4122 : BitVec 32 := Scalar.muli arg23 c256_i32_1949
  let v4123 : BitVec 32 := v4122
  let v4932 : Index := Scalar.indexCast v4123
  ![3456, v4932.toNat]
def k0_off121 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4936 : Index := Scalar.indexCast v4121
  let c0_2258 : Index := 0#32
  let c3584_2259 : Index := 3584#32
  ![v4936.toNat, 0, 3584]
def k0_off122 (k0_t1 : Fin k0_t1_loop.trips) (c0_i32_2261 : BitVec 32) : Fin 2 → Nat :=
  let c0_i32_12 : BitVec 32 := 0#32
  let c1_i32_13 : BitVec 32 := 1#32
  let arg23 : BitVec 32 := Scf.iv c0_i32_12 c1_i32_13 k0_t1
  let c2_i32_2260 : BitVec 32 := 2#32
  let v4939 : BitVec 32 := Scalar.muli arg23 c2_i32_2260
  let v4940 : BitVec 32 := Scalar.addi v4939 c0_i32_2261
  let v4941 : Index := Scalar.indexCast v4940
  let c28_2262 : Index := 28#32
  ![v4941.toNat, 28]
def k0_off123 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4948 : Index := Scalar.indexCast v4121
  let c128_2263 : Index := 128#32
  let c3584_2264 : Index := 3584#32
  ![v4948.toNat, 128, 3584]
def k0_off124 (k0_t1 : Fin k0_t1_loop.trips) : Fin 2 → Nat :=
  let c3584_2268 : Index := 3584#32
  let c0_i32_12 : BitVec 32 := 0#32
  let c1_i32_13 : BitVec 32 := 1#32
  let arg23 : BitVec 32 := Scf.iv c0_i32_12 c1_i32_13 k0_t1
  let c256_i32_1949 : BitVec 32 := 256#32
  let v4122 : BitVec 32 := Scalar.muli arg23 c256_i32_1949
  let v4123 : BitVec 32 := v4122
  let v4961 : Index := Scalar.indexCast v4123
  ![3584, v4961.toNat]
def k0_off125 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4965 : Index := Scalar.indexCast v4121
  let c0_2269 : Index := 0#32
  let c3712_2270 : Index := 3712#32
  ![v4965.toNat, 0, 3712]
def k0_off126 (k0_t1 : Fin k0_t1_loop.trips) (c0_i32_2272 : BitVec 32) : Fin 2 → Nat :=
  let c0_i32_12 : BitVec 32 := 0#32
  let c1_i32_13 : BitVec 32 := 1#32
  let arg23 : BitVec 32 := Scf.iv c0_i32_12 c1_i32_13 k0_t1
  let c2_i32_2271 : BitVec 32 := 2#32
  let v4968 : BitVec 32 := Scalar.muli arg23 c2_i32_2271
  let v4969 : BitVec 32 := Scalar.addi v4968 c0_i32_2272
  let v4970 : Index := Scalar.indexCast v4969
  let c29_2273 : Index := 29#32
  ![v4970.toNat, 29]
def k0_off127 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4977 : Index := Scalar.indexCast v4121
  let c128_2274 : Index := 128#32
  let c3712_2275 : Index := 3712#32
  ![v4977.toNat, 128, 3712]
def k0_off128 (k0_t1 : Fin k0_t1_loop.trips) : Fin 2 → Nat :=
  let c3712_2279 : Index := 3712#32
  let c0_i32_12 : BitVec 32 := 0#32
  let c1_i32_13 : BitVec 32 := 1#32
  let arg23 : BitVec 32 := Scf.iv c0_i32_12 c1_i32_13 k0_t1
  let c256_i32_1949 : BitVec 32 := 256#32
  let v4122 : BitVec 32 := Scalar.muli arg23 c256_i32_1949
  let v4123 : BitVec 32 := v4122
  let v4990 : Index := Scalar.indexCast v4123
  ![3712, v4990.toNat]
def k0_off129 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v4994 : Index := Scalar.indexCast v4121
  let c0_2280 : Index := 0#32
  let c3840_2281 : Index := 3840#32
  ![v4994.toNat, 0, 3840]
def k0_off130 (k0_t1 : Fin k0_t1_loop.trips) (c0_i32_2283 : BitVec 32) : Fin 2 → Nat :=
  let c0_i32_12 : BitVec 32 := 0#32
  let c1_i32_13 : BitVec 32 := 1#32
  let arg23 : BitVec 32 := Scf.iv c0_i32_12 c1_i32_13 k0_t1
  let c2_i32_2282 : BitVec 32 := 2#32
  let v4997 : BitVec 32 := Scalar.muli arg23 c2_i32_2282
  let v4998 : BitVec 32 := Scalar.addi v4997 c0_i32_2283
  let v4999 : Index := Scalar.indexCast v4998
  let c30_2284 : Index := 30#32
  ![v4999.toNat, 30]
def k0_off131 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v5006 : Index := Scalar.indexCast v4121
  let c128_2285 : Index := 128#32
  let c3840_2286 : Index := 3840#32
  ![v5006.toNat, 128, 3840]
def k0_off132 (k0_t1 : Fin k0_t1_loop.trips) : Fin 2 → Nat :=
  let c3840_2290 : Index := 3840#32
  let c0_i32_12 : BitVec 32 := 0#32
  let c1_i32_13 : BitVec 32 := 1#32
  let arg23 : BitVec 32 := Scf.iv c0_i32_12 c1_i32_13 k0_t1
  let c256_i32_1949 : BitVec 32 := 256#32
  let v4122 : BitVec 32 := Scalar.muli arg23 c256_i32_1949
  let v4123 : BitVec 32 := v4122
  let v5019 : Index := Scalar.indexCast v4123
  ![3840, v5019.toNat]
def k0_off133 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v5023 : Index := Scalar.indexCast v4121
  let c0_2291 : Index := 0#32
  let c3968_2292 : Index := 3968#32
  ![v5023.toNat, 0, 3968]
def k0_off134 (k0_t1 : Fin k0_t1_loop.trips) (c0_i32_2294 : BitVec 32) : Fin 2 → Nat :=
  let c0_i32_12 : BitVec 32 := 0#32
  let c1_i32_13 : BitVec 32 := 1#32
  let arg23 : BitVec 32 := Scf.iv c0_i32_12 c1_i32_13 k0_t1
  let c2_i32_2293 : BitVec 32 := 2#32
  let v5026 : BitVec 32 := Scalar.muli arg23 c2_i32_2293
  let v5027 : BitVec 32 := Scalar.addi v5026 c0_i32_2294
  let v5028 : Index := Scalar.indexCast v5027
  let c31_2295 : Index := 31#32
  ![v5028.toNat, 31]
def k0_off135 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v5035 : Index := Scalar.indexCast v4121
  let c128_2296 : Index := 128#32
  let c3968_2297 : Index := 3968#32
  ![v5035.toNat, 128, 3968]
def k0_off136 (k0_t1 : Fin k0_t1_loop.trips) : Fin 2 → Nat :=
  let c3968_2301 : Index := 3968#32
  let c0_i32_12 : BitVec 32 := 0#32
  let c1_i32_13 : BitVec 32 := 1#32
  let arg23 : BitVec 32 := Scf.iv c0_i32_12 c1_i32_13 k0_t1
  let c256_i32_1949 : BitVec 32 := 256#32
  let v4122 : BitVec 32 := Scalar.muli arg23 c256_i32_1949
  let v4123 : BitVec 32 := v4122
  let v5048 : Index := Scalar.indexCast v4123
  ![3968, v5048.toNat]
def k0_off137 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v5052 : Index := Scalar.indexCast v4121
  let c0_2302 : Index := 0#32
  let c4096_2303 : Index := 4096#32
  ![v5052.toNat, 0, 4096]
def k0_off138 (k0_t1 : Fin k0_t1_loop.trips) (c0_i32_2305 : BitVec 32) : Fin 2 → Nat :=
  let c0_i32_12 : BitVec 32 := 0#32
  let c1_i32_13 : BitVec 32 := 1#32
  let arg23 : BitVec 32 := Scf.iv c0_i32_12 c1_i32_13 k0_t1
  let c2_i32_2304 : BitVec 32 := 2#32
  let v5055 : BitVec 32 := Scalar.muli arg23 c2_i32_2304
  let v5056 : BitVec 32 := Scalar.addi v5055 c0_i32_2305
  let v5057 : Index := Scalar.indexCast v5056
  let c32_2306 : Index := 32#32
  ![v5057.toNat, 32]
def k0_off139 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v5064 : Index := Scalar.indexCast v4121
  let c128_2307 : Index := 128#32
  let c4096_2308 : Index := 4096#32
  ![v5064.toNat, 128, 4096]
def k0_off140 (k0_t1 : Fin k0_t1_loop.trips) : Fin 2 → Nat :=
  let c4096_2312 : Index := 4096#32
  let c0_i32_12 : BitVec 32 := 0#32
  let c1_i32_13 : BitVec 32 := 1#32
  let arg23 : BitVec 32 := Scf.iv c0_i32_12 c1_i32_13 k0_t1
  let c256_i32_1949 : BitVec 32 := 256#32
  let v4122 : BitVec 32 := Scalar.muli arg23 c256_i32_1949
  let v4123 : BitVec 32 := v4122
  let v5077 : Index := Scalar.indexCast v4123
  ![4096, v5077.toNat]
def k0_off141 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v5081 : Index := Scalar.indexCast v4121
  let c0_2313 : Index := 0#32
  let c4224_2314 : Index := 4224#32
  ![v5081.toNat, 0, 4224]
def k0_off142 (k0_t1 : Fin k0_t1_loop.trips) (c0_i32_2316 : BitVec 32) : Fin 2 → Nat :=
  let c0_i32_12 : BitVec 32 := 0#32
  let c1_i32_13 : BitVec 32 := 1#32
  let arg23 : BitVec 32 := Scf.iv c0_i32_12 c1_i32_13 k0_t1
  let c2_i32_2315 : BitVec 32 := 2#32
  let v5084 : BitVec 32 := Scalar.muli arg23 c2_i32_2315
  let v5085 : BitVec 32 := Scalar.addi v5084 c0_i32_2316
  let v5086 : Index := Scalar.indexCast v5085
  let c33_2317 : Index := 33#32
  ![v5086.toNat, 33]
def k0_off143 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v5093 : Index := Scalar.indexCast v4121
  let c128_2318 : Index := 128#32
  let c4224_2319 : Index := 4224#32
  ![v5093.toNat, 128, 4224]
def k0_off144 (k0_t1 : Fin k0_t1_loop.trips) : Fin 2 → Nat :=
  let c4224_2323 : Index := 4224#32
  let c0_i32_12 : BitVec 32 := 0#32
  let c1_i32_13 : BitVec 32 := 1#32
  let arg23 : BitVec 32 := Scf.iv c0_i32_12 c1_i32_13 k0_t1
  let c256_i32_1949 : BitVec 32 := 256#32
  let v4122 : BitVec 32 := Scalar.muli arg23 c256_i32_1949
  let v4123 : BitVec 32 := v4122
  let v5106 : Index := Scalar.indexCast v4123
  ![4224, v5106.toNat]
def k0_off145 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v5110 : Index := Scalar.indexCast v4121
  let c0_2324 : Index := 0#32
  let c4352_2325 : Index := 4352#32
  ![v5110.toNat, 0, 4352]
def k0_off146 (k0_t1 : Fin k0_t1_loop.trips) (c0_i32_2327 : BitVec 32) : Fin 2 → Nat :=
  let c0_i32_12 : BitVec 32 := 0#32
  let c1_i32_13 : BitVec 32 := 1#32
  let arg23 : BitVec 32 := Scf.iv c0_i32_12 c1_i32_13 k0_t1
  let c2_i32_2326 : BitVec 32 := 2#32
  let v5113 : BitVec 32 := Scalar.muli arg23 c2_i32_2326
  let v5114 : BitVec 32 := Scalar.addi v5113 c0_i32_2327
  let v5115 : Index := Scalar.indexCast v5114
  let c34_2328 : Index := 34#32
  ![v5115.toNat, 34]
def k0_off147 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v5122 : Index := Scalar.indexCast v4121
  let c128_2329 : Index := 128#32
  let c4352_2330 : Index := 4352#32
  ![v5122.toNat, 128, 4352]
def k0_off148 (k0_t1 : Fin k0_t1_loop.trips) : Fin 2 → Nat :=
  let c4352_2334 : Index := 4352#32
  let c0_i32_12 : BitVec 32 := 0#32
  let c1_i32_13 : BitVec 32 := 1#32
  let arg23 : BitVec 32 := Scf.iv c0_i32_12 c1_i32_13 k0_t1
  let c256_i32_1949 : BitVec 32 := 256#32
  let v4122 : BitVec 32 := Scalar.muli arg23 c256_i32_1949
  let v4123 : BitVec 32 := v4122
  let v5135 : Index := Scalar.indexCast v4123
  ![4352, v5135.toNat]
def k0_off149 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v5139 : Index := Scalar.indexCast v4121
  let c0_2335 : Index := 0#32
  let c4480_2336 : Index := 4480#32
  ![v5139.toNat, 0, 4480]
def k0_off150 (k0_t1 : Fin k0_t1_loop.trips) (c0_i32_2338 : BitVec 32) : Fin 2 → Nat :=
  let c0_i32_12 : BitVec 32 := 0#32
  let c1_i32_13 : BitVec 32 := 1#32
  let arg23 : BitVec 32 := Scf.iv c0_i32_12 c1_i32_13 k0_t1
  let c2_i32_2337 : BitVec 32 := 2#32
  let v5142 : BitVec 32 := Scalar.muli arg23 c2_i32_2337
  let v5143 : BitVec 32 := Scalar.addi v5142 c0_i32_2338
  let v5144 : Index := Scalar.indexCast v5143
  let c35_2339 : Index := 35#32
  ![v5144.toNat, 35]
def k0_off151 (k0_t1 : Fin k0_t1_loop.trips) : Fin 3 → Nat :=
  let c0_i32_12 : BitVec 32 := 0#32
  let c1_i32_13 : BitVec 32 := 1#32
  let arg23 : BitVec 32 := Scf.iv c0_i32_12 c1_i32_13 k0_t1
  let c2_i32_1948 : BitVec 32 := 2#32
  let v4121 : BitVec 32 := Scalar.remsi arg23 c2_i32_1948
  let v5151 : Index := Scalar.indexCast v4121
  let c128_2340 : Index := 128#32
  let c4480_2341 : Index := 4480#32
  ![v5151.toNat, 128, 4480]
def k0_off152 (k0_t1 : Fin k0_t1_loop.trips) : Fin 2 → Nat :=
  let c4480_2345 : Index := 4480#32
  let c0_i32_12 : BitVec 32 := 0#32
  let c1_i32_13 : BitVec 32 := 1#32
  let arg23 : BitVec 32 := Scf.iv c0_i32_12 c1_i32_13 k0_t1
  let c256_i32_1949 : BitVec 32 := 256#32
  let v4122 : BitVec 32 := Scalar.muli arg23 c256_i32_1949
  let v4123 : BitVec 32 := v4122
  let v5164 : Index := Scalar.indexCast v4123
  ![4480, v5164.toNat]
def k0_cond3 (i : grid0.Coords) : BitVec 1 :=
  let arg0 : BitVec 32 := BitVec.ofNat 32 (i 0).val
  let c0_i32_1 : BitVec 32 := 0#32
  let v4 : BitVec 1 := Scalar.cmpi .sgt arg0 c0_i32_1
  let c2_i32 : BitVec 32 := 2#32
  let v3 : BitVec 32 := Scalar.remsi arg0 c2_i32
  let c1_i32 : BitVec 32 := 1#32
  let v5 : BitVec 1 := Scalar.cmpi .eq v3 c1_i32
  let v6 : BitVec 1 := Scalar.andi v4 v5
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c0_i32_3 : BitVec 32 := 0#32
  let v9 : BitVec 1 := Scalar.cmpi .sgt arg0 c0_i32_3
  let c2_i32 : BitVec 32 := 2#32
  let v3 : BitVec 32 := Scalar.remsi arg0 c2_i32
  let c0_i32_4 : BitVec 32 := 0#32
  let v10 : BitVec 1 := Scalar.cmpi .eq v3 c0_i32_4
  let v11 : BitVec 1 := Scalar.andi v9 v10
  let v12 : BitVec 32 := Scalar.extui v11
  let c0_i32_5 : BitVec 32 := 0#32
  let v13 : BitVec 1 := Scalar.cmpi .ne v12 c0_i32_5
  v13

def cc0_transform_0 (i : grid0.Coords) : Fin 4 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc0_transform_1 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_9 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![c0_i32.toNat, v0.toNat, c0_i32_0.toNat]

def cc0_transform_10 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![c0_i32.toNat, c0_i32_0.toNat, v0.toNat]

def cc0_transform_11 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_12 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, c0_i32_1.toNat, v1.toNat]

abbrev stage0_0 : Fin 2 → Memref sig .tc .vmem S2x28x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x128x3584 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S28x36 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x128x3584 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x128x4608 .fp8e5m2 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S36x2x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x128x3584 .fp8e5m2 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S28x2x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F]
-- ==== ReferenceIdeal.lean ====
abbrev S2x8192x28x128 : Shape := ⟨4, ![2, 8192, 28, 128]⟩
abbrev S2x8192x4x128 : Shape := ⟨4, ![2, 8192, 4, 128]⟩
abbrev S2x8192x3584 : Shape := ⟨3, ![2, 8192, 3584]⟩
abbrev S2x8192 : Shape := ⟨2, ![2, 8192]⟩
abbrev S3584x4608 : Shape := ⟨2, ![3584, 4608]⟩
abbrev S28x36 : Shape := ⟨2, ![28, 36]⟩
abbrev S64 : Shape := ⟨1, ![64]⟩
abbrev S_ : Shape := ⟨0, ![]⟩
abbrev S2x8192x1 : Shape := ⟨3, ![2, 8192, 1]⟩
abbrev S1x1x64 : Shape := ⟨3, ![1, 1, 64]⟩
abbrev S2x8192x64 : Shape := ⟨3, ![2, 8192, 64]⟩
abbrev S2x8192x1x64 : Shape := ⟨4, ![2, 8192, 1, 64]⟩
abbrev S2x8192x28x64 : Shape := ⟨4, ![2, 8192, 28, 64]⟩
abbrev S2x8192x4x64 : Shape := ⟨4, ![2, 8192, 4, 64]⟩
abbrev S2x8192x36x128 : Shape := ⟨4, ![2, 8192, 36, 128]⟩
abbrev S2x8192x4608 : Shape := ⟨3, ![2, 8192, 4608]⟩
abbrev S36x2x8192 : Shape := ⟨3, ![36, 2, 8192]⟩
abbrev S28x2x8192 : Shape := ⟨3, ![28, 2, 8192]⟩
abbrev S2x8192x36 : Shape := ⟨3, ![2, 8192, 36]⟩
abbrev S1x1x1x252 : Shape := ⟨4, ![1, 1, 1, 252]⟩
abbrev S2x8192x36x1 : Shape := ⟨4, ![2, 8192, 36, 1]⟩
abbrev S2x8192x36x252 : Shape := ⟨4, ![2, 8192, 36, 252]⟩
abbrev S16384x4608 : Shape := ⟨2, ![16384, 4608]⟩
abbrev S28x128x36x128 : Shape := ⟨4, ![28, 128, 36, 128]⟩
abbrev S28x1x36x1 : Shape := ⟨4, ![28, 1, 36, 1]⟩
abbrev S16384x3584 : Shape := ⟨2, ![16384, 3584]⟩
abbrev S2x8192x28 : Shape := ⟨3, ![2, 8192, 28]⟩
abbrev S2x8192x28x1 : Shape := ⟨4, ![2, 8192, 28, 1]⟩
abbrev S2x8192x28x252 : Shape := ⟨4, ![2, 8192, 28, 252]⟩

abbrev nBuf : Space → Nat
  | .hbm => 68
  | .vmem => 9
  | .smem => 0
  | _ => 0

abbrev bufTy : (tb : Table) → Fin (tcTables nBuf tb) → BufTy
  | .hbm, ⟨0, _⟩ => ⟨S2x8192x28x128, .bf16⟩
  | .hbm, ⟨1, _⟩ => ⟨S2x8192x4x128, .bf16⟩
  | .hbm, ⟨2, _⟩ => ⟨S2x8192x4x128, .bf16⟩
  | .hbm, ⟨3, _⟩ => ⟨S2x8192x3584, .bf16⟩
  | .hbm, ⟨4, _⟩ => ⟨S2x8192, .i32⟩
  | .hbm, ⟨5, _⟩ => ⟨S3584x4608, .fp8e4m3⟩
  | .hbm, ⟨6, _⟩ => ⟨S28x36, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S2x8192, .f32⟩
  | .hbm, ⟨24, _⟩ => ⟨S2x8192x1, .f32⟩
  | .hbm, ⟨25, _⟩ => ⟨S1x1x64, .f32⟩
  | .hbm, ⟨26, _⟩ => ⟨S2x8192x64, .f32⟩
  | .hbm, ⟨27, _⟩ => ⟨S2x8192x64, .f32⟩
  | .hbm, ⟨28, _⟩ => ⟨S2x8192x64, .f32⟩
  | .hbm, ⟨29, _⟩ => ⟨S2x8192x64, .f32⟩
  | .hbm, ⟨30, _⟩ => ⟨S2x8192x1x64, .f32⟩
  | .hbm, ⟨31, _⟩ => ⟨S2x8192x64, .f32⟩
  | .hbm, ⟨32, _⟩ => ⟨S2x8192x1x64, .f32⟩
  | .hbm, ⟨33, _⟩ => ⟨S2x8192x28x128, .f32⟩
  | .hbm, ⟨34, _⟩ => ⟨S2x8192x28x64, .f32⟩
  | .hbm, ⟨35, _⟩ => ⟨S2x8192x28x64, .f32⟩
  | .hbm, ⟨36, _⟩ => ⟨S2x8192x28x64, .f32⟩
  | .hbm, ⟨37, _⟩ => ⟨S2x8192x28x64, .f32⟩
  | .hbm, ⟨38, _⟩ => ⟨S2x8192x28x64, .f32⟩
  | .hbm, ⟨39, _⟩ => ⟨S2x8192x28x64, .f32⟩
  | .hbm, ⟨40, _⟩ => ⟨S2x8192x28x64, .f32⟩
  | .hbm, ⟨41, _⟩ => ⟨S2x8192x28x64, .f32⟩
  | .hbm, ⟨42, _⟩ => ⟨S2x8192x28x64, .f32⟩
  | .hbm, ⟨43, _⟩ => ⟨S2x8192x28x64, .f32⟩
  | .hbm, ⟨44, _⟩ => ⟨S2x8192x28x64, .f32⟩
  | .hbm, ⟨45, _⟩ => ⟨S2x8192x28x64, .f32⟩
  | .hbm, ⟨46, _⟩ => ⟨S2x8192x28x128, .f32⟩
  | .hbm, ⟨47, _⟩ => ⟨S2x8192x4x128, .f32⟩
  | .hbm, ⟨48, _⟩ => ⟨S2x8192x4x64, .f32⟩
  | .hbm, ⟨49, _⟩ => ⟨S2x8192x4x64, .f32⟩
  | .hbm, ⟨50, _⟩ => ⟨S2x8192x4x64, .f32⟩
  | .hbm, ⟨51, _⟩ => ⟨S2x8192x4x64, .f32⟩
  | .hbm, ⟨52, _⟩ => ⟨S2x8192x4x64, .f32⟩
  | .hbm, ⟨53, _⟩ => ⟨S2x8192x4x64, .f32⟩
  | .hbm, ⟨54, _⟩ => ⟨S2x8192x4x64, .f32⟩
  | .hbm, ⟨55, _⟩ => ⟨S2x8192x4x64, .f32⟩
  | .hbm, ⟨56, _⟩ => ⟨S2x8192x4x64, .f32⟩
  | .hbm, ⟨57, _⟩ => ⟨S2x8192x4x64, .f32⟩
  | .hbm, ⟨58, _⟩ => ⟨S2x8192x4x64, .f32⟩
  | .hbm, ⟨59, _⟩ => ⟨S2x8192x4x64, .f32⟩
  | .hbm, ⟨60, _⟩ => ⟨S2x8192x4x128, .f32⟩
  | .hbm, ⟨61, _⟩ => ⟨S2x8192x4x128, .f32⟩
  | .hbm, ⟨62, _⟩ => ⟨S2x8192x36x128, .f32⟩
  | .hbm, ⟨63, _⟩ => ⟨S2x8192x3584, .bf16⟩
  | .hbm, ⟨64, _⟩ => ⟨S2x8192x4608, .fp8e5m2⟩
  | .hbm, ⟨65, _⟩ => ⟨S36x2x8192, .f32⟩
  | .hbm, ⟨66, _⟩ => ⟨S2x8192x3584, .fp8e5m2⟩
  | .hbm, ⟨67, _⟩ => ⟨S28x2x8192, .f32⟩
  | .local _ .vmem, ⟨0, _⟩ => ⟨S2x8192x36x128, .f32⟩
  | .local _ .vmem, ⟨1, _⟩ => ⟨S2x8192x3584, .bf16⟩
  | .local _ .vmem, ⟨2, _⟩ => ⟨S3584x4608, .fp8e4m3⟩
  | .local _ .vmem, ⟨3, _⟩ => ⟨S28x36, .f32⟩
  | .local _ .vmem, ⟨4, _⟩ => ⟨S2x8192x3584, .bf16⟩
  | .local _ .vmem, ⟨5, _⟩ => ⟨S2x8192x4608, .fp8e5m2⟩
  | .local _ .vmem, ⟨6, _⟩ => ⟨S36x2x8192, .f32⟩
  | .local _ .vmem, ⟨7, _⟩ => ⟨S2x8192x3584, .fp8e5m2⟩
  | .local _ .vmem, ⟨8, _⟩ => ⟨S28x2x8192, .f32⟩
  | _, _ => ⟨S2x8192x28x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51_0 : Ref sig .tc := ⟨.hbm, 63, rfl⟩
abbrev main_v51_1 : Ref sig .tc := ⟨.hbm, 64, rfl⟩
abbrev main_v51_2 : Ref sig .tc := ⟨.hbm, 65, rfl⟩
abbrev main_v51_3 : Ref sig .tc := ⟨.hbm, 66, rfl⟩
abbrev main_v51_4 : Ref sig .tc := ⟨.hbm, 67, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2x8192x36x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8192x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x4608 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S28x36 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8192x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x8192x4608 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S36x2x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x8192x3584 .fp8e5m2 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S28x2x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.P.Base.lean ====
/- The kernel's whole buffers held at given contents, and the modules a run of the body needs. -/
module

public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The proof's resource algebra: the pipeline library's beside the transfers' counters. -/
local notation "𝕄" => MT nD τ sig Unit (Elt F) ℕ (Pipeline.UD sig nD τ) ℕ

/-- The contents of a memref's buffer. -/
abbrev Bf (c : Dev nD) {sp : Space} {S : Shape} {e : EltTy} (M : Memref sig .tc sp S e) : Type := Buf (Elt F) (M.view.loc (c : Thread nD τ))
/-- A memref's buffer held whole at given contents. -/
abbrev pt (c : Dev nD) {sp : Space} {S : Shape} {e : EltTy} (M : Memref sig .tc sp S e) (f : Bf (F := F) c M) : sProp 𝕄 :=
  M.view.loc (c : Thread nD τ) ↦[M.view.set]{fullShare} f

end Cert.Kernel.Hand

end
-- ==== Proof.P.Chunks.lean ====
/- The weight chunks' double buffer: names for a chunk of the weights, a slot of the staging buffer and the slot's
   semaphore, the printed slices under those names, and what is held of each. -/
module

public import proofs.«01_k».proof.Proof.P.Base

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

/-- The weights in HBM, and the staging buffer of two chunks. -/
abbrev wM : Memref sig .tc .hbm S3584x4608 .fp8e4m3 := Memref.whole main_arg5
abbrev stM : Memref sig .tc .vmem S2x256x4608 .fp8e4m3 := Memref.whole cc0_scratch1

abbrev grpOff (b : Fin 14) : Fin 2 → Nat := ![256 * b.val, 0]
theorem grpOff_inb (b : Fin 14) : ∀ a, grpOff b a + S256x4608.size a ≤ S3584x4608.size a := by
  have := b.isLt; intro a; fin_cases a
  · show 256 * b.val + 256 ≤ 3584; omega
  · show 0 + 4608 ≤ 4608; omega
abbrev slotOff (n : ℕ) : Fin 3 → Nat := ![n % 2, 0, 0]
theorem slotOff_inb (n : ℕ) : ∀ a, slotOff n a + S1x256x4608.size a ≤ S2x256x4608.size a := by
  intro a; fin_cases a
  · show n % 2 + 1 ≤ 2; omega
  · show 0 + 256 ≤ 256; omega
  · show 0 + 4608 ≤ 4608; omega
abbrev semOff (n : ℕ) : Fin 1 → Nat := ![n % 2]
theorem semOff_inb (n : ℕ) : ∀ a, semOff n a + S1.size a ≤ S2.size a := by
  intro a; fin_cases a; show n % 2 + 1 ≤ 2; omega

/-- Chunk `b` of the weights. -/
def grp (b : Fin 14) : Memref sig .tc .hbm S256x4608 .fp8e4m3 :=
  wM.slice (Rect.unit (s := S3584x4608) (grpOff b) S256x4608.size (grpOff_inb b)) (fun _ => rfl)
/-- The staging buffer's slot for chunk `n`. -/
def rslot (n : ℕ) : Memref sig .tc .vmem S256x4608 .fp8e4m3 :=
  (stM.slice (Rect.unit (s := S2x256x4608) (slotOff n) S1x256x4608.size (slotOff_inb n)) (fun _ => rfl)).squeeze S256x4608 squeezes_S1x256x4608_S256x4608
/-- The semaphore of that slot. -/
def csm (n : ℕ) : DmaSems sig S_ := (cc0_scratch8.slice (Rect.unit (s := S2) (semOff n) S1.size (semOff_inb n))).squeeze S_ squeezes_S1_S_

instance (n : ℕ) : ClosedOff (slotOff n) := ⟨slotOff n, rfl⟩
instance (b : Fin 14) : ClosedOff (grpOff b) := ⟨grpOff b, rfl⟩

theorem trips_eq : k0_t1_loop.trips = 14 := by decide +kernel

theorem csm_eq {m n : ℕ} (h : m % 2 = n % 2) : csm m = csm n := by
  unfold csm; exact congrArg (fun A : DmaSems sig S1 => A.squeeze S_ squeezes_S1_S_) (SemArray.slice_unit_congr _ (by simp [semOff, h]) _ _)
theorem rslot_eq {m n : ℕ} (h : m % 2 = n % 2) : rslot m = rslot n := by
  unfold rslot; exact congrArg (fun M : Memref sig .tc .vmem S1x256x4608 .fp8e4m3 => M.squeeze S256x4608 squeezes_S1x256x4608_S256x4608) (Memref.slice_unit_congr _ (by simp [slotOff, h]) _ _ _ _)
theorem csm_add2 (n : ℕ) : csm (n + 1 + 1) = csm n := by
  unfold csm; exact congrArg (fun A : DmaSems sig S1 => A.squeeze S_ squeezes_S1_S_) (SemArray.slice_unit_congr _ (by simp [semOff, Nat.add_assoc]) _ _)
theorem rslot_add2 (n : ℕ) : rslot (n + 1 + 1) = rslot n := by
  unfold rslot; exact congrArg (fun M : Memref sig .tc .vmem S1x256x4608 .fp8e4m3 => M.squeeze S256x4608 squeezes_S1x256x4608_S256x4608) (Memref.slice_unit_congr _ (by simp [slotOff, Nat.add_assoc]) _ _ _ _)

private theorem csm_congr {off : Fin 1 → Nat} {n : ℕ} (e : off = semOff n) (hh) :
    (cc0_scratch8.slice (Rect.unit (s := S2) off S1.size hh)).squeeze S_ squeezes_S1_S_ = csm n :=
  congrArg (fun A : DmaSems sig S1 => A.squeeze S_ squeezes_S1_S_) (SemArray.slice_unit_congr _ e _ _)
private theorem rslot_congr {off : Fin 3 → Nat} {n : ℕ} (e : off = slotOff n) (hh hs) :
    (stM.slice (Rect.unit (s := S2x256x4608) off S1x256x4608.size hh) hs).squeeze S256x4608 squeezes_S1x256x4608_S256x4608 = rslot n :=
  congrArg (fun M : Memref sig .tc .vmem S1x256x4608 .fp8e4m3 => M.squeeze S256x4608 squeezes_S1x256x4608_S256x4608) (Memref.slice_unit_congr _ e _ _ _ _)
private theorem grp_congr {off : Fin 2 → Nat} {b : Fin 14} (e : off = grpOff b) (hh hs) :
    wM.slice (Rect.unit (s := S3584x4608) off S256x4608.size hh) hs = grp b :=
  Memref.slice_unit_congr _ e hh (grpOff_inb b) hs (fun _ => rfl)

/-! The printed slices: chunk 0's before the loop, chunk `k + 1`'s issued and chunk `k`'s awaited in trip `k`. -/

@[sl_canon] theorem sem0 (hh) : (cc0_scratch8.slice (Rect.unit (s := S2) k0_off1 S1.size hh)).squeeze S_ squeezes_S1_S_ = csm 0 := csm_congr (by decide +kernel) _
@[sl_canon] theorem slot0 (hh hs) : (stM.slice (Rect.unit (s := S2x256x4608) k0_off2 S1x256x4608.size hh) hs).squeeze S256x4608 squeezes_S1x256x4608_S256x4608 = rslot 0 := rslot_congr (by decide +kernel) _ _
@[sl_canon] theorem grp0 (hh hs) : wM.slice (Rect.unit (s := S3584x4608) ![0, 0] S256x4608.size hh) hs = grp (Ring.bk 14 0) := grp_congr (by decide +kernel) _ _
@[sl_canon] theorem semI (k : Fin k0_t1_loop.trips) (hh) : (cc0_scratch8.slice (Rect.unit (s := S2) (k0_off3 k) S1.size hh)).squeeze S_ squeezes_S1_S_ = csm (k.val + 1) := csm_congr (k0_off3_eq k) _
@[sl_canon] theorem slotI (k : Fin k0_t1_loop.trips) (hh hs) : (stM.slice (Rect.unit (s := S2x256x4608) (k0_off4 k) S1x256x4608.size hh) hs).squeeze S256x4608 squeezes_S1x256x4608_S256x4608 = rslot (k.val + 1) := rslot_congr (k0_off4_eq k) _ _
@[sl_canon] theorem grpI (k : Fin k0_t1_loop.trips) (hk : k.val + 1 < 14) (hh hs) : wM.slice (Rect.unit (s := S3584x4608) (k0_off5 k) S256x4608.size hh) hs = grp (Ring.bk 14 (k.val + 1)) :=
  grp_congr (by rw [k0_off5_eq]; unfold grpOff; rw [Ring.bk_val hk, Nat.mul_succ]) _ _
@[sl_canon] theorem semK (k : Fin k0_t1_loop.trips) (hh) : (cc0_scratch8.slice (Rect.unit (s := S2) (k0_off6 k) S1.size hh)).squeeze S_ squeezes_S1_S_ = csm k.val := csm_congr (k0_off6_eq k) _
@[sl_canon] theorem slotK (k : Fin k0_t1_loop.trips) (hh hs) : (stM.slice (Rect.unit (s := S2x256x4608) (k0_off7 k) S1x256x4608.size hh) hs).squeeze S256x4608 squeezes_S1x256x4608_S256x4608 = rslot k.val := rslot_congr (k0_off7_eq k) _ _
@[sl_canon] theorem grpK (k : Fin k0_t1_loop.trips) (hh hs) : wM.slice (Rect.unit (s := S3584x4608) (k0_off8 k) S256x4608.size hh) hs = grp (Ring.bk 14 k.val) :=
  grp_congr (by have h14 := trips_eq; rw [k0_off8_eq]; unfold grpOff; rw [Ring.bk_val (show k.val < 14 by omega)]) _ _

section Pieces
variable (c : Dev nD) (XA : Buf (Elt F) (wM.view.loc (c : Thread nD τ)))

abbrev cellP (n : ℕ) : sProp 𝕄 := semVal ((c : Thread nD τ), SemLoc.dma (csm n).sem) 0
abbrev slotP (n : ℕ) (f : Buf (Elt F) ((rslot n).view.loc (c : Thread nD τ))) : sProp 𝕄 :=
  (rslot n).view.loc (c : Thread nD τ) ↦[(rslot n).view.set]{fullShare} f
/-- Chunk `b` of the weights, held at the weights' contents. -/
abbrev homeP (b : Fin 14) : sProp 𝕄 := (grp b).view.loc (c : Thread nD τ) ↦[(grp b).view.set]{fullShare} XA
/-- Chunk `b`'s words. -/
abbrev payload (b : Fin 14) : S256x4608.Idx → Elt F .fp8e4m3 := ReadAs.same.apply ((grp b).view.read (Elt F) XA)
/-- What chunk `b`'s transfer leaves in a slot. -/
abbrev landed (n : ℕ) (b : Fin 14) (f : Buf (Elt F) ((rslot n).view.loc (c : Thread nD τ))) : Buf (Elt F) ((rslot n).view.loc (c : Thread nD τ)) :=
  (rslot n).view.writes (Elt F) f [⟨Rect.whole S256x4608, ReadAs.same.apply ((grp b).view.read (Elt F) XA)⟩]
/-- A slot with chunk `b` on its way into it. -/
abbrev flightP (n : ℕ) (b : Fin 14) (f : Buf (Elt F) ((rslot n).view.loc (c : Thread nD τ))) : sProp 𝕄 :=
  Transfers.Flight countersEmb (c : Thread nD τ) (SemLoc.dma (csm n).sem) () 36864 iprop(slotP c n (landed c XA n b f) ∗ homeP c XA b)

theorem cellP_add2 (n : ℕ) : (cellP c (n + 1 + 1) : sProp 𝕄) = cellP c n := by
  have h := csm_add2 n; unfold cellP; rw [h]
theorem slotP_add2 (n : ℕ) : (iprop(∃ f, slotP c (n + 1 + 1) f) : sProp 𝕄) = iprop(∃ f, slotP c n f) :=
  congrArg (fun M : Memref sig .tc .vmem S256x4608 .fp8e4m3 =>
    (iprop(∃ f : Buf (Elt F) (M.view.loc (c : Thread nD τ)), M.view.loc (c : Thread nD τ) ↦[M.view.set]{fullShare} f) : sProp 𝕄)) (rslot_add2 n)

theorem cellP_eq {m n : ℕ} (h : m % 2 = n % 2) : (cellP c m : sProp 𝕄) = cellP c n := by
  have h := csm_eq h; unfold cellP; rw [h]
theorem slotP_eq {m n : ℕ} (h : m % 2 = n % 2) : (iprop(∃ f, slotP c m f) : sProp 𝕄) = iprop(∃ f, slotP c n f) :=
  congrArg (fun M : Memref sig .tc .vmem S256x4608 .fp8e4m3 =>
    (iprop(∃ f : Buf (Elt F) (M.view.loc (c : Thread nD τ)), M.view.loc (c : Thread nD τ) ↦[M.view.set]{fullShare} f) : sProp 𝕄)) (rslot_eq h)

/-- Trip `k`'s chunks at home: chunk `k + 1` beside the rest. -/
theorem homes_here (k : ℕ) (hk : k + 1 < 14) :
    bigSep (Ring.homeSet 1 k) (homeP c XA) = iprop(homeP c XA (Ring.bk 14 (k + 1)) ∗ bigSep ((Ring.homeSet 1 k).erase (Ring.bk 14 (k + 1))) (homeP c XA)) := by
  conv_lhs => rw [Ring.homeSet_out 1 k hk, bigSep_insert (Ring.bkL_not_mem_erase 1 k)]
  rfl
/-- Trip `k + 1`'s: chunk `k` beside that rest. -/
theorem homes_next (k : ℕ) (hk : k + 1 < 14) :
    bigSep (Ring.homeSet 1 (k + 1)) (homeP c XA) = iprop(homeP c XA (Ring.bk 14 k) ∗ bigSep ((Ring.homeSet 1 k).erase (Ring.bk 14 (k + 1))) (homeP c XA)) := by
  conv_lhs => rw [Ring.homeSet_succ 1 k hk, bigSep_insert (Ring.bk_not_mem_erase 1 k (by omega) (by decide))]
  rfl
/-- Every chunk at home: chunk `k` beside trip `k`'s. -/
theorem homes_all (k : ℕ) (hk : k < 14) :
    bigSep Finset.univ (homeP c XA) = iprop(homeP c XA (Ring.bk 14 k) ∗ bigSep (Ring.homeSet 1 k) (homeP c XA)) := by
  have e : (Finset.univ : Finset (Fin 14)) = insert (Ring.bk 14 k) (Ring.homeSet 1 k) := by
    ext b
    simp only [Finset.mem_univ, Finset.mem_insert, Ring.mem_homeSet, true_iff, Fin.ext_iff, Ring.bk_val hk]; omega
  have h1 : Ring.bk 14 k ∉ Ring.homeSet (NB := 14) 1 k := by
    rw [Ring.mem_homeSet, Ring.bk_val hk]; omega
  rw [e, bigSep_insert h1]; rfl

end Pieces

end Cert.Kernel.Hand

end
-- ==== Proof.P.Buffers.lean ====
/- The weights' array and its staging buffer as blocks: the array held whole is its fourteen chunks, the buffer held
   whole is its two slots. -/
module

public import proofs.«01_k».proof.Proof.P.Chunks
public import Idealize.ShloMosaic.Lib.Pipeline.DatRel

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationRel cellOf)

variable {F : FTy → Type} [BitOps F]

local notation "𝕄" => MT nD τ sig Unit (Elt F) ℕ (Pipeline.UD sig nD τ) ℕ

variable (m : (ℓ : Loc nD τ sig) → Buf (Elt F) ℓ)

abbrev G14 (b : Fin 14) : Finset S3584x4608.Idx := (Rect.unit (s := S3584x4608) (grpOff b) S256x4608.size (grpOff_inb b)).set
abbrev T2 (s : Fin 2) : Finset S2x256x4608.Idx := (Rect.unit (s := S2x256x4608) (slotOff s) S1x256x4608.size (slotOff_inb s)).set

theorem grp_set (b : Fin 14) : (grp b : Memref sig .tc .hbm _ _).view.set = G14 b := View.set_slice_whole _ _
theorem rslot_set (s : Fin 2) : (rslot s : Memref sig .tc .vmem _ _).view.set = T2 s := (View.set_reshape _ _).trans (View.set_slice_whole _ _)

theorem mem_G14 (b : Fin 14) (y : S3584x4608.Idx) : y ∈ G14 b ↔ (y 0).val / 256 = b.val := by
  rw [Rect.mem_set_unit]
  have h1 : (y 1).val < 4608 := (y 1).isLt
  constructor
  · intro H; have a0 : 256 * b.val ≤ (y 0).val ∧ (y 0).val < 256 * b.val + 256 := H 0; omega
  · intro H i; fin_cases i
    · show 256 * b.val ≤ (y 0).val ∧ (y 0).val < 256 * b.val + 256; omega
    · show 0 ≤ (y 1).val ∧ (y 1).val < 0 + 4608; omega
theorem mem_T2 (s : Fin 2) (y : S2x256x4608.Idx) : y ∈ T2 s ↔ (y 0).val = s.val := by
  rw [Rect.mem_set_unit]
  have h1 : (y 1).val < 256 := (y 1).isLt
  have h2 : (y 2).val < 4608 := (y 2).isLt
  have h3 : s.val < 2 := s.isLt
  constructor
  · intro H; have a0 : s.val % 2 ≤ (y 0).val ∧ (y 0).val < s.val % 2 + 1 := H 0; omega
  · intro H i; fin_cases i
    · show s.val % 2 ≤ (y 0).val ∧ (y 0).val < s.val % 2 + 1; omega
    · show 0 ≤ (y 1).val ∧ (y 1).val < 0 + 256; omega
    · show 0 ≤ (y 2).val ∧ (y 2).val < 0 + 4608; omega
theorem G14_disjoint : ∀ b b' : Fin 14, b ≠ b' → Disjoint (G14 b) (G14 b') := by
  intro b b' hne; rw [Finset.disjoint_left]; intro y hy hy'; rw [mem_G14] at hy hy'; exact hne (Fin.ext (hy.symm.trans hy'))
theorem G14_cover : (Finset.univ : Finset (Fin 14)).biUnion G14 = Finset.univ := by
  ext y; simp only [Finset.mem_biUnion, Finset.mem_univ, true_and, iff_true]
  have h : (y 0).val < 3584 := (y 0).isLt
  exact ⟨⟨(y 0).val / 256, by omega⟩, by rw [mem_G14]⟩
theorem T2_disjoint : ∀ s s' : Fin 2, s ≠ s' → Disjoint (T2 s) (T2 s') := by
  intro s s' hne; rw [Finset.disjoint_left]; intro y hy hy'; rw [mem_T2] at hy hy'; exact hne (Fin.ext (hy.symm.trans hy'))
theorem T2_cover : (Finset.univ : Finset (Fin 2)).biUnion T2 = Finset.univ := by
  ext y; simp only [Finset.mem_biUnion, Finset.mem_univ, true_and, iff_true]
  have h : (y 0).val < 2 := (y 0).isLt
  exact ⟨⟨(y 0).val, h⟩, by rw [mem_T2]⟩

theorem bigSep_fin2 (Φ : Fin 2 → sProp 𝕄) : bigSep Finset.univ Φ = iprop(Φ 0 ∗ Φ 1) :=
  bigSep_univ_eq_bigSepL [(0 : Fin 2), (1 : Fin 2)] (by decide) (by decide) Φ

theorem entails_of_eq {P Q : sProp 𝕄} (e : P = Q) : P ⊢ Q := e ▸ .rfl

/-- The weights' array held whole is its chunks at home. -/
theorem weights_eq (c : Dev nD) (XA : Buf (Elt F) (wM.view.loc (c : Thread nD τ))) :
    (((c : Thread nD τ).loc main_arg5) ↦{fullShare} XA : sProp 𝕄) = bigSep Finset.univ (homeP c XA) := by
  rw [Ring.pointsTo_blocks (ℓ := (c : Thread nD τ).loc main_arg5) G14 G14_disjoint G14_cover]
  exact bigSep_congr fun b _ => by rw [← grp_set]; rfl

theorem slot_whole_eq (c : Dev nD) (s : Fin 2) (f) : slotP c s f = (((c : Thread nD τ).loc cc0_scratch1) ↦[T2 s]{fullShare} f : sProp 𝕄) :=
  congrArg (fun S => (_ ↦[S]{fullShare} f : sProp 𝕄)) (rslot_set s)
/-- The staging buffer held whole is its two slots, and back. -/
theorem stage_split (c : Dev nD) :
    iprop(∃ f : Buf (Elt F) ((c : Thread nD τ).loc cc0_scratch1), ((c : Thread nD τ).loc cc0_scratch1) ↦{fullShare} f)
      ⊢ (iprop((∃ f, slotP c 0 f) ∗ ∃ f, slotP c 1 f) : sProp 𝕄) := by
  iintro ⟨%f, H⟩
  ihave H2 := (entails_of_eq ((Ring.pointsTo_blocks (Ix := Unit) (Name := ℕ) (U := Pipeline.UD sig nD τ) (Lvl := ℕ) (q := fullShare) (ℓ := (c : Thread nD τ).loc cc0_scratch1) T2 T2_disjoint T2_cover f).trans (bigSep_fin2 _))) $$ H
  icases H2 with ⟨H0, H1⟩
  isplitl [H0]
  · iexists f; iapply (entails_of_eq (slot_whole_eq c 0 f).symm); iexact H0
  · iexists f; iapply (entails_of_eq (slot_whole_eq c 1 f).symm); iexact H1
theorem stage_join (c : Dev nD) :
    iprop((∃ f, slotP c 0 f) ∗ ∃ f, slotP c 1 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩⟩
  iapply (Ring.pointsTo_blocks_join_exists (ℓ := (c : Thread nD τ).loc cc0_scratch1) T2 T2_disjoint T2_cover f0)
  irw [bigSep_fin2]
  isplitl [H0]
  · iexists f0; iapply (entails_of_eq (slot_whole_eq c 0 f0)); iexact H0
  · iexists f1; iapply (entails_of_eq (slot_whole_eq c 1 f1)); iexact H1

/-- The kernel's own semaphores. -/
abbrev osem0 : Fin 2 → SemLoc sig := fun s => .dma (csm s).sem
theorem ownSemFacts0 : Pipeline.OwnSemFacts spec0 osem0 := by decide
theorem ownSems0_eq (c : Dev nD) : (Pipeline.ownSems0 (Ix := Unit) (Name := ℕ) (U := Pipeline.UD sig nD τ) (Lvl := ℕ) (Val := Elt F) (τ := τ) osem0 c : sProp 𝕄)
    = iprop(cellP c 0 ∗ cellP c 1) := by
  unfold Pipeline.ownSems0; rw [bigSep_fin2]; rfl

/-- The one array that the kernel's transfers read themselves. -/
def H0 : Finset (Ref sig .tc) := {main_arg5}
theorem H0_sub : H0 ⊆ Pipeline.restRefs sig spec0 := by decide

end Cert.Kernel.Hand

end
-- ==== Proof.P.Trip.lean ====
/- One trip of the loop that dequantises the weights, and the loop's invariant. -/
module

public import proofs.«01_k».proof.Proof.P.Chunks
public import proofs.«01_k».proof.Proof.Gen.Kernel.Loops

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

variable (c : Dev nD) (i : grid0.Coords) (XA : Buf (Elt F) (wM.view.loc (c : Thread nD τ)))
  (arg1 : Memref sig .tc .vmem S2x28x128x128 .bf16) (harg1 : arg1.IsWhole)
  (arg2 : Memref sig .tc .vmem S2x512x128 .bf16) (harg2 : arg2.IsWhole)
  (arg3 : Memref sig .tc .vmem S2x512x128 .bf16) (harg3 : arg3.IsWhole)
  (arg4 : Memref sig .tc .vmem S2x128x3584 .bf16) (harg4 : arg4.IsWhole)
  (arg5 : Memref sig .tc .vmem S2x128 .i32) (harg5 : arg5.IsWhole)
  (arg6 : Memref sig .tc .vmem S8x128 .f32) (harg6 : arg6.IsWhole)
  (arg7 : Memref sig .tc .smem S28x36 .f32) (harg7 : arg7.IsWhole)
  (arg9 : Memref sig .tc .vmem S2x128x3584 .bf16) (harg9 : arg9.IsWhole)
  (arg10 : Memref sig .tc .vmem S2x128x4608 .fp8e5m2) (harg10 : arg10.IsWhole)
  (arg11 : Memref sig .tc .vmem S36x2x128 .f32) (harg11 : arg11.IsWhole)
  (arg12 : Memref sig .tc .vmem S2x128x3584 .fp8e5m2) (harg12 : arg12.IsWhole)
  (arg13 : Memref sig .tc .vmem S28x2x128 .f32) (harg13 : arg13.IsWhole)
  (arg14 : Memref sig .tc .vmem S4608x3584 .bf16) (harg14 : arg14.IsWhole)
  (arg16 : Memref sig .tc .vmem S256x4608 .bf16) (harg16 : arg16.IsWhole)
  (arg17 : Memref sig .tc .vmem S256x4608 .bf16) (harg17 : arg17.IsWhole)
  (arg18 : Memref sig .tc .vmem S256x128 .f32) (harg18 : arg18.IsWhole)
  (arg19 : Memref sig .tc .vmem S256x128 .f32) (harg19 : arg19.IsWhole)
  (arg20 : Memref sig .tc .vmem S256x128 .f32) (harg20 : arg20.IsWhole)
  (arg21 : Memref sig .tc .vmem S256x128 .f32) (harg21 : arg21.IsWhole)

variable (k0_h1 : k0_cond1 i = 1#1) (f7 : Bf (F := F) c arg7)

/-- What is held before trip `k < 14`: the dequantised weights so far, chunk `k` in flight, the other slot free. -/
def resAt (k : ℕ) (f14 : Bf (F := F) c arg14) : sProp 𝕄 :=
  iprop(pt c arg7 f7 ∗ pt c arg14 f14 ∗ (∃ W, owes (c : Thread nD τ) 0 W) ∗ bigSep (Ring.homeSet 1 k) (homeP c XA)
    ∗ (∃ f, flightP c XA k (Ring.bk 14 k) f) ∗ cellP c (k + 1) ∗ (∃ f, slotP c (k + 1) f))
/-- What is held after the last trip: both slots free and every chunk at home. -/
def resEnd (k : ℕ) (f14 : Bf (F := F) c arg14) : sProp 𝕄 :=
  iprop(pt c arg7 f7 ∗ pt c arg14 f14 ∗ (∃ W, owes (c : Thread nD τ) 0 W) ∗ bigSep Finset.univ (homeP c XA)
    ∗ cellP c k ∗ (∃ f, slotP c k f) ∗ cellP c (k + 1) ∗ (∃ f, slotP c (k + 1) f))

abbrev tripG (k : Fin k0_t1_loop.trips) : Prog (TpuEff nD τ sig (Elt F) Λ₀ .tc) Unit :=
  k0_t1_body (F := F) i arg1 harg1 arg2 harg2 arg3 harg3 arg4 harg4 arg5 harg5 arg6 harg6 arg7 harg7 wM (Memref.isWhole_whole _) arg9 harg9 arg10 harg10 arg11 harg11 arg12 harg12 arg13 harg13 arg14 harg14 stM (Memref.isWhole_whole _) arg16 harg16 arg17 harg17 arg18 harg18 arg19 harg19 arg20 harg20 arg21 harg21 cc0_scratch8 k0_h1 k ()

theorem cond2_of_lt : ∀ k : Fin k0_t1_loop.trips, k.val + 1 < 14 → k0_cond2 k = 1#1 := by decide +kernel
theorem cond2_of_not_lt : ∀ k : Fin k0_t1_loop.trips, ¬ k.val + 1 < 14 → ¬ k0_cond2 k = 1#1 := by decide +kernel

set_option backward.proofsInPublic true in
/-- A trip that issues the next chunk, its stores to be found. -/
def tripRun (k : Fin k0_t1_loop.trips) (hk : k.val + 1 < 14) :
    { W : List (View.Piece (Elt F) S4608x3584 .bf16) // ∀ f14 : Bf (F := F) c arg14,
      resAt c XA arg7 arg14 f7 k f14 ⊢ wp frame (wpE (defs₀ (F := F)) Variants.none (c : Thread nD τ) none) Set.univ
        (tripG i arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 k)
        (fun _ => resAt c XA arg7 arg14 f7 (k.val + 1) (arg14.view.writes (Elt F) f14 W)) } := by
  refine ⟨?_, fun f14 => ?run⟩
  case run =>
    have hc2 : k0_cond2 k = 1#1 := cond2_of_lt k hk
    unfold resAt
    rw [homes_here c XA k.val hk, homes_next c XA k.val hk, cellP_add2, slotP_add2]
    iintro ⟨H7, H14, ⟨%W, HW⟩, ⟨Hg, Hrest⟩, ⟨%f0, HF0⟩, Hc, ⟨%f1, Hs⟩⟩
    dsimp only [tripG]
    sl_unfold [k0_t1_body]
    sl_exec_parts
    sl_step
    isplitl [H7]; · iexact H7
    isplitl [H14]; · iexact H14
    isplitl [HW]; · iexists _; iexact HW
    isplitl [HF0_src Hrest]
    · isplitl [HF0_src]; · iexact HF0_src
      iexact Hrest
    isplitl [Hc]; · iexists f1; iexact Hc
    isplitl [HF0]; · iexact HF0
    iexists _; iexact HF0_dst

set_option backward.proofsInPublic true in
/-- The last trip, which issues none, its stores to be found. -/
def tripLast (k : Fin k0_t1_loop.trips) (hk : ¬ k.val + 1 < 14) :
    { W : List (View.Piece (Elt F) S4608x3584 .bf16) // ∀ f14 : Bf (F := F) c arg14,
      resAt c XA arg7 arg14 f7 k f14 ⊢ wp frame (wpE (defs₀ (F := F)) Variants.none (c : Thread nD τ) none) Set.univ
        (tripG i arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 k)
        (fun _ => resEnd c XA arg7 arg14 f7 k.val (arg14.view.writes (Elt F) f14 W)) } := by
  refine ⟨?_, fun f14 => ?run⟩
  case run =>
    have hc2 : ¬ k0_cond2 k = 1#1 := cond2_of_not_lt k hk
    have h14 := trips_eq
    unfold resAt resEnd
    rw [homes_all c XA k.val (by omega)]
    iintro ⟨H7, H14, ⟨%W, HW⟩, Hrest, ⟨%f0, HF0⟩, Hc, ⟨%f1, Hs⟩⟩
    dsimp only [tripG]
    sl_unfold [k0_t1_body]
    sl_exec_parts
    sl_step
    isplitl [H7]; · iexact H7
    isplitl [H14]; · iexact H14
    isplitl [HW]; · iexists _; iexact HW
    isplitl [HF0_src Hrest]
    · isplitl [HF0_src]; · iexact HF0_src
      iexact Hrest
    isplitl [HF0]; · iexact HF0
    isplitl [HF0_dst]; · iexists _; iexact HF0_dst
    isplitl [Hc]; · iexact Hc
    iexists f1; iexact Hs

/-- Trip `k`'s stores, newest first. -/
def tripW (k : Fin k0_t1_loop.trips) : List (View.Piece (Elt F) S4608x3584 .bf16) :=
  if h : k.val + 1 < 14 then (tripRun c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 k h).1
  else (tripLast c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 k h).1
/-- The stores of the trips before trip `n`, newest first. -/
def loopW : ℕ → List (View.Piece (Elt F) S4608x3584 .bf16)
  | 0 => []
  | n + 1 => if h : n < k0_t1_loop.trips then tripW c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 ⟨n, h⟩ ++ loopW n else loopW n

/-- The invariant before trip `n`. -/
def loopAt (f14 : Bf (F := F) c arg14) : ℕ → sProp 𝕄
  | 0 => resAt c XA arg7 arg14 f7 0 f14
  | n + 1 => if n + 1 < 14 then resAt c XA arg7 arg14 f7 (n + 1) (arg14.view.writes (Elt F) f14 (loopW c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 (n + 1)))
    else resEnd c XA arg7 arg14 f7 n (arg14.view.writes (Elt F) f14 (loopW c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 (n + 1)))

theorem loopAt_lt (f14 : Bf (F := F) c arg14) (n : ℕ) (h : n < 14) :
    loopAt c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 f14 n
      = resAt c XA arg7 arg14 f7 n (arg14.view.writes (Elt F) f14 (loopW c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 n)) := by
  cases n with
  | zero => rfl
  | succ n => rw [loopAt, if_pos h]

/-- What is held after the loop. -/
def loopPost (f14 : Bf (F := F) c arg14) : sProp 𝕄 :=
  iprop(pt c arg7 f7 ∗ pt c arg14 (arg14.view.writes (Elt F) f14 (loopW c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 14)) ∗ (∃ W, owes (c : Thread nD τ) 0 W)
    ∗ bigSep Finset.univ (homeP c XA) ∗ cellP c 0 ∗ (∃ f, slotP c 0 f) ∗ cellP c 1 ∗ (∃ f, slotP c 1 f))

theorem loopAt_end (f14 : Bf (F := F) c arg14) :
    loopAt c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 f14 k0_t1_loop.trips ⊢ loopPost c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 f14 := by
  have e : loopAt c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 f14 k0_t1_loop.trips
      = resEnd c XA arg7 arg14 f7 13 (arg14.view.writes (Elt F) f14 (loopW c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 14)) :=
    (congrArg (loopAt c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 f14) trips_eq).trans (by rw [loopAt, if_neg (by omega)])
  rw [e]; unfold resEnd loopPost
  rw [cellP_eq c (show (13 + 1) % 2 = 0 % 2 from rfl), slotP_eq c (show (13 + 1) % 2 = 0 % 2 from rfl),
    cellP_eq c (show 13 % 2 = 1 % 2 from rfl), slotP_eq c (show 13 % 2 = 1 % 2 from rfl)]
  iintro ⟨H1, H2, H3, H4, H5, H6, H7, H8⟩
  isplitl [H1]; · iexact H1
  isplitl [H2]; · iexact H2
  isplitl [H3]; · iexact H3
  isplitl [H4]; · iexact H4
  isplitl [H7]; · iexact H7
  isplitl [H8]; · iexact H8
  isplitl [H5]; · iexact H5
  iexact H6

theorem loopAt_step (f14 : Bf (F := F) c arg14) (k : Fin k0_t1_loop.trips) :
    loopAt c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 f14 k.val ⊢ wp frame (wpE (defs₀ (F := F)) Variants.none (c : Thread nD τ) none) Set.univ
      (tripG i arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 k) (fun _ => loopAt c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 f14 (k.val + 1)) := by
  have h14 := trips_eq
  have hk14 : k.val < 14 := by have := k.isLt; omega
  rw [loopAt_lt _ _ _ _ _ _ _ _ _ _ _ _ _ _ _ _ _ _ _ _ _ _ _ _ _ _ _ _ _ _ _ _ _ _ _ _ _ _ _ _ _ _ _ _ _ hk14]
  have eW : loopW c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 (k.val + 1) = tripW c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 k ++ loopW c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 k.val := by
    rw [loopW, dif_pos k.isLt]
  rw [loopAt, eW, View.writes_append]
  by_cases h : k.val + 1 < 14
  · rw [if_pos h, tripW, dif_pos h]
    exact (tripRun c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 k h).2 _
  · rw [if_neg h, tripW, dif_neg h]
    exact (tripLast c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 k h).2 _

set_option warn.classDefReducibility false in
/-- The loop's invariant. -/
@[sl_loop] def weightLoop (f14 : Bf (F := F) c arg14) :
    LoopInvTy_k0_t1 (F := F) Unit ℕ (Pipeline.UD sig nD τ) ℕ Variants.none c none Set.univ i arg1 harg1 arg2 harg2 arg3 harg3 arg4 harg4 arg5 harg5 arg6 harg6 arg7 harg7 wM (Memref.isWhole_whole _) arg9 harg9 arg10 harg10 arg11 harg11 arg12 harg12 arg13 harg13 arg14 harg14 stM (Memref.isWhole_whole _) arg16 harg16 arg17 harg17 arg18 harg18 arg19 harg19 arg20 harg20 arg21 harg21 cc0_scratch8 k0_h1 where
  inv k _ := loopAt c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 f14 k
  step k _ := loopAt_step c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 f14 k

instance (f14 : Bf (F := F) c arg14) : LoopExit (weightLoop c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 f14) where
  post _ := loopPost c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 f14
  exit _ := loopAt_end c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 f14

end Cert.Kernel.Hand

end
-- ==== Proof.P.RunFirst.lean ====
/- The kernel body at the first point: the weights dequantised, the rotation's tables, the first tile's left-hand side. -/
module

public import proofs.«01_k».proof.Proof.P.Trip

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

variable (c : Dev nD) (i : grid0.Coords) (XA : Buf (Elt F) (wM.view.loc (c : Thread nD τ)))
  (arg1 : Memref sig .tc .vmem S2x28x128x128 .bf16) (harg1 : arg1.IsWhole)
  (arg2 : Memref sig .tc .vmem S2x512x128 .bf16) (harg2 : arg2.IsWhole)
  (arg3 : Memref sig .tc .vmem S2x512x128 .bf16) (harg3 : arg3.IsWhole)
  (arg4 : Memref sig .tc .vmem S2x128x3584 .bf16) (harg4 : arg4.IsWhole)
  (arg5 : Memref sig .tc .vmem S2x128 .i32) (harg5 : arg5.IsWhole)
  (arg6 : Memref sig .tc .vmem S8x128 .f32) (harg6 : arg6.IsWhole)
  (arg7 : Memref sig .tc .smem S28x36 .f32) (harg7 : arg7.IsWhole)
  (arg9 : Memref sig .tc .vmem S2x128x3584 .bf16) (harg9 : arg9.IsWhole)
  (arg10 : Memref sig .tc .vmem S2x128x4608 .fp8e5m2) (harg10 : arg10.IsWhole)
  (arg11 : Memref sig .tc .vmem S36x2x128 .f32) (harg11 : arg11.IsWhole)
  (arg12 : Memref sig .tc .vmem S2x128x3584 .fp8e5m2) (harg12 : arg12.IsWhole)
  (arg13 : Memref sig .tc .vmem S28x2x128 .f32) (harg13 : arg13.IsWhole)
  (arg14 : Memref sig .tc .vmem S4608x3584 .bf16) (harg14 : arg14.IsWhole)
  (arg16 : Memref sig .tc .vmem S256x4608 .bf16) (harg16 : arg16.IsWhole)
  (arg17 : Memref sig .tc .vmem S256x4608 .bf16) (harg17 : arg17.IsWhole)
  (arg18 : Memref sig .tc .vmem S256x128 .f32) (harg18 : arg18.IsWhole)
  (arg19 : Memref sig .tc .vmem S256x128 .f32) (harg19 : arg19.IsWhole)
  (arg20 : Memref sig .tc .vmem S256x128 .f32) (harg20 : arg20.IsWhole)
  (arg21 : Memref sig .tc .vmem S256x128 .f32) (harg21 : arg21.IsWhole)

/-- The weights' chunks, both slots and both semaphores at rest, and the core's waits. -/
abbrev chunksP : sProp 𝕄 :=
  iprop((∃ W, owes (c : Thread nD τ) 0 W) ∗ bigSep Finset.univ (homeP c XA) ∗ cellP c 0 ∗ (∃ f, slotP c 0 f) ∗ cellP c 1 ∗ (∃ f, slotP c 1 f))

/-- The body at the first point, its stores to be found. -/
def runFirst (hc1 : k0_cond1 i = 1#1) (hc3 : ¬ k0_cond3 i = 1#1) (hc4 : ¬ k0_cond4 i = 1#1)
    (f1 : Bf (F := F) c arg1) (f2 : Bf (F := F) c arg2) (f3 : Bf (F := F) c arg3) (f5 : Bf (F := F) c arg5) (f6 : Bf (F := F) c arg6) (f7 : Bf (F := F) c arg7) (f20 : Bf (F := F) c arg20) :
    { W : List (View.Piece (Elt F) S2x128x4608 .fp8e5m2) × List (View.Piece (Elt F) S36x2x128 .f32) × List (View.Piece (Elt F) S4608x3584 .bf16) × List (View.Piece (Elt F) S256x4608 .bf16) × List (View.Piece (Elt F) S256x128 .f32) × List (View.Piece (Elt F) S256x128 .f32) × List (View.Piece (Elt F) S256x128 .f32) //
      ∀ (f10 : Bf (F := F) c arg10) (f11 : Bf (F := F) c arg11) (f14 : Bf (F := F) c arg14) (f16 : Bf (F := F) c arg16) (f18 : Bf (F := F) c arg18) (f19 : Bf (F := F) c arg19) (K : PUnit → sProp 𝕄),
        iprop(pt c arg1 f1 ∗ pt c arg2 f2 ∗ pt c arg3 f3 ∗ pt c arg5 f5 ∗ pt c arg6 f6 ∗ pt c arg7 f7 ∗ pt c arg10 f10 ∗ pt c arg11 f11 ∗ pt c arg14 f14 ∗ pt c arg16 f16 ∗ pt c arg18 f18 ∗ pt c arg19 f19 ∗ pt c arg20 f20 ∗ chunksP c XA
          ∗ (iprop(pt c arg1 f1 ∗ pt c arg2 f2 ∗ pt c arg3 f3 ∗ pt c arg5 f5 ∗ pt c arg6 f6 ∗ pt c arg7 f7 ∗ pt c arg10 (arg10.view.writes (Elt F) f10 W.1) ∗ pt c arg11 (arg11.view.writes (Elt F) f11 W.2.1) ∗ pt c arg14 (arg14.view.writes (Elt F) f14 W.2.2.1) ∗ pt c arg16 (arg16.view.writes (Elt F) f16 W.2.2.2.1) ∗ pt c arg18 (arg18.view.writes (Elt F) f18 W.2.2.2.2.1) ∗ pt c arg19 (arg19.view.writes (Elt F) f19 W.2.2.2.2.2.1) ∗ pt c arg20 (arg20.view.writes (Elt F) f20 W.2.2.2.2.2.2) ∗ chunksP c XA) -∗ K ⟨⟩))
        ⊢ wp frame (wpE (defs₀ (F := F)) Variants.none (c : Thread nD τ) none) Set.univ
            (cc0_qkv_rope_dgrad (F := F) i arg1 harg1 arg2 harg2 arg3 harg3 arg4 harg4 arg5 harg5 arg6 harg6 arg7 harg7 wM (Memref.isWhole_whole _) arg9 harg9 arg10 harg10 arg11 harg11 arg12 harg12 arg13 harg13 arg14 harg14 stM (Memref.isWhole_whole _) arg16 harg16 arg17 harg17 arg18 harg18 arg19 harg19 arg20 harg20 arg21 harg21 cc0_scratch8) K } := by
  refine ⟨⟨?_, ?_, ?_, ?_, ?_, ?_, ?_⟩, fun f10 f11 f14 f16 f18 f19 K => ?run⟩
  case run =>
    rw [show (chunksP c XA : sProp 𝕄) = iprop((∃ W, owes (c : Thread nD τ) 0 W) ∗ (homeP c XA (Ring.bk 14 0) ∗ bigSep (Ring.homeSet 1 0) (homeP c XA)) ∗ cellP c 0 ∗ (∃ f, slotP c 0 f) ∗ cellP c (0 + 1) ∗ (∃ f, slotP c (0 + 1) f)) by
      unfold chunksP; rw [homes_all c XA 0 (by omega)]]
    iintro ⟨H1, H2, H3, H5, H6, H7, H10, H11, H14, H16, H18, H19, H20, ⟨⟨%W, HW⟩, ⟨Hg, Hh⟩, Hc0, ⟨%s0, Hs0⟩, Hc1, ⟨%s1, Hs1⟩⟩, Hk⟩
    sl_exec_parts
    sl_step
    iapply Hk
    isplitl [H1]; · iexact H1
    isplitl [H2]; · iexact H2
    isplitl [H3]; · iexact H3
    isplitl [H5]; · iexact H5
    isplitl [H6]; · iexact H6
    isplitl [HL0]; · iexact HL0
    isplitl [H10]; · iexact H10
    isplitl [H11]; · iexact H11
    isplitl [HL1]; · iexact HL1
    isplitl [H16]; · iexact H16
    isplitl [H18]; · iexact H18
    isplitl [H19]; · iexact H19
    isplitl [H20]; · iexact H20
    isplitl [HL2]; · iexists _; iexact HL2
    isplitl [HL3]; · rw [← homes_all c XA 0 (by omega)]; iexact HL3
    isplitl [HL4]; · iexact HL4
    isplitl [HL5]; · iexists _; iexact HL5
    isplitl [HL6]; · iexact HL6
    iexists _; iexact HL7

end Cert.Kernel.Hand

end
-- ==== Proof.P.RunOdd.lean ====
/- The kernel body at odd points (`main` from one left-hand buffer to the other), run once. -/
module

public import proofs.«01_k».proof.Proof.P.Base

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

variable (c : Dev nD) (i : grid0.Coords)
  (arg1 : Memref sig .tc .vmem S2x28x128x128 .bf16) (harg1 : arg1.IsWhole)
  (arg2 : Memref sig .tc .vmem S2x512x128 .bf16) (harg2 : arg2.IsWhole)
  (arg3 : Memref sig .tc .vmem S2x512x128 .bf16) (harg3 : arg3.IsWhole)
  (arg4 : Memref sig .tc .vmem S2x128x3584 .bf16) (harg4 : arg4.IsWhole)
  (arg5 : Memref sig .tc .vmem S2x128 .i32) (harg5 : arg5.IsWhole)
  (arg6 : Memref sig .tc .vmem S8x128 .f32) (harg6 : arg6.IsWhole)
  (arg7 : Memref sig .tc .smem S28x36 .f32) (harg7 : arg7.IsWhole)
  (arg8 : Memref sig .tc .hbm S3584x4608 .fp8e4m3) (harg8 : arg8.IsWhole)
  (arg9 : Memref sig .tc .vmem S2x128x3584 .bf16) (harg9 : arg9.IsWhole)
  (arg10 : Memref sig .tc .vmem S2x128x4608 .fp8e5m2) (harg10 : arg10.IsWhole)
  (arg11 : Memref sig .tc .vmem S36x2x128 .f32) (harg11 : arg11.IsWhole)
  (arg12 : Memref sig .tc .vmem S2x128x3584 .fp8e5m2) (harg12 : arg12.IsWhole)
  (arg13 : Memref sig .tc .vmem S28x2x128 .f32) (harg13 : arg13.IsWhole)
  (arg14 : Memref sig .tc .vmem S4608x3584 .bf16) (harg14 : arg14.IsWhole)
  (arg15 : Memref sig .tc .vmem S2x256x4608 .fp8e4m3) (harg15 : arg15.IsWhole)
  (arg16 : Memref sig .tc .vmem S256x4608 .bf16) (harg16 : arg16.IsWhole)
  (arg17 : Memref sig .tc .vmem S256x4608 .bf16) (harg17 : arg17.IsWhole)
  (arg18 : Memref sig .tc .vmem S256x128 .f32) (harg18 : arg18.IsWhole)
  (arg19 : Memref sig .tc .vmem S256x128 .f32) (harg19 : arg19.IsWhole)
  (arg20 : Memref sig .tc .vmem S256x128 .f32) (harg20 : arg20.IsWhole)
  (arg21 : Memref sig .tc .vmem S256x128 .f32) (harg21 : arg21.IsWhole)
  (arg22 : DmaSems sig S2)

def runOdd (hc1 : ¬ k0_cond1 i = 1#1) (hc3 : k0_cond3 i = 1#1) (hc4 : ¬ k0_cond4 i = 1#1)
    (f1 : Bf (F := F) c arg1) (f2 : Bf (F := F) c arg2) (f3 : Bf (F := F) c arg3) (f4 : Bf (F := F) c arg4) (f5 : Bf (F := F) c arg5) (f6 : Bf (F := F) c arg6) (f14 : Bf (F := F) c arg14) (f16 : Bf (F := F) c arg16) (f20 : Bf (F := F) c arg20) (f21 : Bf (F := F) c arg21) :
    { W : List (View.Piece (Elt F) S2x128x3584 .bf16) × List (View.Piece (Elt F) S2x128x4608 .fp8e5m2) × List (View.Piece (Elt F) S36x2x128 .f32) × List (View.Piece (Elt F) S2x128x3584 .fp8e5m2) × List (View.Piece (Elt F) S28x2x128 .f32) × List (View.Piece (Elt F) S256x4608 .bf16) × List (View.Piece (Elt F) S256x128 .f32) × List (View.Piece (Elt F) S256x128 .f32) × List (View.Piece (Elt F) S256x128 .f32) × List (View.Piece (Elt F) S256x128 .f32) //
      ∀ (f9 : Bf (F := F) c arg9) (f10 : Bf (F := F) c arg10) (f11 : Bf (F := F) c arg11) (f12 : Bf (F := F) c arg12) (f13 : Bf (F := F) c arg13) (f17 : Bf (F := F) c arg17) (f18 : Bf (F := F) c arg18) (f19 : Bf (F := F) c arg19) (K : PUnit → sProp 𝕄),
        iprop(pt c arg1 f1 ∗ pt c arg2 f2 ∗ pt c arg3 f3 ∗ pt c arg4 f4 ∗ pt c arg5 f5 ∗ pt c arg6 f6 ∗ pt c arg9 f9 ∗ pt c arg10 f10 ∗ pt c arg11 f11 ∗ pt c arg12 f12 ∗ pt c arg13 f13 ∗ pt c arg14 f14 ∗ pt c arg16 f16 ∗ pt c arg17 f17 ∗ pt c arg18 f18 ∗ pt c arg19 f19 ∗ pt c arg20 f20 ∗ pt c arg21 f21
          ∗ (iprop(pt c arg1 f1 ∗ pt c arg2 f2 ∗ pt c arg3 f3 ∗ pt c arg4 f4 ∗ pt c arg5 f5 ∗ pt c arg6 f6 ∗ pt c arg9 (arg9.view.writes (Elt F) f9 W.1) ∗ pt c arg10 (arg10.view.writes (Elt F) f10 W.2.1) ∗ pt c arg11 (arg11.view.writes (Elt F) f11 W.2.2.1) ∗ pt c arg12 (arg12.view.writes (Elt F) f12 W.2.2.2.1) ∗ pt c arg13 (arg13.view.writes (Elt F) f13 W.2.2.2.2.1) ∗ pt c arg14 f14 ∗ pt c arg16 f16 ∗ pt c arg17 (arg17.view.writes (Elt F) f17 W.2.2.2.2.2.1) ∗ pt c arg18 (arg18.view.writes (Elt F) f18 W.2.2.2.2.2.2.1) ∗ pt c arg19 (arg19.view.writes (Elt F) f19 W.2.2.2.2.2.2.2.1) ∗ pt c arg20 (arg20.view.writes (Elt F) f20 W.2.2.2.2.2.2.2.2.1) ∗ pt c arg21 (arg21.view.writes (Elt F) f21 W.2.2.2.2.2.2.2.2.2)) -∗ K ⟨⟩))
        ⊢ wp frame (wpE (defs₀ (F := F)) Variants.none c none) Set.univ
            (cc0_qkv_rope_dgrad (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22) K } := by
  refine ⟨⟨?_, ?_, ?_, ?_, ?_, ?_, ?_, ?_, ?_, ?_⟩, fun f9 f10 f11 f12 f13 f17 f18 f19 K => ?run⟩
  case run =>
    iintro ⟨H1, H2, H3, H4, H5, H6, H9, H10, H11, H12, H13, H14, H16, H17, H18, H19, H20, H21, Hk⟩
    sl_exec_parts
    sl_step
    iapply Hk
    isplitl [H1]; · iexact H1
    isplitl [H2]; · iexact H2
    isplitl [H3]; · iexact H3
    isplitl [H4]; · iexact H4
    isplitl [H5]; · iexact H5
    isplitl [H6]; · iexact H6
    isplitl [H9]; · iexact H9
    isplitl [H10]; · iexact H10
    isplitl [H11]; · iexact H11
    isplitl [H12]; · iexact H12
    isplitl [H13]; · iexact H13
    isplitl [H14]; · iexact H14
    isplitl [H16]; · iexact H16
    isplitl [H17]; · iexact H17
    isplitl [H18]; · iexact H18
    isplitl [H19]; · iexact H19
    isplitl [H20]; · iexact H20
    iexact H21

end Cert.Kernel.Hand

end
-- ==== Proof.P.RunEven.lean ====
/- The kernel body at even points (`main` from one left-hand buffer to the other), run once. -/
module

public import proofs.«01_k».proof.Proof.P.Base

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

variable (c : Dev nD) (i : grid0.Coords)
  (arg1 : Memref sig .tc .vmem S2x28x128x128 .bf16) (harg1 : arg1.IsWhole)
  (arg2 : Memref sig .tc .vmem S2x512x128 .bf16) (harg2 : arg2.IsWhole)
  (arg3 : Memref sig .tc .vmem S2x512x128 .bf16) (harg3 : arg3.IsWhole)
  (arg4 : Memref sig .tc .vmem S2x128x3584 .bf16) (harg4 : arg4.IsWhole)
  (arg5 : Memref sig .tc .vmem S2x128 .i32) (harg5 : arg5.IsWhole)
  (arg6 : Memref sig .tc .vmem S8x128 .f32) (harg6 : arg6.IsWhole)
  (arg7 : Memref sig .tc .smem S28x36 .f32) (harg7 : arg7.IsWhole)
  (arg8 : Memref sig .tc .hbm S3584x4608 .fp8e4m3) (harg8 : arg8.IsWhole)
  (arg9 : Memref sig .tc .vmem S2x128x3584 .bf16) (harg9 : arg9.IsWhole)
  (arg10 : Memref sig .tc .vmem S2x128x4608 .fp8e5m2) (harg10 : arg10.IsWhole)
  (arg11 : Memref sig .tc .vmem S36x2x128 .f32) (harg11 : arg11.IsWhole)
  (arg12 : Memref sig .tc .vmem S2x128x3584 .fp8e5m2) (harg12 : arg12.IsWhole)
  (arg13 : Memref sig .tc .vmem S28x2x128 .f32) (harg13 : arg13.IsWhole)
  (arg14 : Memref sig .tc .vmem S4608x3584 .bf16) (harg14 : arg14.IsWhole)
  (arg15 : Memref sig .tc .vmem S2x256x4608 .fp8e4m3) (harg15 : arg15.IsWhole)
  (arg16 : Memref sig .tc .vmem S256x4608 .bf16) (harg16 : arg16.IsWhole)
  (arg17 : Memref sig .tc .vmem S256x4608 .bf16) (harg17 : arg17.IsWhole)
  (arg18 : Memref sig .tc .vmem S256x128 .f32) (harg18 : arg18.IsWhole)
  (arg19 : Memref sig .tc .vmem S256x128 .f32) (harg19 : arg19.IsWhole)
  (arg20 : Memref sig .tc .vmem S256x128 .f32) (harg20 : arg20.IsWhole)
  (arg21 : Memref sig .tc .vmem S256x128 .f32) (harg21 : arg21.IsWhole)
  (arg22 : DmaSems sig S2)

def runEven (hc1 : ¬ k0_cond1 i = 1#1) (hc3 : ¬ k0_cond3 i = 1#1) (hc4 : k0_cond4 i = 1#1)
    (f1 : Bf (F := F) c arg1) (f2 : Bf (F := F) c arg2) (f3 : Bf (F := F) c arg3) (f4 : Bf (F := F) c arg4) (f5 : Bf (F := F) c arg5) (f6 : Bf (F := F) c arg6) (f14 : Bf (F := F) c arg14) (f17 : Bf (F := F) c arg17) (f20 : Bf (F := F) c arg20) (f21 : Bf (F := F) c arg21) :
    { W : List (View.Piece (Elt F) S2x128x3584 .bf16) × List (View.Piece (Elt F) S2x128x4608 .fp8e5m2) × List (View.Piece (Elt F) S36x2x128 .f32) × List (View.Piece (Elt F) S2x128x3584 .fp8e5m2) × List (View.Piece (Elt F) S28x2x128 .f32) × List (View.Piece (Elt F) S256x4608 .bf16) × List (View.Piece (Elt F) S256x128 .f32) × List (View.Piece (Elt F) S256x128 .f32) × List (View.Piece (Elt F) S256x128 .f32) × List (View.Piece (Elt F) S256x128 .f32) //
      ∀ (f9 : Bf (F := F) c arg9) (f10 : Bf (F := F) c arg10) (f11 : Bf (F := F) c arg11) (f12 : Bf (F := F) c arg12) (f13 : Bf (F := F) c arg13) (f16 : Bf (F := F) c arg16) (f18 : Bf (F := F) c arg18) (f19 : Bf (F := F) c arg19) (K : PUnit → sProp 𝕄),
        iprop(pt c arg1 f1 ∗ pt c arg2 f2 ∗ pt c arg3 f3 ∗ pt c arg4 f4 ∗ pt c arg5 f5 ∗ pt c arg6 f6 ∗ pt c arg9 f9 ∗ pt c arg10 f10 ∗ pt c arg11 f11 ∗ pt c arg12 f12 ∗ pt c arg13 f13 ∗ pt c arg14 f14 ∗ pt c arg16 f16 ∗ pt c arg17 f17 ∗ pt c arg18 f18 ∗ pt c arg19 f19 ∗ pt c arg20 f20 ∗ pt c arg21 f21
          ∗ (iprop(pt c arg1 f1 ∗ pt c arg2 f2 ∗ pt c arg3 f3 ∗ pt c arg4 f4 ∗ pt c arg5 f5 ∗ pt c arg6 f6 ∗ pt c arg9 (arg9.view.writes (Elt F) f9 W.1) ∗ pt c arg10 (arg10.view.writes (Elt F) f10 W.2.1) ∗ pt c arg11 (arg11.view.writes (Elt F) f11 W.2.2.1) ∗ pt c arg12 (arg12.view.writes (Elt F) f12 W.2.2.2.1) ∗ pt c arg13 (arg13.view.writes (Elt F) f13 W.2.2.2.2.1) ∗ pt c arg14 f14 ∗ pt c arg16 (arg16.view.writes (Elt F) f16 W.2.2.2.2.2.1) ∗ pt c arg17 f17 ∗ pt c arg18 (arg18.view.writes (Elt F) f18 W.2.2.2.2.2.2.1) ∗ pt c arg19 (arg19.view.writes (Elt F) f19 W.2.2.2.2.2.2.2.1) ∗ pt c arg20 (arg20.view.writes (Elt F) f20 W.2.2.2.2.2.2.2.2.1) ∗ pt c arg21 (arg21.view.writes (Elt F) f21 W.2.2.2.2.2.2.2.2.2)) -∗ K ⟨⟩))
        ⊢ wp frame (wpE (defs₀ (F := F)) Variants.none c none) Set.univ
            (cc0_qkv_rope_dgrad (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22) K } := by
  refine ⟨⟨?_, ?_, ?_, ?_, ?_, ?_, ?_, ?_, ?_, ?_⟩, fun f9 f10 f11 f12 f13 f16 f18 f19 K => ?run⟩
  case run =>
    iintro ⟨H1, H2, H3, H4, H5, H6, H9, H10, H11, H12, H13, H14, H16, H17, H18, H19, H20, H21, Hk⟩
    sl_exec_parts
    sl_step
    iapply Hk
    isplitl [H1]; · iexact H1
    isplitl [H2]; · iexact H2
    isplitl [H3]; · iexact H3
    isplitl [H4]; · iexact H4
    isplitl [H5]; · iexact H5
    isplitl [H6]; · iexact H6
    isplitl [H9]; · iexact H9
    isplitl [H10]; · iexact H10
    isplitl [H11]; · iexact H11
    isplitl [H12]; · iexact H12
    isplitl [H13]; · iexact H13
    isplitl [H14]; · iexact H14
    isplitl [H16]; · iexact H16
    isplitl [H17]; · iexact H17
    isplitl [H18]; · iexact H18
    isplitl [H19]; · iexact H19
    isplitl [H20]; · iexact H20
    iexact H21

end Cert.Kernel.Hand

end
-- ==== Proof.P.Points.lean ====
/- The body at one point on the windows' staging buffers and the scratch: what each of the three kinds of point asks for
   and leaves, for any claim about the results' blocks and the scratch that the points keep up. -/
module

public import proofs.«01_k».proof.Proof.P.Buffers
public import proofs.«01_k».proof.Proof.P.RunFirst
public import proofs.«01_k».proof.Proof.P.RunOdd
public import proofs.«01_k».proof.Proof.P.RunEven
public import proofs.«01_k».proof.Proof.Gen.Kernel.Frame

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationRel cellOf)

variable {F : FTy → Type} [BitOps F]

local notation "𝕄" => MT nD τ sig Unit (Elt F) ℕ (Pipeline.UD sig nD τ) ℕ

variable (m : (ℓ : Loc nD τ sig) → Buf (Elt F) ℓ)

/-! ## The body's operands -/

abbrev ms0 (t : Fin cfg0.N) : Memref sig .tc .vmem S2x28x128x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2x512x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2x512x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S2x128x3584 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S2x128 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S8x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .smem S28x36 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S2x128x3584 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S2x128x4608 .fp8e5m2 := win0_8.stage (cfg0.slots t 8)
abbrev hs8 (t : Fin cfg0.N) : (ms8 t).IsWhole := hstage0_8 ((cfg0.slots t 8).cast nbuf0_8)
abbrev ms9 (t : Fin cfg0.N) : Memref sig .tc .vmem S36x2x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S2x128x3584 .fp8e5m2 := win0_10.stage (cfg0.slots t 10)
abbrev hs10 (t : Fin cfg0.N) : (ms10 t).IsWhole := hstage0_10 ((cfg0.slots t 10).cast nbuf0_10)
abbrev ms11 (t : Fin cfg0.N) : Memref sig .tc .vmem S28x2x128 .f32 := win0_11.stage (cfg0.slots t 11)
abbrev hs11 (t : Fin cfg0.N) : (ms11 t).IsWhole := hstage0_11 ((cfg0.slots t 11).cast nbuf0_11)
abbrev sc14 : Memref sig .tc .vmem S4608x3584 .bf16 := Memref.whole cc0_scratch0
abbrev sc15 : Memref sig .tc .vmem S2x256x4608 .fp8e4m3 := Memref.whole cc0_scratch1
abbrev sc16 : Memref sig .tc .vmem S256x4608 .bf16 := Memref.whole cc0_scratch2
abbrev sc17 : Memref sig .tc .vmem S256x4608 .bf16 := Memref.whole cc0_scratch3
abbrev sc18 : Memref sig .tc .vmem S256x128 .f32 := Memref.whole cc0_scratch4
abbrev sc19 : Memref sig .tc .vmem S256x128 .f32 := Memref.whole cc0_scratch5
abbrev sc20 : Memref sig .tc .vmem S256x128 .f32 := Memref.whole cc0_scratch6
abbrev sc21 : Memref sig .tc .vmem S256x128 .f32 := Memref.whole cc0_scratch7

/-- The body at point `t`. -/
abbrev bodyAt (t : Fin cfg0.N) := cc0_qkv_rope_dgrad (F := F) (grid0.coords t) (ms0 t) (hs0 t) (ms1 t) (hs1 t) (ms2 t) (hs2 t) (ms3 t) (hs3 t) (ms4 t) (hs4 t) (ms5 t) (hs5 t) (ms6 t) (hs6 t) wM (Memref.isWhole_whole _) (ms7 t) (hs7 t) (ms8 t) (hs8 t) (ms9 t) (hs9 t) (ms10 t) (hs10 t) (ms11 t) (hs11 t) sc14 (Memref.isWhole_whole _) sc15 (Memref.isWhole_whole _) sc16 (Memref.isWhole_whole _) sc17 (Memref.isWhole_whole _) sc18 (Memref.isWhole_whole _) sc19 (Memref.isWhole_whole _) sc20 (Memref.isWhole_whole _) sc21 (Memref.isWhole_whole _) cc0_scratch8

/-- The weights as the kernel finds them. -/
abbrev XA (c : Dev nD) : Buf (Elt F) (wM.view.loc (c : Thread nD τ)) := V m c main_arg5

abbrev in0 (c : Dev nD) (t : Fin cfg0.N) : Bf (F := F) c (ms0 t) := (ms0 t).view.rep (iblk m c 0 t)
abbrev in1 (c : Dev nD) (t : Fin cfg0.N) : Bf (F := F) c (ms1 t) := (ms1 t).view.rep (iblk m c 1 t)
abbrev in2 (c : Dev nD) (t : Fin cfg0.N) : Bf (F := F) c (ms2 t) := (ms2 t).view.rep (iblk m c 2 t)
abbrev in3 (c : Dev nD) (t : Fin cfg0.N) : Bf (F := F) c (ms3 t) := (ms3 t).view.rep (iblk m c 3 t)
abbrev in4 (c : Dev nD) (t : Fin cfg0.N) : Bf (F := F) c (ms4 t) := (ms4 t).view.rep (iblk m c 4 t)
abbrev in5 (c : Dev nD) (t : Fin cfg0.N) : Bf (F := F) c (ms5 t) := (ms5 t).view.rep (iblk m c 5 t)
abbrev in6 (c : Dev nD) (t : Fin cfg0.N) : Bf (F := F) c (ms6 t) := (ms6 t).view.rep (iblk m c 6 t)

/-! ## The three kinds of point: the stores of each, from what it finds -/

abbrev firstAt (c : Dev nD) (t : Fin cfg0.N) (h1 : k0_cond1 (grid0.coords t) = 1#1) (h3 : ¬ k0_cond3 (grid0.coords t) = 1#1) (h4 : ¬ k0_cond4 (grid0.coords t) = 1#1) (f20 : Bf (F := F) c sc20) :=
  runFirst (F := F) c (grid0.coords t) (XA m c) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc14 (Memref.isWhole_whole _) sc16 (Memref.isWhole_whole _) sc17 (Memref.isWhole_whole _) sc18 (Memref.isWhole_whole _) sc19 (Memref.isWhole_whole _) sc20 (Memref.isWhole_whole _) sc21 (Memref.isWhole_whole _) h1 h3 h4 (in0 m c t) (in1 m c t) (in2 m c t) (in4 m c t) (in5 m c t) (in6 m c t) f20

abbrev oddAt (c : Dev nD) (t : Fin cfg0.N) (h1 : ¬ k0_cond1 (grid0.coords t) = 1#1) (h3 : k0_cond3 (grid0.coords t) = 1#1) (h4 : ¬ k0_cond4 (grid0.coords t) = 1#1) (f14 : Bf (F := F) c sc14) (f16 : Bf (F := F) c sc16) (f20 : Bf (F := F) c sc20) (f21 : Bf (F := F) c sc21) :=
  runOdd (F := F) c (grid0.coords t) (ms0 t) (hs0 t) (ms1 t) (hs1 t) (ms2 t) (hs2 t) (ms3 t) (hs3 t) (ms4 t) (hs4 t) (ms5 t) (hs5 t) (ms6 t) (hs6 t) wM (Memref.isWhole_whole _) (ms7 t) (hs7 t) (ms8 t) (hs8 t) (ms9 t) (hs9 t) (ms10 t) (hs10 t) (ms11 t) (hs11 t) sc14 (Memref.isWhole_whole _) sc15 (Memref.isWhole_whole _) sc16 (Memref.isWhole_whole _) sc17 (Memref.isWhole_whole _) sc18 (Memref.isWhole_whole _) sc19 (Memref.isWhole_whole _) sc20 (Memref.isWhole_whole _) sc21 (Memref.isWhole_whole _) cc0_scratch8 h1 h3 h4 (in0 m c t) (in1 m c t) (in2 m c t) (in3 m c t) (in4 m c t) (in5 m c t) f14 f16 f20 f21

abbrev evenAt (c : Dev nD) (t : Fin cfg0.N) (h1 : ¬ k0_cond1 (grid0.coords t) = 1#1) (h3 : ¬ k0_cond3 (grid0.coords t) = 1#1) (h4 : k0_cond4 (grid0.coords t) = 1#1) (f14 : Bf (F := F) c sc14) (f17 : Bf (F := F) c sc17) (f20 : Bf (F := F) c sc20) (f21 : Bf (F := F) c sc21) :=
  runEven (F := F) c (grid0.coords t) (ms0 t) (hs0 t) (ms1 t) (hs1 t) (ms2 t) (hs2 t) (ms3 t) (hs3 t) (ms4 t) (hs4 t) (ms5 t) (hs5 t) (ms6 t) (hs6 t) wM (Memref.isWhole_whole _) (ms7 t) (hs7 t) (ms8 t) (hs8 t) (ms9 t) (hs9 t) (ms10 t) (hs10 t) (ms11 t) (hs11 t) sc14 (Memref.isWhole_whole _) sc15 (Memref.isWhole_whole _) sc16 (Memref.isWhole_whole _) sc17 (Memref.isWhole_whole _) sc18 (Memref.isWhole_whole _) sc19 (Memref.isWhole_whole _) sc20 (Memref.isWhole_whole _) sc21 (Memref.isWhole_whole _) cc0_scratch8 h1 h3 h4 (in0 m c t) (in1 m c t) (in2 m c t) (in3 m c t) (in4 m c t) (in5 m c t) f14 f17 f20 f21

/-- A claim about what the points leave: of each result's block at a point, and of the weights' scratch and the two
    operand buffers before a point. -/
structure Spec where
  out7 : (c : Dev nD) → (t : Fin cfg0.N) → Vec F S2x128x3584 .bf16 → Prop
  out8 : (c : Dev nD) → (t : Fin cfg0.N) → Vec F S2x128x4608 .fp8e5m2 → Prop
  out9 : (c : Dev nD) → (t : Fin cfg0.N) → Vec F S36x2x128 .f32 → Prop
  out10 : (c : Dev nD) → (t : Fin cfg0.N) → Vec F S2x128x3584 .fp8e5m2 → Prop
  out11 : (c : Dev nD) → (t : Fin cfg0.N) → Vec F S28x2x128 .f32 → Prop
  inv : (c : Dev nD) → ℕ → Bf (F := F) c sc14 → Bf (F := F) c sc16 → Bf (F := F) c sc17 → Prop

/-- Each kind of point keeps the claim up. -/
structure Spec.Kept (S : Spec (F := F)) : Prop where
  start : ∀ c f14 f16 f17, S.inv c 0 f14 f16 f17
  first : ∀ (c : Dev nD) (t : Fin cfg0.N) (h1 : k0_cond1 (grid0.coords t) = 1#1) (h3 : ¬ k0_cond3 (grid0.coords t) = 1#1) (h4 : ¬ k0_cond4 (grid0.coords t) = 1#1) (f9 : Bf (F := F) c (ms7 t)) (f10 : Bf (F := F) c (ms8 t)) (f11 : Bf (F := F) c (ms9 t)) (f12 : Bf (F := F) c (ms10 t)) (f13 : Bf (F := F) c (ms11 t)) (f14 : Bf (F := F) c sc14) (f16 : Bf (F := F) c sc16) (f17 : Bf (F := F) c sc17) (f20 : Bf (F := F) c sc20) (f21 : Bf (F := F) c sc21), t.val = 0 →
    S.out7 c t ((ms7 t).view.read (Elt F) f9) ∧ S.out8 c t ((ms8 t).view.read (Elt F) ((ms8 t).view.writes (Elt F) f10 (firstAt m c t h1 h3 h4 f20).1.1)) ∧ S.out9 c t ((ms9 t).view.read (Elt F) ((ms9 t).view.writes (Elt F) f11 (firstAt m c t h1 h3 h4 f20).1.2.1)) ∧ S.out10 c t ((ms10 t).view.read (Elt F) f12) ∧ S.out11 c t ((ms11 t).view.read (Elt F) f13)
    ∧ S.inv c (t.val + 1) (sc14.view.writes (Elt F) f14 (firstAt m c t h1 h3 h4 f20).1.2.2.1) (sc16.view.writes (Elt F) f16 (firstAt m c t h1 h3 h4 f20).1.2.2.2.1) f17
  odd : ∀ (c : Dev nD) (t : Fin cfg0.N) (h1 : ¬ k0_cond1 (grid0.coords t) = 1#1) (h3 : k0_cond3 (grid0.coords t) = 1#1) (h4 : ¬ k0_cond4 (grid0.coords t) = 1#1) (f9 : Bf (F := F) c (ms7 t)) (f10 : Bf (F := F) c (ms8 t)) (f11 : Bf (F := F) c (ms9 t)) (f12 : Bf (F := F) c (ms10 t)) (f13 : Bf (F := F) c (ms11 t)) (f14 : Bf (F := F) c sc14) (f16 : Bf (F := F) c sc16) (f17 : Bf (F := F) c sc17) (f20 : Bf (F := F) c sc20) (f21 : Bf (F := F) c sc21), S.inv c t.val f14 f16 f17 →
    S.out7 c t ((ms7 t).view.read (Elt F) ((ms7 t).view.writes (Elt F) f9 (oddAt m c t h1 h3 h4 f14 f16 f20 f21).1.1)) ∧ S.out8 c t ((ms8 t).view.read (Elt F) ((ms8 t).view.writes (Elt F) f10 (oddAt m c t h1 h3 h4 f14 f16 f20 f21).1.2.1)) ∧ S.out9 c t ((ms9 t).view.read (Elt F) ((ms9 t).view.writes (Elt F) f11 (oddAt m c t h1 h3 h4 f14 f16 f20 f21).1.2.2.1)) ∧ S.out10 c t ((ms10 t).view.read (Elt F) ((ms10 t).view.writes (Elt F) f12 (oddAt m c t h1 h3 h4 f14 f16 f20 f21).1.2.2.2.1)) ∧ S.out11 c t ((ms11 t).view.read (Elt F) ((ms11 t).view.writes (Elt F) f13 (oddAt m c t h1 h3 h4 f14 f16 f20 f21).1.2.2.2.2.1))
    ∧ S.inv c (t.val + 1) f14 f16 (sc17.view.writes (Elt F) f17 (oddAt m c t h1 h3 h4 f14 f16 f20 f21).1.2.2.2.2.2.1)
  even : ∀ (c : Dev nD) (t : Fin cfg0.N) (h1 : ¬ k0_cond1 (grid0.coords t) = 1#1) (h3 : ¬ k0_cond3 (grid0.coords t) = 1#1) (h4 : k0_cond4 (grid0.coords t) = 1#1) (f9 : Bf (F := F) c (ms7 t)) (f10 : Bf (F := F) c (ms8 t)) (f11 : Bf (F := F) c (ms9 t)) (f12 : Bf (F := F) c (ms10 t)) (f13 : Bf (F := F) c (ms11 t)) (f14 : Bf (F := F) c sc14) (f16 : Bf (F := F) c sc16) (f17 : Bf (F := F) c sc17) (f20 : Bf (F := F) c sc20) (f21 : Bf (F := F) c sc21), S.inv c t.val f14 f16 f17 →
    S.out7 c t ((ms7 t).view.read (Elt F) ((ms7 t).view.writes (Elt F) f9 (evenAt m c t h1 h3 h4 f14 f17 f20 f21).1.1)) ∧ S.out8 c t ((ms8 t).view.read (Elt F) ((ms8 t).view.writes (Elt F) f10 (evenAt m c t h1 h3 h4 f14 f17 f20 f21).1.2.1)) ∧ S.out9 c t ((ms9 t).view.read (Elt F) ((ms9 t).view.writes (Elt F) f11 (evenAt m c t h1 h3 h4 f14 f17 f20 f21).1.2.2.1)) ∧ S.out10 c t ((ms10 t).view.read (Elt F) ((ms10 t).view.writes (Elt F) f12 (evenAt m c t h1 h3 h4 f14 f17 f20 f21).1.2.2.2.1)) ∧ S.out11 c t ((ms11 t).view.read (Elt F) ((ms11 t).view.writes (Elt F) f13 (evenAt m c t h1 h3 h4 f14 f17 f20 f21).1.2.2.2.2.1))
    ∧ S.inv c (t.val + 1) f14 (sc16.view.writes (Elt F) f16 (evenAt m c t h1 h3 h4 f14 f17 f20 f21).1.2.2.2.2.2.1) f17

variable {m} in
/-- The claim that says nothing. -/
def Spec.any : Spec (F := F) := ⟨fun _ _ _ => True, fun _ _ _ => True, fun _ _ _ => True, fun _ _ _ => True, fun _ _ _ => True, fun _ _ _ _ _ => True⟩
theorem Spec.any_kept : (Spec.any (F := F)).Kept m :=
  ⟨fun _ _ _ _ => trivial, by intros; exact ⟨trivial, trivial, trivial, trivial, trivial, trivial⟩, by intros; exact ⟨trivial, trivial, trivial, trivial, trivial, trivial⟩,
    by intros; exact ⟨trivial, trivial, trivial, trivial, trivial, trivial⟩⟩

variable (S : Spec (F := F))

/-- The invariant before point `n`. -/
def Inv (c : Dev nD) (n : ℕ) : sProp 𝕄 :=
  iprop((∃ f14 f16 f17, ⌜S.inv c n f14 f16 f17⌝ ∗ pt c sc14 f14 ∗ pt c sc16 f16 ∗ pt c sc17 f17)
    ∗ (∃ f, pt c sc18 f) ∗ (∃ f, pt c sc19 f) ∗ (∃ f, pt c sc20 f) ∗ (∃ f, pt c sc21 f)
    ∗ ((∃ f, slotP c 0 f) ∗ (∃ f, slotP c 1 f)) ∗ (∃ r, prngReg c r) ∗ (cellP c 0 ∗ cellP c 1) ∗ bigSep Finset.univ (homeP c (XA m c)))

/-- The windows' buffers as a point finds them, -/
abbrev Finds (c : Dev nD) (t : Fin cfg0.N) : sProp 𝕄 :=
  iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t)
    ∗ (∃ Y, owns (c : Thread nD τ) (ms7 t) fullShare Y) ∗ (∃ Y, owns (c : Thread nD τ) (ms8 t) fullShare Y) ∗ (∃ Y, owns (c : Thread nD τ) (ms9 t) fullShare Y) ∗ (∃ Y, owns (c : Thread nD τ) (ms10 t) fullShare Y) ∗ (∃ Y, owns (c : Thread nD τ) (ms11 t) fullShare Y))
/-- and as it leaves them. -/
abbrev Leaves (c : Dev nD) (t : Fin cfg0.N) : sProp 𝕄 :=
  iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t)
    ∗ (∃ X, ⌜S.out7 c t X⌝ ∗ owns (c : Thread nD τ) (ms7 t) fullShare X) ∗ (∃ X, ⌜S.out8 c t X⌝ ∗ owns (c : Thread nD τ) (ms8 t) fullShare X) ∗ (∃ X, ⌜S.out9 c t X⌝ ∗ owns (c : Thread nD τ) (ms9 t) fullShare X) ∗ (∃ X, ⌜S.out10 c t X⌝ ∗ owns (c : Thread nD τ) (ms10 t) fullShare X) ∗ (∃ X, ⌜S.out11 c t X⌝ ∗ owns (c : Thread nD τ) (ms11 t) fullShare X))

end Cert.Kernel.Hand

end
-- ==== Proof.P.Body.lean ====
/- The body's run at each kind of point, on the windows' staging buffers and the scratch. -/
module

public import proofs.«01_k».proof.Proof.P.Points

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationRel cellOf)

variable {F : FTy → Type} [BitOps F]

local notation "𝕄" => MT nD τ sig Unit (Elt F) ℕ (Pipeline.UD sig nD τ) ℕ

variable (m : (ℓ : Loc nD τ sig) → Buf (Elt F) ℓ) (S : Spec (F := F))

attribute [local irreducible] runFirst runOdd runEven

set_option maxHeartbeats 4000000 in
/-- A point of the first kind. -/
theorem first_body (hS : S.Kept m) (c : Dev nD) (t : Fin cfg0.N) (h1 : k0_cond1 (grid0.coords t) = 1#1) (h3 : ¬ k0_cond3 (grid0.coords t) = 1#1) (h4 : ¬ k0_cond4 (grid0.coords t) = 1#1) (h0 : t.val = 0) :
    iprop(Inv m S c t.val ∗ (∃ W, owes (c : Thread nD τ) 0 W) ∗ Finds m c t)
      ⊢ wp frame (wpE (defs₀ (F := F)) Variants.none (c : Thread nD τ) none) Set.univ (bodyAt t)
          (fun _ => iprop(Inv m S c (t.val + 1) ∗ (∃ W, owes (c : Thread nD τ) 0 W) ∗ Leaves m S c t)) := by
  unfold Inv Finds owns
  iintro ⟨⟨⟨%f14, %f16, %f17, %hI, H14, H16, H17⟩, ⟨%f18, H18⟩, ⟨%f19, H19⟩, ⟨%f20, H20⟩, ⟨%f21, H21⟩, ⟨Hs0, Hs1⟩, Hr, ⟨Hc0, Hc1⟩, Hh⟩, HW, ⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, ⟨%Y9, %f9, -, H9⟩, ⟨%Y10, %f10, -, H10⟩, ⟨%Y11, %f11, -, H11⟩, ⟨%Y12, %f12, -, H12⟩, ⟨%Y13, %f13, -, H13⟩⟩
  ihave H1 := (pointsTo_rep_entails (c : Thread nD τ) (ms0 t) g1 fullShare) $$ H1
  rw [hg1]
  ihave H2 := (pointsTo_rep_entails (c : Thread nD τ) (ms1 t) g2 fullShare) $$ H2
  rw [hg2]
  ihave H3 := (pointsTo_rep_entails (c : Thread nD τ) (ms2 t) g3 fullShare) $$ H3
  rw [hg3]
  ihave H5 := (pointsTo_rep_entails (c : Thread nD τ) (ms4 t) g5 fullShare) $$ H5
  rw [hg5]
  ihave H6 := (pointsTo_rep_entails (c : Thread nD τ) (ms5 t) g6 fullShare) $$ H6
  rw [hg6]
  ihave H7 := (pointsTo_rep_entails (c : Thread nD τ) (ms6 t) g7 fullShare) $$ H7
  rw [hg7]
  obtain ⟨k9, k10, k11, k12, k13, kI⟩ := hS.first c t h1 h3 h4 f9 f10 f11 f12 f13 f14 f16 f17 f20 f21 h0
  iapply ((firstAt m c t h1 h3 h4 f20).2 f10 f11 f14 f16 f18 f19 _)
  isplitl [H1]; · iexact H1
  isplitl [H2]; · iexact H2
  isplitl [H3]; · iexact H3
  isplitl [H5]; · iexact H5
  isplitl [H6]; · iexact H6
  isplitl [H7]; · iexact H7
  isplitl [H10]; · iexact H10
  isplitl [H11]; · iexact H11
  isplitl [H14]; · iexact H14
  isplitl [H16]; · iexact H16
  isplitl [H18]; · iexact H18
  isplitl [H19]; · iexact H19
  isplitl [H20]; · iexact H20
  isplitl [HW Hh Hc0 Hc1 Hs0 Hs1]
  · isplitl [HW]; · iexact HW
    isplitl [Hh]; · iexact Hh
    isplitl [Hc0]; · iexact Hc0
    isplitl [Hs0]; · iexact Hs0
    isplitl [Hc1]; · iexact Hc1
    iexact Hs1
  iintro ⟨H1, H2, H3, H5, H6, H7, H10, H11, H14, H16, H18, H19, H20, HW, Hh, Hc0, Hs0, Hc1, Hs1⟩
  isplitl [H14 H16 H17 H18 H19 H20 H21 Hs0 Hs1 Hr Hc0 Hc1 Hh]
  · isplitl [H14 H16 H17]
    · iexists _, _, _; isplitr; swap
      · isplitl [H14]; · iexact H14
        isplitl [H16]; · iexact H16
        iexact H17
      ipureintro; exact kI
    isplitl [H18]; · iexists _; iexact H18
    isplitl [H19]; · iexists _; iexact H19
    isplitl [H20]; · iexists _; iexact H20
    isplitl [H21]; · iexists _; iexact H21
    isplitl [Hs0 Hs1]
    · isplitl [Hs0]; · iexact Hs0
      iexact Hs1
    isplitl [Hr]; · iexact Hr
    isplitl [Hc0 Hc1]
    · isplitl [Hc0]; · iexact Hc0
      iexact Hc1
    iexact Hh
  isplitl [HW]; · iexact HW
  isplitl [H1]
  · unfold owns; iexists _; isplitr; swap; · iexact H1
    ipureintro; exact View.read_rep _ _
  isplitl [H2]
  · unfold owns; iexists _; isplitr; swap; · iexact H2
    ipureintro; exact View.read_rep _ _
  isplitl [H3]
  · unfold owns; iexists _; isplitr; swap; · iexact H3
    ipureintro; exact View.read_rep _ _
  isplitl [H4]
  · unfold owns; iexists _; isplitr; swap; · iexact H4
    ipureintro; exact hg4
  isplitl [H5]
  · unfold owns; iexists _; isplitr; swap; · iexact H5
    ipureintro; exact View.read_rep _ _
  isplitl [H6]
  · unfold owns; iexists _; isplitr; swap; · iexact H6
    ipureintro; exact View.read_rep _ _
  isplitl [H7]
  · unfold owns; iexists _; isplitr; swap; · iexact H7
    ipureintro; exact View.read_rep _ _
  isplitl [H9]
  · iexists _; isplitr; swap
    · unfold owns; iexists _; isplitr; swap; · iexact H9
      ipureintro; rfl
    ipureintro; exact k9
  isplitl [H10]
  · iexists _; isplitr; swap
    · unfold owns; iexists _; isplitr; swap; · iexact H10
      ipureintro; rfl
    ipureintro; exact k10
  isplitl [H11]
  · iexists _; isplitr; swap
    · unfold owns; iexists _; isplitr; swap; · iexact H11
      ipureintro; rfl
    ipureintro; exact k11
  isplitl [H12]
  · iexists _; isplitr; swap
    · unfold owns; iexists _; isplitr; swap; · iexact H12
      ipureintro; rfl
    ipureintro; exact k12
  iexists _; isplitr; swap
  · unfold owns; iexists _; isplitr; swap; · iexact H13
    ipureintro; rfl
  ipureintro; exact k13

set_option maxHeartbeats 4000000 in
/-- A point of the odd kind. -/
theorem odd_body (hS : S.Kept m) (c : Dev nD) (t : Fin cfg0.N) (h1 : ¬ k0_cond1 (grid0.coords t) = 1#1) (h3 : k0_cond3 (grid0.coords t) = 1#1) (h4 : ¬ k0_cond4 (grid0.coords t) = 1#1) :
    iprop(Inv m S c t.val ∗ (∃ W, owes (c : Thread nD τ) 0 W) ∗ Finds m c t)
      ⊢ wp frame (wpE (defs₀ (F := F)) Variants.none (c : Thread nD τ) none) Set.univ (bodyAt t)
          (fun _ => iprop(Inv m S c (t.val + 1) ∗ (∃ W, owes (c : Thread nD τ) 0 W) ∗ Leaves m S c t)) := by
  unfold Inv Finds owns
  iintro ⟨⟨⟨%f14, %f16, %f17, %hI, H14, H16, H17⟩, ⟨%f18, H18⟩, ⟨%f19, H19⟩, ⟨%f20, H20⟩, ⟨%f21, H21⟩, ⟨Hs0, Hs1⟩, Hr, ⟨Hc0, Hc1⟩, Hh⟩, HW, ⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, ⟨%Y9, %f9, -, H9⟩, ⟨%Y10, %f10, -, H10⟩, ⟨%Y11, %f11, -, H11⟩, ⟨%Y12, %f12, -, H12⟩, ⟨%Y13, %f13, -, H13⟩⟩
  ihave H1 := (pointsTo_rep_entails (c : Thread nD τ) (ms0 t) g1 fullShare) $$ H1
  rw [hg1]
  ihave H2 := (pointsTo_rep_entails (c : Thread nD τ) (ms1 t) g2 fullShare) $$ H2
  rw [hg2]
  ihave H3 := (pointsTo_rep_entails (c : Thread nD τ) (ms2 t) g3 fullShare) $$ H3
  rw [hg3]
  ihave H4 := (pointsTo_rep_entails (c : Thread nD τ) (ms3 t) g4 fullShare) $$ H4
  rw [hg4]
  ihave H5 := (pointsTo_rep_entails (c : Thread nD τ) (ms4 t) g5 fullShare) $$ H5
  rw [hg5]
  ihave H6 := (pointsTo_rep_entails (c : Thread nD τ) (ms5 t) g6 fullShare) $$ H6
  rw [hg6]
  obtain ⟨k9, k10, k11, k12, k13, kI⟩ := hS.odd c t h1 h3 h4 f9 f10 f11 f12 f13 f14 f16 f17 f20 f21 hI
  iapply ((oddAt m c t h1 h3 h4 f14 f16 f20 f21).2 f9 f10 f11 f12 f13 f17 f18 f19 _)
  isplitl [H1]; · iexact H1
  isplitl [H2]; · iexact H2
  isplitl [H3]; · iexact H3
  isplitl [H4]; · iexact H4
  isplitl [H5]; · iexact H5
  isplitl [H6]; · iexact H6
  isplitl [H9]; · iexact H9
  isplitl [H10]; · iexact H10
  isplitl [H11]; · iexact H11
  isplitl [H12]; · iexact H12
  isplitl [H13]; · iexact H13
  isplitl [H14]; · iexact H14
  isplitl [H16]; · iexact H16
  isplitl [H17]; · iexact H17
  isplitl [H18]; · iexact H18
  isplitl [H19]; · iexact H19
  isplitl [H20]; · iexact H20
  isplitl [H21]; · iexact H21
  iintro ⟨H1, H2, H3, H4, H5, H6, H9, H10, H11, H12, H13, H14, H16, H17, H18, H19, H20, H21⟩
  isplitl [H14 H16 H17 H18 H19 H20 H21 Hs0 Hs1 Hr Hc0 Hc1 Hh]
  · isplitl [H14 H16 H17]
    · iexists _, _, _; isplitr; swap
      · isplitl [H14]; · iexact H14
        isplitl [H16]; · iexact H16
        iexact H17
      ipureintro; exact kI
    isplitl [H18]; · iexists _; iexact H18
    isplitl [H19]; · iexists _; iexact H19
    isplitl [H20]; · iexists _; iexact H20
    isplitl [H21]; · iexists _; iexact H21
    isplitl [Hs0 Hs1]
    · isplitl [Hs0]; · iexact Hs0
      iexact Hs1
    isplitl [Hr]; · iexact Hr
    isplitl [Hc0 Hc1]
    · isplitl [Hc0]; · iexact Hc0
      iexact Hc1
    iexact Hh
  isplitl [HW]; · iexact HW
  isplitl [H1]
  · unfold owns; iexists _; isplitr; swap; · iexact H1
    ipureintro; exact View.read_rep _ _
  isplitl [H2]
  · unfold owns; iexists _; isplitr; swap; · iexact H2
    ipureintro; exact View.read_rep _ _
  isplitl [H3]
  · unfold owns; iexists _; isplitr; swap; · iexact H3
    ipureintro; exact View.read_rep _ _
  isplitl [H4]
  · unfold owns; iexists _; isplitr; swap; · iexact H4
    ipureintro; exact View.read_rep _ _
  isplitl [H5]
  · unfold owns; iexists _; isplitr; swap; · iexact H5
    ipureintro; exact View.read_rep _ _
  isplitl [H6]
  · unfold owns; iexists _; isplitr; swap; · iexact H6
    ipureintro; exact View.read_rep _ _
  isplitl [H7]
  · unfold owns; iexists _; isplitr; swap; · iexact H7
    ipureintro; exact hg7
  isplitl [H9]
  · iexists _; isplitr; swap
    · unfold owns; iexists _; isplitr; swap; · iexact H9
      ipureintro; rfl
    ipureintro; exact k9
  isplitl [H10]
  · iexists _; isplitr; swap
    · unfold owns; iexists _; isplitr; swap; · iexact H10
      ipureintro; rfl
    ipureintro; exact k10
  isplitl [H11]
  · iexists _; isplitr; swap
    · unfold owns; iexists _; isplitr; swap; · iexact H11
      ipureintro; rfl
    ipureintro; exact k11
  isplitl [H12]
  · iexists _; isplitr; swap
    · unfold owns; iexists _; isplitr; swap; · iexact H12
      ipureintro; rfl
    ipureintro; exact k12
  iexists _; isplitr; swap
  · unfold owns; iexists _; isplitr; swap; · iexact H13
    ipureintro; rfl
  ipureintro; exact k13

set_option maxHeartbeats 4000000 in
/-- A point of the even kind. -/
theorem even_body (hS : S.Kept m) (c : Dev nD) (t : Fin cfg0.N) (h1 : ¬ k0_cond1 (grid0.coords t) = 1#1) (h3 : ¬ k0_cond3 (grid0.coords t) = 1#1) (h4 : k0_cond4 (grid0.coords t) = 1#1) :
    iprop(Inv m S c t.val ∗ (∃ W, owes (c : Thread nD τ) 0 W) ∗ Finds m c t)
      ⊢ wp frame (wpE (defs₀ (F := F)) Variants.none (c : Thread nD τ) none) Set.univ (bodyAt t)
          (fun _ => iprop(Inv m S c (t.val + 1) ∗ (∃ W, owes (c : Thread nD τ) 0 W) ∗ Leaves m S c t)) := by
  unfold Inv Finds owns
  iintro ⟨⟨⟨%f14, %f16, %f17, %hI, H14, H16, H17⟩, ⟨%f18, H18⟩, ⟨%f19, H19⟩, ⟨%f20, H20⟩, ⟨%f21, H21⟩, ⟨Hs0, Hs1⟩, Hr, ⟨Hc0, Hc1⟩, Hh⟩, HW, ⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, ⟨%Y9, %f9, -, H9⟩, ⟨%Y10, %f10, -, H10⟩, ⟨%Y11, %f11, -, H11⟩, ⟨%Y12, %f12, -, H12⟩, ⟨%Y13, %f13, -, H13⟩⟩
  ihave H1 := (pointsTo_rep_entails (c : Thread nD τ) (ms0 t) g1 fullShare) $$ H1
  rw [hg1]
  ihave H2 := (pointsTo_rep_entails (c : Thread nD τ) (ms1 t) g2 fullShare) $$ H2
  rw [hg2]
  ihave H3 := (pointsTo_rep_entails (c : Thread nD τ) (ms2 t) g3 fullShare) $$ H3
  rw [hg3]
  ihave H4 := (pointsTo_rep_entails (c : Thread nD τ) (ms3 t) g4 fullShare) $$ H4
  rw [hg4]
  ihave H5 := (pointsTo_rep_entails (c : Thread nD τ) (ms4 t) g5 fullShare) $$ H5
  rw [hg5]
  ihave H6 := (pointsTo_rep_entails (c : Thread nD τ) (ms5 t) g6 fullShare) $$ H6
  rw [hg6]
  obtain ⟨k9, k10, k11, k12, k13, kI⟩ := hS.even c t h1 h3 h4 f9 f10 f11 f12 f13 f14 f16 f17 f20 f21 hI
  iapply ((evenAt m c t h1 h3 h4 f14 f17 f20 f21).2 f9 f10 f11 f12 f13 f16 f18 f19 _)
  isplitl [H1]; · iexact H1
  isplitl [H2]; · iexact H2
  isplitl [H3]; · iexact H3
  isplitl [H4]; · iexact H4
  isplitl [H5]; · iexact H5
  isplitl [H6]; · iexact H6
  isplitl [H9]; · iexact H9
  isplitl [H10]; · iexact H10
  isplitl [H11]; · iexact H11
  isplitl [H12]; · iexact H12
  isplitl [H13]; · iexact H13
  isplitl [H14]; · iexact H14
  isplitl [H16]; · iexact H16
  isplitl [H17]; · iexact H17
  isplitl [H18]; · iexact H18
  isplitl [H19]; · iexact H19
  isplitl [H20]; · iexact H20
  isplitl [H21]; · iexact H21
  iintro ⟨H1, H2, H3, H4, H5, H6, H9, H10, H11, H12, H13, H14, H16, H17, H18, H19, H20, H21⟩
  isplitl [H14 H16 H17 H18 H19 H20 H21 Hs0 Hs1 Hr Hc0 Hc1 Hh]
  · isplitl [H14 H16 H17]
    · iexists _, _, _; isplitr; swap
      · isplitl [H14]; · iexact H14
        isplitl [H16]; · iexact H16
        iexact H17
      ipureintro; exact kI
    isplitl [H18]; · iexists _; iexact H18
    isplitl [H19]; · iexists _; iexact H19
    isplitl [H20]; · iexists _; iexact H20
    isplitl [H21]; · iexists _; iexact H21
    isplitl [Hs0 Hs1]
    · isplitl [Hs0]; · iexact Hs0
      iexact Hs1
    isplitl [Hr]; · iexact Hr
    isplitl [Hc0 Hc1]
    · isplitl [Hc0]; · iexact Hc0
      iexact Hc1
    iexact Hh
  isplitl [HW]; · iexact HW
  isplitl [H1]
  · unfold owns; iexists _; isplitr; swap; · iexact H1
    ipureintro; exact View.read_rep _ _
  isplitl [H2]
  · unfold owns; iexists _; isplitr; swap; · iexact H2
    ipureintro; exact View.read_rep _ _
  isplitl [H3]
  · unfold owns; iexists _; isplitr; swap; · iexact H3
    ipureintro; exact View.read_rep _ _
  isplitl [H4]
  · unfold owns; iexists _; isplitr; swap; · iexact H4
    ipureintro; exact View.read_rep _ _
  isplitl [H5]
  · unfold owns; iexists _; isplitr; swap; · iexact H5
    ipureintro; exact View.read_rep _ _
  isplitl [H6]
  · unfold owns; iexists _; isplitr; swap; · iexact H6
    ipureintro; exact View.read_rep _ _
  isplitl [H7]
  · unfold owns; iexists _; isplitr; swap; · iexact H7
    ipureintro; exact hg7
  isplitl [H9]
  · iexists _; isplitr; swap
    · unfold owns; iexists _; isplitr; swap; · iexact H9
      ipureintro; rfl
    ipureintro; exact k9
  isplitl [H10]
  · iexists _; isplitr; swap
    · unfold owns; iexists _; isplitr; swap; · iexact H10
      ipureintro; rfl
    ipureintro; exact k10
  isplitl [H11]
  · iexists _; isplitr; swap
    · unfold owns; iexists _; isplitr; swap; · iexact H11
      ipureintro; rfl
    ipureintro; exact k11
  isplitl [H12]
  · iexists _; isplitr; swap
    · unfold owns; iexists _; isplitr; swap; · iexact H12
      ipureintro; rfl
    ipureintro; exact k12
  iexists _; isplitr; swap
  · unfold owns; iexists _; isplitr; swap; · iexact H13
    ipureintro; rfl
  ipureintro; exact k13

end Cert.Kernel.Hand

end
-- ==== Proof.P.Frame.lean ====
/- The launch: the body obligation at every point, the whole run's post for any claim that the points keep up, and the
   frame. -/
module

public import proofs.«01_k».proof.Proof.P.Body
public import Idealize.ShloMosaic.Lib.Pipeline.ArrRel

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationRel cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg) (S : Spec (F := F))

/-! ## The kinds of point -/

theorem cond1_iff : ∀ t : Fin cfg0.N, k0_cond1 (grid0.coords t) = 1#1 ↔ t.val = 0 := by decide +kernel
theorem cond3_iff : ∀ t : Fin cfg0.N, k0_cond3 (grid0.coords t) = 1#1 ↔ t.val % 2 = 1 := by decide +kernel
theorem cond4_iff : ∀ t : Fin cfg0.N, k0_cond4 (grid0.coords t) = 1#1 ↔ t.val % 2 = 0 ∧ t.val ≠ 0 := by decide +kernel

theorem point_body (hS : S.Kept m) (c : Dev nD) (t : Fin cfg0.N) :
    iprop(Inv m S c t.val ∗ (∃ W, owes (c : Thread nD τ) 0 W) ∗ Finds m c t)
      ⊢ wp frame (wpE (defs₀ (F := F)) Variants.none (c : Thread nD τ) none) Set.univ (bodyAt t)
          (fun _ => iprop(Inv m S c (t.val + 1) ∗ (∃ W, owes (c : Thread nD τ) 0 W) ∗ Leaves m S c t)) := by
  by_cases h0 : t.val = 0
  · exact first_body m S hS c t ((cond1_iff t).2 h0) (fun h => by have := (cond3_iff t).1 h; omega) (fun h => ((cond4_iff t).1 h).2 h0) h0
  · by_cases h1 : t.val % 2 = 1
    · exact odd_body m S hS c t (fun h => h0 ((cond1_iff t).1 h)) ((cond3_iff t).2 h1) (fun h => by have := ((cond4_iff t).1 h).1; omega)
    · exact even_body m S hS c t (fun h => h0 ((cond1_iff t).1 h)) (fun h => h1 ((cond3_iff t).1 h)) ((cond4_iff t).2 ⟨by omega, h0⟩)

/-! ## The proof data -/

/-- The windows of which a claim says something less than the exact contents: the results'. -/
def loose : Fin cfg0.W → Bool := fun w => decide (7 ≤ w.val)

def Rl (c : Dev nD) : (w : Fin cfg0.W) → Fin cfg0.N → ((cfg0.win w).block.Idx → Elt F (cfg0.win w).elt) → Prop := fun w t X =>
  match w with
  | ⟨7, _⟩ => S.out7 c t X
  | ⟨8, _⟩ => S.out8 c t X
  | ⟨9, _⟩ => S.out9 c t X
  | ⟨10, _⟩ => S.out10 c t X
  | ⟨11, _⟩ => S.out11 c t X
  | ⟨0, _⟩ | ⟨1, _⟩ | ⟨2, _⟩ | ⟨3, _⟩ | ⟨4, _⟩ | ⟨5, _⟩ | ⟨6, _⟩ => True

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => fun _ => Classical.arbitrary _
    | ⟨8, _⟩ => fun _ => Classical.arbitrary _
    | ⟨9, _⟩ => fun _ => Classical.arbitrary _
    | ⟨10, _⟩ => fun _ => Classical.arbitrary _
    | ⟨11, _⟩ => fun _ => Classical.arbitrary _
  Φ t := Inv m S c t.val
  q _ := fullShare
  owed _ := 0

theorem A_eq (c : Dev nD) (w : Fin cfg0.W) : (dats m S 0 c).A w = V m c (Pipeline.arrRef spec0 w) := by dsimp only [dats]

theorem after0 (c : Dev nD) (t : Fin cfg0.N) : (dats m S 0 c).after 0 t = iblk m c 0 t := by dsimp only [dats]
theorem before0 (c : Dev nD) (t : Fin cfg0.N) (d) : (dats m S 0 c).before 0 t d = iblk m c 0 t :=
  ((dats m S 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem after1 (c : Dev nD) (t : Fin cfg0.N) : (dats m S 0 c).after 1 t = iblk m c 1 t := by dsimp only [dats]
theorem before1 (c : Dev nD) (t : Fin cfg0.N) (d) : (dats m S 0 c).before 1 t d = iblk m c 1 t :=
  ((dats m S 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem after2 (c : Dev nD) (t : Fin cfg0.N) : (dats m S 0 c).after 2 t = iblk m c 2 t := by dsimp only [dats]
theorem before2 (c : Dev nD) (t : Fin cfg0.N) (d) : (dats m S 0 c).before 2 t d = iblk m c 2 t :=
  ((dats m S 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem after3 (c : Dev nD) (t : Fin cfg0.N) : (dats m S 0 c).after 3 t = iblk m c 3 t := by dsimp only [dats]
theorem before3 (c : Dev nD) (t : Fin cfg0.N) (d) : (dats m S 0 c).before 3 t d = iblk m c 3 t :=
  ((dats m S 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem after4 (c : Dev nD) (t : Fin cfg0.N) : (dats m S 0 c).after 4 t = iblk m c 4 t := by dsimp only [dats]
theorem before4 (c : Dev nD) (t : Fin cfg0.N) (d) : (dats m S 0 c).before 4 t d = iblk m c 4 t :=
  ((dats m S 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem after5 (c : Dev nD) (t : Fin cfg0.N) : (dats m S 0 c).after 5 t = iblk m c 5 t := by dsimp only [dats]
theorem before5 (c : Dev nD) (t : Fin cfg0.N) (d) : (dats m S 0 c).before 5 t d = iblk m c 5 t :=
  ((dats m S 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem after6 (c : Dev nD) (t : Fin cfg0.N) : (dats m S 0 c).after 6 t = iblk m c 6 t := by dsimp only [dats]
theorem before6 (c : Dev nD) (t : Fin cfg0.N) (d) : (dats m S 0 c).before 6 t d = iblk m c 6 t :=
  ((dats m S 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)

/-! ## The body obligation -/

abbrev bodyPre (c : Dev nD) (t : Fin cfg0.N) : sProp 𝕄 :=
  iprop((dats m S 0 c).Φ t.castSucc ∗ (dats m S 0 c).owesAt () t.castSucc
    ∗ (∃ d, owns (c : Thread nD τ) (ms0 t) fullShare ((dats m S 0 c).before 0 t d)) ∗ (∃ d, owns (c : Thread nD τ) (ms1 t) fullShare ((dats m S 0 c).before 1 t d)) ∗ (∃ d, owns (c : Thread nD τ) (ms2 t) fullShare ((dats m S 0 c).before 2 t d)) ∗ (∃ d, owns (c : Thread nD τ) (ms3 t) fullShare ((dats m S 0 c).before 3 t d)) ∗ (∃ d, owns (c : Thread nD τ) (ms4 t) fullShare ((dats m S 0 c).before 4 t d)) ∗ (∃ d, owns (c : Thread nD τ) (ms5 t) fullShare ((dats m S 0 c).before 5 t d)) ∗ (∃ d, owns (c : Thread nD τ) (ms6 t) fullShare ((dats m S 0 c).before 6 t d))
    ∗ (∃ Y, ⌜((dats m S 0 c).toRRel loose (Rl S c)).Finds 7 t Y⌝ ∗ owns (c : Thread nD τ) (ms7 t) fullShare Y) ∗ (∃ Y, ⌜((dats m S 0 c).toRRel loose (Rl S c)).Finds 8 t Y⌝ ∗ owns (c : Thread nD τ) (ms8 t) fullShare Y) ∗ (∃ Y, ⌜((dats m S 0 c).toRRel loose (Rl S c)).Finds 9 t Y⌝ ∗ owns (c : Thread nD τ) (ms9 t) fullShare Y) ∗ (∃ Y, ⌜((dats m S 0 c).toRRel loose (Rl S c)).Finds 10 t Y⌝ ∗ owns (c : Thread nD τ) (ms10 t) fullShare Y) ∗ (∃ Y, ⌜((dats m S 0 c).toRRel loose (Rl S c)).Finds 11 t Y⌝ ∗ owns (c : Thread nD τ) (ms11 t) fullShare Y))
abbrev bodyPost (c : Dev nD) (t : Fin cfg0.N) : sProp 𝕄 :=
  iprop((dats m S 0 c).Φ t.succ ∗ (dats m S 0 c).owesAt () t.succ
    ∗ owns (c : Thread nD τ) (ms0 t) fullShare ((dats m S 0 c).after 0 t) ∗ owns (c : Thread nD τ) (ms1 t) fullShare ((dats m S 0 c).after 1 t) ∗ owns (c : Thread nD τ) (ms2 t) fullShare ((dats m S 0 c).after 2 t) ∗ owns (c : Thread nD τ) (ms3 t) fullShare ((dats m S 0 c).after 3 t) ∗ owns (c : Thread nD τ) (ms4 t) fullShare ((dats m S 0 c).after 4 t) ∗ owns (c : Thread nD τ) (ms5 t) fullShare ((dats m S 0 c).after 5 t) ∗ owns (c : Thread nD τ) (ms6 t) fullShare ((dats m S 0 c).after 6 t)
    ∗ (∃ X, ⌜Rl S c 7 t X⌝ ∗ owns (c : Thread nD τ) (ms7 t) fullShare X) ∗ (∃ X, ⌜Rl S c 8 t X⌝ ∗ owns (c : Thread nD τ) (ms8 t) fullShare X) ∗ (∃ X, ⌜Rl S c 9 t X⌝ ∗ owns (c : Thread nD τ) (ms9 t) fullShare X) ∗ (∃ X, ⌜Rl S c 10 t X⌝ ∗ owns (c : Thread nD τ) (ms10 t) fullShare X) ∗ (∃ X, ⌜Rl S c 11 t X⌝ ∗ owns (c : Thread nD τ) (ms11 t) fullShare X))

theorem sound_body (hS : S.Kept m) (c : Dev nD) (t : Fin cfg0.N) :
    bodyPre m S c t ⊢ wp frame (wpE (defs₀ (F := F)) Variants.none (c : Thread nD τ) none) Set.univ (bodyAt t) (fun _ => bodyPost m S c t) := by
  refine triple_restated (point_body m S hS c t) rfl ?_ fun _ => ?_
  · unfold bodyPre Dat.owesAt Pipeline.owesWithin
    simp only [before0, before1, before2, before3, before4, before5, before6]
    rw [show (dats m S 0 c).Φ t.castSucc = Inv m S c t.val from rfl, show (dats m S 0 c).owed t.castSucc = 0 from rfl]
    iintro ⟨HI, ⟨%W, -, HW⟩, ⟨%d0, H0⟩, ⟨%d1, H1⟩, ⟨%d2, H2⟩, ⟨%d3, H3⟩, ⟨%d4, H4⟩, ⟨%d5, H5⟩, ⟨%d6, H6⟩, ⟨%Y7, -, H7⟩, ⟨%Y8, -, H8⟩, ⟨%Y9, -, H9⟩, ⟨%Y10, -, H10⟩, ⟨%Y11, -, H11⟩⟩
    isplitl [HI]; · iexact HI
    isplitl [HW]; · iexists W; iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    iexists _; iexact H11
  · unfold bodyPost Dat.owesAt Pipeline.owesWithin
    rw [after0, after1, after2, after3, after4, after5, after6]
    rw [show (dats m S 0 c).Φ t.succ = Inv m S c (t.val + 1) from rfl, show (dats m S 0 c).owed t.succ = 0 from rfl]
    iintro ⟨HI, ⟨%W, HW⟩, H⟩
    isplitl [HI]; · iexact HI
    isplitl [HW]
    · iexists W; isplitr; · ipureintro; exact fun _ _ => Or.inl trivial
      iexact HW
    iexact H

theorem defs₀_row (t : Fin cfg0.N) :
    defs₀ (F := F) .tc cfg0.body (cfg0.bodyArgs t (cfg0.slots t)) = bodyAt t := by
  unfold defs₀; rw [Defs.onTc_tc]

theorem body_obligation (hS : S.Kept m) (c : Dev nD) :
    BodyObligationRel (dats m S 0 c) (defs₀ (F := F)) Variants.none () Set.univ loose (Rl S c) := fun t => by
  rw [bigSep_W0, bigSep_W0, defs₀_row]
  exact triple_restated (sound_body m S hS c t) rfl .rfl fun _ => .rfl

/-! ## Into the region and out of it -/

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem held_eq (c : Dev nD) :
    (bigSep H0 (fun b => ((c : Thread nD τ).loc b) ↦{fullShare} V m c b) : sProp 𝕄) = bigSep Finset.univ (homeP c (XA m c)) := by
  unfold H0; rw [bigSep_singleton]; exact weights_eq c (XA m c)

theorem pt_whole (c : Dev nD) (b : Ref sig .tc) (f : Buf (Elt F) ((c : Thread nD τ).loc b)) :
    (((c : Thread nD τ).loc b) ↦{fullShare} f : sProp 𝕄) = pt c (Memref.whole b) f := by
  show _ = ((c : Thread nD τ).loc b ↦[(View.whole b).set]{fullShare} f : sProp 𝕄)
  rw [View.set_whole]

theorem rest_eq (c : Dev nD) :
    (Pipeline.ΦD osem0 spec0 H0 (V m) c : sProp 𝕄)
      = iprop(iprop((∃ f, pt c sc14 f) ∗ (∃ f : Buf (Elt F) ((c : Thread nD τ).loc cc0_scratch1), ((c : Thread nD τ).loc cc0_scratch1) ↦{fullShare} f)
            ∗ (∃ f, pt c sc16 f) ∗ (∃ f, pt c sc17 f) ∗ (∃ f, pt c sc18 f) ∗ (∃ f, pt c sc19 f) ∗ (∃ f, pt c sc20 f) ∗ (∃ f, pt c sc21 f))
          ∗ (∃ r, prngReg c r) ∗ (cellP c 0 ∗ cellP c 1) ∗ bigSep Finset.univ (homeP c (XA m c))) := by
  rw [Pipeline.ΦD_eq, scopedRest0_eq, ownSems0_eq, held_eq]
  simp only [pt, sc14, sc16, sc17, sc18, sc19, sc20, sc21, View.set_whole]; try rfl

theorem enter (hS : S.Kept m) (c : Dev nD) : Pipeline.ΦD osem0 spec0 H0 (V m) c ⊢ Inv m S c 0 := by
  rw [rest_eq]; unfold Inv
  iintro ⟨⟨⟨%f14, H14⟩, H15, ⟨%f16, H16⟩, ⟨%f17, H17⟩, H18, H19, H20, H21⟩, Hr, Hc, Hh⟩
  isplitl [H14 H16 H17]
  · iexists f14, f16, f17; isplitr; swap
    · isplitl [H14]; · iexact H14
      isplitl [H16]; · iexact H16
      iexact H17
    ipureintro; exact hS.start c f14 f16 f17
  isplitl [H18]; · iexact H18
  isplitl [H19]; · iexact H19
  isplitl [H20]; · iexact H20
  isplitl [H21]; · iexact H21
  isplitl [H15]
  · iapply (stage_split c); iexact H15
  isplitl [Hr]; · iexact Hr
  isplitl [Hc]; · iexact Hc
  iexact Hh

theorem leave (c : Dev nD) (n : ℕ) : Inv m S c n ⊢ Pipeline.ΦD osem0 spec0 H0 (V m) c := by
  rw [rest_eq]; unfold Inv
  iintro ⟨⟨%f14, %f16, %f17, -, H14, H16, H17⟩, H18, H19, H20, H21, H15, Hr, Hc, Hh⟩
  isplitl [H14 H15 H16 H17 H18 H19 H20 H21]
  · isplitl [H14]; · iexists f14; iexact H14
    isplitl [H15]; · iapply (stage_join c); iexact H15
    isplitl [H16]; · iexists f16; iexact H16
    isplitl [H17]; · iexists f17; iexact H17
    isplitl [H18]; · iexact H18
    isplitl [H19]; · iexact H19
    isplitl [H20]; · iexact H20
    iexact H21
  isplitl [Hr]; · iexact Hr
  isplitl [Hc]; · iexact Hc
  iexact Hh

/-! ## The run -/

abbrev rdats (c : Dev nD) : RDat τ (Elt F) Unit ℕ (Pipeline.UD sig nD τ) ℕ cfg0 c := (dats m S 0 c).toRRel loose (Rl S c)

set_option backward.isDefEq.respectTransparency.types false in
theorem run_main (hS : S.Kept m) : θ_run defs (onTc (τ := τ) (main (F := F))) (s₀ m ρ)
    (fun r => Pipeline.RDat.FramePost cfg0 (rdats m S) (V m) r ∧ r.2.sem = fun _ => 0) :=
  Pipeline.RDat.θ_run_frame_dma (Q' := _) cfgs (0 : Fin 1) launch0 osem0 defs₀ Variants.none (rdats m S) ownSemFacts0 H0 H0_sub m ρ main
    (hbody := fun c => (body_obligation m S hS c).toRRel) (hshare := fun c => (dats m S 0 c).share_full fun _ => rfl)
    (howed := fun _ _ => rfl) (V := V m) (hmain := hmain m Variants.none) (hA := A_eq m S)
    (hin := fun c => enter m S hS c) (hout := fun c => leave m S c _)

theorem args_of {r : PUnit × MemSt nD τ sig (Elt F)} (h : Pipeline.RDat.FramePost cfg0 (rdats m S) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 3 rfl).trans (V_main_arg3 m c),
      (Pipeline.RDat.FramePost.arr_in h c 4 rfl).trans (V_main_arg4 m c),
      ((h c).2 main_arg5 (Pipeline.mem_restRefs_of main_arg5 (by decide) (by decide))).trans (V_main_arg5 m c),
      (Pipeline.RDat.FramePost.arr_in h c 6 rfl).trans (V_main_arg6 m c)⟩

/-- The frame: the program ends, its argument arrays end unchanged and every semaphore counter ends at zero. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => args_of m Spec.any h.1 c, h.2⟩) (run_main m ρ Spec.any (Spec.any_kept m))

end Cert.Kernel.Hand

end
-- ==== Proof.PI.Base.lean ====
/- The kernel's whole buffers held at given contents, and the modules a run of the body needs. -/
module

public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the transfers' counters. -/
local notation "𝕄" => MT nD τ sig Unit (Elt F) ℕ (Pipeline.UD sig nD τ) ℕ

/-- The contents of a memref's buffer. -/
abbrev Bf (c : Dev nD) {sp : Space} {S : Shape} {e : EltTy} (M : Memref sig .tc sp S e) : Type := Buf (Elt F) (M.view.loc (c : Thread nD τ))
/-- A memref's buffer held whole at given contents. -/
abbrev pt (c : Dev nD) {sp : Space} {S : Shape} {e : EltTy} (M : Memref sig .tc sp S e) (f : Bf (F := F) c M) : sProp 𝕄 :=
  M.view.loc (c : Thread nD τ) ↦[M.view.set]{fullShare} f

end Cert.KernelIdeal.Hand

end
-- ==== Proof.PI.Chunks.lean ====
/- The weight chunks' double buffer: names for a chunk of the weights, a slot of the staging buffer and the slot's
   semaphore, the printed slices under those names, and what is held of each. -/
module

public import proofs.«01_k».proof.Proof.PI.Base

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The weights in HBM, and the staging buffer of two chunks. -/
abbrev wM : Memref sig .tc .hbm S3584x4608 .fp8e4m3 := Memref.whole main_arg5
abbrev stM : Memref sig .tc .vmem S2x256x4608 .fp8e4m3 := Memref.whole cc0_scratch1

abbrev grpOff (b : Fin 14) : Fin 2 → Nat := ![256 * b.val, 0]
theorem grpOff_inb (b : Fin 14) : ∀ a, grpOff b a + S256x4608.size a ≤ S3584x4608.size a := by
  have := b.isLt; intro a; fin_cases a
  · show 256 * b.val + 256 ≤ 3584; omega
  · show 0 + 4608 ≤ 4608; omega
abbrev slotOff (n : ℕ) : Fin 3 → Nat := ![n % 2, 0, 0]
theorem slotOff_inb (n : ℕ) : ∀ a, slotOff n a + S1x256x4608.size a ≤ S2x256x4608.size a := by
  intro a; fin_cases a
  · show n % 2 + 1 ≤ 2; omega
  · show 0 + 256 ≤ 256; omega
  · show 0 + 4608 ≤ 4608; omega
abbrev semOff (n : ℕ) : Fin 1 → Nat := ![n % 2]
theorem semOff_inb (n : ℕ) : ∀ a, semOff n a + S1.size a ≤ S2.size a := by
  intro a; fin_cases a; show n % 2 + 1 ≤ 2; omega

/-- Chunk `b` of the weights. -/
def grp (b : Fin 14) : Memref sig .tc .hbm S256x4608 .fp8e4m3 :=
  wM.slice (Rect.unit (s := S3584x4608) (grpOff b) S256x4608.size (grpOff_inb b)) (fun _ => rfl)
/-- The staging buffer's slot for chunk `n`. -/
def rslot (n : ℕ) : Memref sig .tc .vmem S256x4608 .fp8e4m3 :=
  (stM.slice (Rect.unit (s := S2x256x4608) (slotOff n) S1x256x4608.size (slotOff_inb n)) (fun _ => rfl)).squeeze S256x4608 squeezes_S1x256x4608_S256x4608
/-- The semaphore of that slot. -/
def csm (n : ℕ) : DmaSems sig S_ := (cc0_scratch8.slice (Rect.unit (s := S2) (semOff n) S1.size (semOff_inb n))).squeeze S_ squeezes_S1_S_

instance (n : ℕ) : ClosedOff (slotOff n) := ⟨slotOff n, rfl⟩
instance (b : Fin 14) : ClosedOff (grpOff b) := ⟨grpOff b, rfl⟩

theorem trips_eq : k0_t1_loop.trips = 14 := by decide +kernel

theorem csm_eq {m n : ℕ} (h : m % 2 = n % 2) : csm m = csm n := by
  unfold csm; exact congrArg (fun A : DmaSems sig S1 => A.squeeze S_ squeezes_S1_S_) (SemArray.slice_unit_congr _ (by simp [semOff, h]) _ _)
theorem rslot_eq {m n : ℕ} (h : m % 2 = n % 2) : rslot m = rslot n := by
  unfold rslot; exact congrArg (fun M : Memref sig .tc .vmem S1x256x4608 .fp8e4m3 => M.squeeze S256x4608 squeezes_S1x256x4608_S256x4608) (Memref.slice_unit_congr _ (by simp [slotOff, h]) _ _ _ _)
theorem csm_add2 (n : ℕ) : csm (n + 1 + 1) = csm n := by
  unfold csm; exact congrArg (fun A : DmaSems sig S1 => A.squeeze S_ squeezes_S1_S_) (SemArray.slice_unit_congr _ (by simp [semOff, Nat.add_assoc]) _ _)
theorem rslot_add2 (n : ℕ) : rslot (n + 1 + 1) = rslot n := by
  unfold rslot; exact congrArg (fun M : Memref sig .tc .vmem S1x256x4608 .fp8e4m3 => M.squeeze S256x4608 squeezes_S1x256x4608_S256x4608) (Memref.slice_unit_congr _ (by simp [slotOff, Nat.add_assoc]) _ _ _ _)

private theorem csm_congr {off : Fin 1 → Nat} {n : ℕ} (e : off = semOff n) (hh) :
    (cc0_scratch8.slice (Rect.unit (s := S2) off S1.size hh)).squeeze S_ squeezes_S1_S_ = csm n :=
  congrArg (fun A : DmaSems sig S1 => A.squeeze S_ squeezes_S1_S_) (SemArray.slice_unit_congr _ e _ _)
private theorem rslot_congr {off : Fin 3 → Nat} {n : ℕ} (e : off = slotOff n) (hh hs) :
    (stM.slice (Rect.unit (s := S2x256x4608) off S1x256x4608.size hh) hs).squeeze S256x4608 squeezes_S1x256x4608_S256x4608 = rslot n :=
  congrArg (fun M : Memref sig .tc .vmem S1x256x4608 .fp8e4m3 => M.squeeze S256x4608 squeezes_S1x256x4608_S256x4608) (Memref.slice_unit_congr _ e _ _ _ _)
private theorem grp_congr {off : Fin 2 → Nat} {b : Fin 14} (e : off = grpOff b) (hh hs) :
    wM.slice (Rect.unit (s := S3584x4608) off S256x4608.size hh) hs = grp b :=
  Memref.slice_unit_congr _ e hh (grpOff_inb b) hs (fun _ => rfl)

/-! The printed slices: chunk 0's before the loop, chunk `k + 1`'s issued and chunk `k`'s awaited in trip `k`. -/

@[sl_canon] theorem sem0 (hh) : (cc0_scratch8.slice (Rect.unit (s := S2) k0_off1 S1.size hh)).squeeze S_ squeezes_S1_S_ = csm 0 := csm_congr (by decide +kernel) _
@[sl_canon] theorem slot0 (hh hs) : (stM.slice (Rect.unit (s := S2x256x4608) k0_off2 S1x256x4608.size hh) hs).squeeze S256x4608 squeezes_S1x256x4608_S256x4608 = rslot 0 := rslot_congr (by decide +kernel) _ _
@[sl_canon] theorem grp0 (hh hs) : wM.slice (Rect.unit (s := S3584x4608) ![0, 0] S256x4608.size hh) hs = grp (Ring.bk 14 0) := grp_congr (by decide +kernel) _ _
@[sl_canon] theorem semI (k : Fin k0_t1_loop.trips) (hh) : (cc0_scratch8.slice (Rect.unit (s := S2) (k0_off3 k) S1.size hh)).squeeze S_ squeezes_S1_S_ = csm (k.val + 1) := csm_congr (k0_off3_eq k) _
@[sl_canon] theorem slotI (k : Fin k0_t1_loop.trips) (hh hs) : (stM.slice (Rect.unit (s := S2x256x4608) (k0_off4 k) S1x256x4608.size hh) hs).squeeze S256x4608 squeezes_S1x256x4608_S256x4608 = rslot (k.val + 1) := rslot_congr (k0_off4_eq k) _ _
@[sl_canon] theorem grpI (k : Fin k0_t1_loop.trips) (hk : k.val + 1 < 14) (hh hs) : wM.slice (Rect.unit (s := S3584x4608) (k0_off5 k) S256x4608.size hh) hs = grp (Ring.bk 14 (k.val + 1)) :=
  grp_congr (by rw [k0_off5_eq]; unfold grpOff; rw [Ring.bk_val hk, Nat.mul_succ]) _ _
@[sl_canon] theorem semK (k : Fin k0_t1_loop.trips) (hh) : (cc0_scratch8.slice (Rect.unit (s := S2) (k0_off6 k) S1.size hh)).squeeze S_ squeezes_S1_S_ = csm k.val := csm_congr (k0_off6_eq k) _
@[sl_canon] theorem slotK (k : Fin k0_t1_loop.trips) (hh hs) : (stM.slice (Rect.unit (s := S2x256x4608) (k0_off7 k) S1x256x4608.size hh) hs).squeeze S256x4608 squeezes_S1x256x4608_S256x4608 = rslot k.val := rslot_congr (k0_off7_eq k) _ _
@[sl_canon] theorem grpK (k : Fin k0_t1_loop.trips) (hh hs) : wM.slice (Rect.unit (s := S3584x4608) (k0_off8 k) S256x4608.size hh) hs = grp (Ring.bk 14 k.val) :=
  grp_congr (by have h14 := trips_eq; rw [k0_off8_eq]; unfold grpOff; rw [Ring.bk_val (show k.val < 14 by omega)]) _ _

section Pieces
variable (c : Dev nD) (XA : Buf (Elt F) (wM.view.loc (c : Thread nD τ)))

abbrev cellP (n : ℕ) : sProp 𝕄 := semVal ((c : Thread nD τ), SemLoc.dma (csm n).sem) 0
abbrev slotP (n : ℕ) (f : Buf (Elt F) ((rslot n).view.loc (c : Thread nD τ))) : sProp 𝕄 :=
  (rslot n).view.loc (c : Thread nD τ) ↦[(rslot n).view.set]{fullShare} f
/-- Chunk `b` of the weights, held at the weights' contents. -/
abbrev homeP (b : Fin 14) : sProp 𝕄 := (grp b).view.loc (c : Thread nD τ) ↦[(grp b).view.set]{fullShare} XA
/-- Chunk `b`'s words. -/
abbrev payload (b : Fin 14) : S256x4608.Idx → Elt F .fp8e4m3 := ReadAs.same.apply ((grp b).view.read (Elt F) XA)
/-- What chunk `b`'s transfer leaves in a slot. -/
abbrev landed (n : ℕ) (b : Fin 14) (f : Buf (Elt F) ((rslot n).view.loc (c : Thread nD τ))) : Buf (Elt F) ((rslot n).view.loc (c : Thread nD τ)) :=
  (rslot n).view.writes (Elt F) f [⟨Rect.whole S256x4608, ReadAs.same.apply ((grp b).view.read (Elt F) XA)⟩]
/-- A slot with chunk `b` on its way into it. -/
abbrev flightP (n : ℕ) (b : Fin 14) (f : Buf (Elt F) ((rslot n).view.loc (c : Thread nD τ))) : sProp 𝕄 :=
  Transfers.Flight countersEmb (c : Thread nD τ) (SemLoc.dma (csm n).sem) () 36864 iprop(slotP c n (landed c XA n b f) ∗ homeP c XA b)

theorem cellP_add2 (n : ℕ) : (cellP c (n + 1 + 1) : sProp 𝕄) = cellP c n := by
  have h := csm_add2 n; unfold cellP; rw [h]
theorem slotP_add2 (n : ℕ) : (iprop(∃ f, slotP c (n + 1 + 1) f) : sProp 𝕄) = iprop(∃ f, slotP c n f) :=
  congrArg (fun M : Memref sig .tc .vmem S256x4608 .fp8e4m3 =>
    (iprop(∃ f : Buf (Elt F) (M.view.loc (c : Thread nD τ)), M.view.loc (c : Thread nD τ) ↦[M.view.set]{fullShare} f) : sProp 𝕄)) (rslot_add2 n)

theorem cellP_eq {m n : ℕ} (h : m % 2 = n % 2) : (cellP c m : sProp 𝕄) = cellP c n := by
  have h := csm_eq h; unfold cellP; rw [h]
theorem slotP_eq {m n : ℕ} (h : m % 2 = n % 2) : (iprop(∃ f, slotP c m f) : sProp 𝕄) = iprop(∃ f, slotP c n f) :=
  congrArg (fun M : Memref sig .tc .vmem S256x4608 .fp8e4m3 =>
    (iprop(∃ f : Buf (Elt F) (M.view.loc (c : Thread nD τ)), M.view.loc (c : Thread nD τ) ↦[M.view.set]{fullShare} f) : sProp 𝕄)) (rslot_eq h)

/-- Trip `k`'s chunks at home: chunk `k + 1` beside the rest. -/
theorem homes_here (k : ℕ) (hk : k + 1 < 14) :
    bigSep (Ring.homeSet 1 k) (homeP c XA) = iprop(homeP c XA (Ring.bk 14 (k + 1)) ∗ bigSep ((Ring.homeSet 1 k).erase (Ring.bk 14 (k + 1))) (homeP c XA)) := by
  conv_lhs => rw [Ring.homeSet_out 1 k hk, bigSep_insert (Ring.bkL_not_mem_erase 1 k)]
  rfl
/-- Trip `k + 1`'s: chunk `k` beside that rest. -/
theorem homes_next (k : ℕ) (hk : k + 1 < 14) :
    bigSep (Ring.homeSet 1 (k + 1)) (homeP c XA) = iprop(homeP c XA (Ring.bk 14 k) ∗ bigSep ((Ring.homeSet 1 k).erase (Ring.bk 14 (k + 1))) (homeP c XA)) := by
  conv_lhs => rw [Ring.homeSet_succ 1 k hk, bigSep_insert (Ring.bk_not_mem_erase 1 k (by omega) (by decide))]
  rfl
/-- Every chunk at home: chunk `k` beside trip `k`'s. -/
theorem homes_all (k : ℕ) (hk : k < 14) :
    bigSep Finset.univ (homeP c XA) = iprop(homeP c XA (Ring.bk 14 k) ∗ bigSep (Ring.homeSet 1 k) (homeP c XA)) := by
  have e : (Finset.univ : Finset (Fin 14)) = insert (Ring.bk 14 k) (Ring.homeSet 1 k) := by
    ext b
    simp only [Finset.mem_univ, Finset.mem_insert, Ring.mem_homeSet, true_iff, Fin.ext_iff, Ring.bk_val hk]; omega
  have h1 : Ring.bk 14 k ∉ Ring.homeSet (NB := 14) 1 k := by
    rw [Ring.mem_homeSet, Ring.bk_val hk]; omega
  rw [e, bigSep_insert h1]; rfl

end Pieces

end Cert.KernelIdeal.Hand

end
-- ==== Proof.PI.Buffers.lean ====
/- The weights' array and its staging buffer as blocks: the array held whole is its fourteen chunks, the buffer held
   whole is its two slots. -/
module

public import proofs.«01_k».proof.Proof.PI.Chunks
public import Idealize.ShloMosaic.Lib.Pipeline.DatRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationRel cellOf)

variable {F : FTy → Type} [FloatOps F]

local notation "𝕄" => MT nD τ sig Unit (Elt F) ℕ (Pipeline.UD sig nD τ) ℕ

variable (m : (ℓ : Loc nD τ sig) → Buf (Elt F) ℓ)

abbrev G14 (b : Fin 14) : Finset S3584x4608.Idx := (Rect.unit (s := S3584x4608) (grpOff b) S256x4608.size (grpOff_inb b)).set
abbrev T2 (s : Fin 2) : Finset S2x256x4608.Idx := (Rect.unit (s := S2x256x4608) (slotOff s) S1x256x4608.size (slotOff_inb s)).set

theorem grp_set (b : Fin 14) : (grp b : Memref sig .tc .hbm _ _).view.set = G14 b := View.set_slice_whole _ _
theorem rslot_set (s : Fin 2) : (rslot s : Memref sig .tc .vmem _ _).view.set = T2 s := (View.set_reshape _ _).trans (View.set_slice_whole _ _)

theorem mem_G14 (b : Fin 14) (y : S3584x4608.Idx) : y ∈ G14 b ↔ (y 0).val / 256 = b.val := by
  rw [Rect.mem_set_unit]
  have h1 : (y 1).val < 4608 := (y 1).isLt
  constructor
  · intro H; have a0 : 256 * b.val ≤ (y 0).val ∧ (y 0).val < 256 * b.val + 256 := H 0; omega
  · intro H i; fin_cases i
    · show 256 * b.val ≤ (y 0).val ∧ (y 0).val < 256 * b.val + 256; omega
    · show 0 ≤ (y 1).val ∧ (y 1).val < 0 + 4608; omega
theorem mem_T2 (s : Fin 2) (y : S2x256x4608.Idx) : y ∈ T2 s ↔ (y 0).val = s.val := by
  rw [Rect.mem_set_unit]
  have h1 : (y 1).val < 256 := (y 1).isLt
  have h2 : (y 2).val < 4608 := (y 2).isLt
  have h3 : s.val < 2 := s.isLt
  constructor
  · intro H; have a0 : s.val % 2 ≤ (y 0).val ∧ (y 0).val < s.val % 2 + 1 := H 0; omega
  · intro H i; fin_cases i
    · show s.val % 2 ≤ (y 0).val ∧ (y 0).val < s.val % 2 + 1; omega
    · show 0 ≤ (y 1).val ∧ (y 1).val < 0 + 256; omega
    · show 0 ≤ (y 2).val ∧ (y 2).val < 0 + 4608; omega
theorem G14_disjoint : ∀ b b' : Fin 14, b ≠ b' → Disjoint (G14 b) (G14 b') := by
  intro b b' hne; rw [Finset.disjoint_left]; intro y hy hy'; rw [mem_G14] at hy hy'; exact hne (Fin.ext (hy.symm.trans hy'))
theorem G14_cover : (Finset.univ : Finset (Fin 14)).biUnion G14 = Finset.univ := by
  ext y; simp only [Finset.mem_biUnion, Finset.mem_univ, true_and, iff_true]
  have h : (y 0).val < 3584 := (y 0).isLt
  exact ⟨⟨(y 0).val / 256, by omega⟩, by rw [mem_G14]⟩
theorem T2_disjoint : ∀ s s' : Fin 2, s ≠ s' → Disjoint (T2 s) (T2 s') := by
  intro s s' hne; rw [Finset.disjoint_left]; intro y hy hy'; rw [mem_T2] at hy hy'; exact hne (Fin.ext (hy.symm.trans hy'))
theorem T2_cover : (Finset.univ : Finset (Fin 2)).biUnion T2 = Finset.univ := by
  ext y; simp only [Finset.mem_biUnion, Finset.mem_univ, true_and, iff_true]
  have h : (y 0).val < 2 := (y 0).isLt
  exact ⟨⟨(y 0).val, h⟩, by rw [mem_T2]⟩

theorem bigSep_fin2 (Φ : Fin 2 → sProp 𝕄) : bigSep Finset.univ Φ = iprop(Φ 0 ∗ Φ 1) :=
  bigSep_univ_eq_bigSepL [(0 : Fin 2), (1 : Fin 2)] (by decide) (by decide) Φ

theorem entails_of_eq {P Q : sProp 𝕄} (e : P = Q) : P ⊢ Q := e ▸ .rfl

/-- The weights' array held whole is its chunks at home. -/
theorem weights_eq (c : Dev nD) (XA : Buf (Elt F) (wM.view.loc (c : Thread nD τ))) :
    (((c : Thread nD τ).loc main_arg5) ↦{fullShare} XA : sProp 𝕄) = bigSep Finset.univ (homeP c XA) := by
  rw [Ring.pointsTo_blocks (ℓ := (c : Thread nD τ).loc main_arg5) G14 G14_disjoint G14_cover]
  exact bigSep_congr fun b _ => by rw [← grp_set]; rfl

theorem slot_whole_eq (c : Dev nD) (s : Fin 2) (f) : slotP c s f = (((c : Thread nD τ).loc cc0_scratch1) ↦[T2 s]{fullShare} f : sProp 𝕄) :=
  congrArg (fun S => (_ ↦[S]{fullShare} f : sProp 𝕄)) (rslot_set s)
/-- The staging buffer held whole is its two slots, and back. -/
theorem stage_split (c : Dev nD) :
    iprop(∃ f : Buf (Elt F) ((c : Thread nD τ).loc cc0_scratch1), ((c : Thread nD τ).loc cc0_scratch1) ↦{fullShare} f)
      ⊢ (iprop((∃ f, slotP c 0 f) ∗ ∃ f, slotP c 1 f) : sProp 𝕄) := by
  iintro ⟨%f, H⟩
  ihave H2 := (entails_of_eq ((Ring.pointsTo_blocks (Ix := Unit) (Name := ℕ) (U := Pipeline.UD sig nD τ) (Lvl := ℕ) (q := fullShare) (ℓ := (c : Thread nD τ).loc cc0_scratch1) T2 T2_disjoint T2_cover f).trans (bigSep_fin2 _))) $$ H
  icases H2 with ⟨H0, H1⟩
  isplitl [H0]
  · iexists f; iapply (entails_of_eq (slot_whole_eq c 0 f).symm); iexact H0
  · iexists f; iapply (entails_of_eq (slot_whole_eq c 1 f).symm); iexact H1
theorem stage_join (c : Dev nD) :
    iprop((∃ f, slotP c 0 f) ∗ ∃ f, slotP c 1 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩⟩
  iapply (Ring.pointsTo_blocks_join_exists (ℓ := (c : Thread nD τ).loc cc0_scratch1) T2 T2_disjoint T2_cover f0)
  irw [bigSep_fin2]
  isplitl [H0]
  · iexists f0; iapply (entails_of_eq (slot_whole_eq c 0 f0)); iexact H0
  · iexists f1; iapply (entails_of_eq (slot_whole_eq c 1 f1)); iexact H1

/-- The kernel's own semaphores. -/
abbrev osem0 : Fin 2 → SemLoc sig := fun s => .dma (csm s).sem
theorem ownSemFacts0 : Pipeline.OwnSemFacts spec0 osem0 := by decide
theorem ownSems0_eq (c : Dev nD) : (Pipeline.ownSems0 (Ix := Unit) (Name := ℕ) (U := Pipeline.UD sig nD τ) (Lvl := ℕ) (Val := Elt F) (τ := τ) osem0 c : sProp 𝕄)
    = iprop(cellP c 0 ∗ cellP c 1) := by
  unfold Pipeline.ownSems0; rw [bigSep_fin2]; rfl

/-- The one array that the kernel's transfers read themselves. -/
def H0 : Finset (Ref sig .tc) := {main_arg5}
theorem H0_sub : H0 ⊆ Pipeline.restRefs sig spec0 := by decide

end Cert.KernelIdeal.Hand

end
-- ==== Proof.PI.Trip.lean ====
/- One trip of the loop that dequantises the weights, and the loop's invariant. -/
module

public import proofs.«01_k».proof.Proof.PI.Chunks
public import proofs.«01_k».proof.Proof.Gen.KernelIdeal.Loops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords) (XA : Buf (Elt F) (wM.view.loc (c : Thread nD τ)))
  (arg1 : Memref sig .tc .vmem S2x28x128x128 .bf16) (harg1 : arg1.IsWhole)
  (arg2 : Memref sig .tc .vmem S2x512x128 .bf16) (harg2 : arg2.IsWhole)
  (arg3 : Memref sig .tc .vmem S2x512x128 .bf16) (harg3 : arg3.IsWhole)
  (arg4 : Memref sig .tc .vmem S2x128x3584 .bf16) (harg4 : arg4.IsWhole)
  (arg5 : Memref sig .tc .vmem S2x128 .i32) (harg5 : arg5.IsWhole)
  (arg6 : Memref sig .tc .vmem S8x128 .f32) (harg6 : arg6.IsWhole)
  (arg7 : Memref sig .tc .smem S28x36 .f32) (harg7 : arg7.IsWhole)
  (arg9 : Memref sig .tc .vmem S2x128x3584 .bf16) (harg9 : arg9.IsWhole)
  (arg10 : Memref sig .tc .vmem S2x128x4608 .fp8e5m2) (harg10 : arg10.IsWhole)
  (arg11 : Memref sig .tc .vmem S36x2x128 .f32) (harg11 : arg11.IsWhole)
  (arg12 : Memref sig .tc .vmem S2x128x3584 .fp8e5m2) (harg12 : arg12.IsWhole)
  (arg13 : Memref sig .tc .vmem S28x2x128 .f32) (harg13 : arg13.IsWhole)
  (arg14 : Memref sig .tc .vmem S4608x3584 .bf16) (harg14 : arg14.IsWhole)
  (arg16 : Memref sig .tc .vmem S256x4608 .bf16) (harg16 : arg16.IsWhole)
  (arg17 : Memref sig .tc .vmem S256x4608 .bf16) (harg17 : arg17.IsWhole)
  (arg18 : Memref sig .tc .vmem S256x128 .f32) (harg18 : arg18.IsWhole)
  (arg19 : Memref sig .tc .vmem S256x128 .f32) (harg19 : arg19.IsWhole)
  (arg20 : Memref sig .tc .vmem S256x128 .f32) (harg20 : arg20.IsWhole)
  (arg21 : Memref sig .tc .vmem S256x128 .f32) (harg21 : arg21.IsWhole)

variable (k0_h1 : k0_cond1 i = 1#1) (f7 : Bf (F := F) c arg7)

/-- What is held before trip `k < 14`: the dequantised weights so far, chunk `k` in flight, the other slot free. -/
def resAt (k : ℕ) (f14 : Bf (F := F) c arg14) : sProp 𝕄 :=
  iprop(pt c arg7 f7 ∗ pt c arg14 f14 ∗ (∃ W, owes (c : Thread nD τ) 0 W) ∗ bigSep (Ring.homeSet 1 k) (homeP c XA)
    ∗ (∃ f, flightP c XA k (Ring.bk 14 k) f) ∗ cellP c (k + 1) ∗ (∃ f, slotP c (k + 1) f))
/-- What is held after the last trip: both slots free and every chunk at home. -/
def resEnd (k : ℕ) (f14 : Bf (F := F) c arg14) : sProp 𝕄 :=
  iprop(pt c arg7 f7 ∗ pt c arg14 f14 ∗ (∃ W, owes (c : Thread nD τ) 0 W) ∗ bigSep Finset.univ (homeP c XA)
    ∗ cellP c k ∗ (∃ f, slotP c k f) ∗ cellP c (k + 1) ∗ (∃ f, slotP c (k + 1) f))

abbrev tripG (k : Fin k0_t1_loop.trips) : Prog (TpuEff nD τ sig (Elt F) Λ₀ .tc) Unit :=
  k0_t1_body (F := F) i arg1 harg1 arg2 harg2 arg3 harg3 arg4 harg4 arg5 harg5 arg6 harg6 arg7 harg7 wM (Memref.isWhole_whole _) arg9 harg9 arg10 harg10 arg11 harg11 arg12 harg12 arg13 harg13 arg14 harg14 stM (Memref.isWhole_whole _) arg16 harg16 arg17 harg17 arg18 harg18 arg19 harg19 arg20 harg20 arg21 harg21 cc0_scratch8 k0_h1 k ()

theorem cond2_of_lt : ∀ k : Fin k0_t1_loop.trips, k.val + 1 < 14 → k0_cond2 k = 1#1 := by decide +kernel
theorem cond2_of_not_lt : ∀ k : Fin k0_t1_loop.trips, ¬ k.val + 1 < 14 → ¬ k0_cond2 k = 1#1 := by decide +kernel

set_option backward.proofsInPublic true in
/-- A trip that issues the next chunk, its stores to be found. -/
def tripRun (k : Fin k0_t1_loop.trips) (hk : k.val + 1 < 14) :
    { W : List (View.Piece (Elt F) S4608x3584 .bf16) // ∀ f14 : Bf (F := F) c arg14,
      resAt c XA arg7 arg14 f7 k f14 ⊢ wp frame (wpE (defs₀ (F := F)) Variants.none (c : Thread nD τ) none) Set.univ
        (tripG i arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 k)
        (fun _ => resAt c XA arg7 arg14 f7 (k.val + 1) (arg14.view.writes (Elt F) f14 W)) } := by
  refine ⟨?_, fun f14 => ?run⟩
  case run =>
    have hc2 : k0_cond2 k = 1#1 := cond2_of_lt k hk
    unfold resAt
    rw [homes_here c XA k.val hk, homes_next c XA k.val hk, cellP_add2, slotP_add2]
    iintro ⟨H7, H14, ⟨%W, HW⟩, ⟨Hg, Hrest⟩, ⟨%f0, HF0⟩, Hc, ⟨%f1, Hs⟩⟩
    dsimp only [tripG]
    sl_unfold [k0_t1_body]
    sl_exec_parts
    sl_step
    isplitl [H7]; · iexact H7
    isplitl [H14]; · iexact H14
    isplitl [HW]; · iexists _; iexact HW
    isplitl [HF0_src Hrest]
    · isplitl [HF0_src]; · iexact HF0_src
      iexact Hrest
    isplitl [Hc]; · iexists f1; iexact Hc
    isplitl [HF0]; · iexact HF0
    iexists _; iexact HF0_dst

set_option backward.proofsInPublic true in
/-- The last trip, which issues none, its stores to be found. -/
def tripLast (k : Fin k0_t1_loop.trips) (hk : ¬ k.val + 1 < 14) :
    { W : List (View.Piece (Elt F) S4608x3584 .bf16) // ∀ f14 : Bf (F := F) c arg14,
      resAt c XA arg7 arg14 f7 k f14 ⊢ wp frame (wpE (defs₀ (F := F)) Variants.none (c : Thread nD τ) none) Set.univ
        (tripG i arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 k)
        (fun _ => resEnd c XA arg7 arg14 f7 k.val (arg14.view.writes (Elt F) f14 W)) } := by
  refine ⟨?_, fun f14 => ?run⟩
  case run =>
    have hc2 : ¬ k0_cond2 k = 1#1 := cond2_of_not_lt k hk
    have h14 := trips_eq
    unfold resAt resEnd
    rw [homes_all c XA k.val (by omega)]
    iintro ⟨H7, H14, ⟨%W, HW⟩, Hrest, ⟨%f0, HF0⟩, Hc, ⟨%f1, Hs⟩⟩
    dsimp only [tripG]
    sl_unfold [k0_t1_body]
    sl_exec_parts
    sl_step
    isplitl [H7]; · iexact H7
    isplitl [H14]; · iexact H14
    isplitl [HW]; · iexists _; iexact HW
    isplitl [HF0_src Hrest]
    · isplitl [HF0_src]; · iexact HF0_src
      iexact Hrest
    isplitl [HF0]; · iexact HF0
    isplitl [HF0_dst]; · iexists _; iexact HF0_dst
    isplitl [Hc]; · iexact Hc
    iexists f1; iexact Hs

/-- Trip `k`'s stores, newest first. -/
def tripW (k : Fin k0_t1_loop.trips) : List (View.Piece (Elt F) S4608x3584 .bf16) :=
  if h : k.val + 1 < 14 then (tripRun c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 k h).1
  else (tripLast c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 k h).1
/-- The stores of the trips before trip `n`, newest first. -/
def loopW : ℕ → List (View.Piece (Elt F) S4608x3584 .bf16)
  | 0 => []
  | n + 1 => if h : n < k0_t1_loop.trips then tripW c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 ⟨n, h⟩ ++ loopW n else loopW n

/-- The invariant before trip `n`. -/
def loopAt (f14 : Bf (F := F) c arg14) : ℕ → sProp 𝕄
  | 0 => resAt c XA arg7 arg14 f7 0 f14
  | n + 1 => if n + 1 < 14 then resAt c XA arg7 arg14 f7 (n + 1) (arg14.view.writes (Elt F) f14 (loopW c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 (n + 1)))
    else resEnd c XA arg7 arg14 f7 n (arg14.view.writes (Elt F) f14 (loopW c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 (n + 1)))

theorem loopAt_lt (f14 : Bf (F := F) c arg14) (n : ℕ) (h : n < 14) :
    loopAt c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 f14 n
      = resAt c XA arg7 arg14 f7 n (arg14.view.writes (Elt F) f14 (loopW c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 n)) := by
  cases n with
  | zero => rfl
  | succ n => rw [loopAt, if_pos h]

/-- What is held after the loop. -/
def loopPost (f14 : Bf (F := F) c arg14) : sProp 𝕄 :=
  iprop(pt c arg7 f7 ∗ pt c arg14 (arg14.view.writes (Elt F) f14 (loopW c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 14)) ∗ (∃ W, owes (c : Thread nD τ) 0 W)
    ∗ bigSep Finset.univ (homeP c XA) ∗ cellP c 0 ∗ (∃ f, slotP c 0 f) ∗ cellP c 1 ∗ (∃ f, slotP c 1 f))

theorem loopAt_end (f14 : Bf (F := F) c arg14) :
    loopAt c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 f14 k0_t1_loop.trips ⊢ loopPost c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 f14 := by
  have e : loopAt c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 f14 k0_t1_loop.trips
      = resEnd c XA arg7 arg14 f7 13 (arg14.view.writes (Elt F) f14 (loopW c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 14)) :=
    (congrArg (loopAt c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 f14) trips_eq).trans (by rw [loopAt, if_neg (by omega)])
  rw [e]; unfold resEnd loopPost
  rw [cellP_eq c (show (13 + 1) % 2 = 0 % 2 from rfl), slotP_eq c (show (13 + 1) % 2 = 0 % 2 from rfl),
    cellP_eq c (show 13 % 2 = 1 % 2 from rfl), slotP_eq c (show 13 % 2 = 1 % 2 from rfl)]
  iintro ⟨H1, H2, H3, H4, H5, H6, H7, H8⟩
  isplitl [H1]; · iexact H1
  isplitl [H2]; · iexact H2
  isplitl [H3]; · iexact H3
  isplitl [H4]; · iexact H4
  isplitl [H7]; · iexact H7
  isplitl [H8]; · iexact H8
  isplitl [H5]; · iexact H5
  iexact H6

theorem loopAt_step (f14 : Bf (F := F) c arg14) (k : Fin k0_t1_loop.trips) :
    loopAt c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 f14 k.val ⊢ wp frame (wpE (defs₀ (F := F)) Variants.none (c : Thread nD τ) none) Set.univ
      (tripG i arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 k) (fun _ => loopAt c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 f14 (k.val + 1)) := by
  have h14 := trips_eq
  have hk14 : k.val < 14 := by have := k.isLt; omega
  rw [loopAt_lt _ _ _ _ _ _ _ _ _ _ _ _ _ _ _ _ _ _ _ _ _ _ _ _ _ _ _ _ _ _ _ _ _ _ _ _ _ _ _ _ _ _ _ _ _ hk14]
  have eW : loopW c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 (k.val + 1) = tripW c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 k ++ loopW c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 k.val := by
    rw [loopW, dif_pos k.isLt]
  rw [loopAt, eW, View.writes_append]
  by_cases h : k.val + 1 < 14
  · rw [if_pos h, tripW, dif_pos h]
    exact (tripRun c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 k h).2 _
  · rw [if_neg h, tripW, dif_neg h]
    exact (tripLast c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 k h).2 _

set_option warn.classDefReducibility false in
/-- The loop's invariant. -/
@[sl_loop] def weightLoop (f14 : Bf (F := F) c arg14) :
    LoopInvTy_k0_t1 (F := F) Unit ℕ (Pipeline.UD sig nD τ) ℕ Variants.none c none Set.univ i arg1 harg1 arg2 harg2 arg3 harg3 arg4 harg4 arg5 harg5 arg6 harg6 arg7 harg7 wM (Memref.isWhole_whole _) arg9 harg9 arg10 harg10 arg11 harg11 arg12 harg12 arg13 harg13 arg14 harg14 stM (Memref.isWhole_whole _) arg16 harg16 arg17 harg17 arg18 harg18 arg19 harg19 arg20 harg20 arg21 harg21 cc0_scratch8 k0_h1 where
  inv k _ := loopAt c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 f14 k
  step k _ := loopAt_step c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 f14 k

instance (f14 : Bf (F := F) c arg14) : LoopExit (weightLoop c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 f14) where
  post _ := loopPost c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 f14
  exit _ := loopAt_end c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 f14

end Cert.KernelIdeal.Hand

end
-- ==== Proof.PI.RunFirst.lean ====
/- The kernel body at the first point: the weights dequantised, the rotation's tables, the first tile's left-hand side. -/
module

public import proofs.«01_k».proof.Proof.PI.Trip

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords) (XA : Buf (Elt F) (wM.view.loc (c : Thread nD τ)))
  (arg1 : Memref sig .tc .vmem S2x28x128x128 .bf16) (harg1 : arg1.IsWhole)
  (arg2 : Memref sig .tc .vmem S2x512x128 .bf16) (harg2 : arg2.IsWhole)
  (arg3 : Memref sig .tc .vmem S2x512x128 .bf16) (harg3 : arg3.IsWhole)
  (arg4 : Memref sig .tc .vmem S2x128x3584 .bf16) (harg4 : arg4.IsWhole)
  (arg5 : Memref sig .tc .vmem S2x128 .i32) (harg5 : arg5.IsWhole)
  (arg6 : Memref sig .tc .vmem S8x128 .f32) (harg6 : arg6.IsWhole)
  (arg7 : Memref sig .tc .smem S28x36 .f32) (harg7 : arg7.IsWhole)
  (arg9 : Memref sig .tc .vmem S2x128x3584 .bf16) (harg9 : arg9.IsWhole)
  (arg10 : Memref sig .tc .vmem S2x128x4608 .fp8e5m2) (harg10 : arg10.IsWhole)
  (arg11 : Memref sig .tc .vmem S36x2x128 .f32) (harg11 : arg11.IsWhole)
  (arg12 : Memref sig .tc .vmem S2x128x3584 .fp8e5m2) (harg12 : arg12.IsWhole)
  (arg13 : Memref sig .tc .vmem S28x2x128 .f32) (harg13 : arg13.IsWhole)
  (arg14 : Memref sig .tc .vmem S4608x3584 .bf16) (harg14 : arg14.IsWhole)
  (arg16 : Memref sig .tc .vmem S256x4608 .bf16) (harg16 : arg16.IsWhole)
  (arg17 : Memref sig .tc .vmem S256x4608 .bf16) (harg17 : arg17.IsWhole)
  (arg18 : Memref sig .tc .vmem S256x128 .f32) (harg18 : arg18.IsWhole)
  (arg19 : Memref sig .tc .vmem S256x128 .f32) (harg19 : arg19.IsWhole)
  (arg20 : Memref sig .tc .vmem S256x128 .f32) (harg20 : arg20.IsWhole)
  (arg21 : Memref sig .tc .vmem S256x128 .f32) (harg21 : arg21.IsWhole)

/-- The weights' chunks, both slots and both semaphores at rest, and the core's waits. -/
abbrev chunksP : sProp 𝕄 :=
  iprop((∃ W, owes (c : Thread nD τ) 0 W) ∗ bigSep Finset.univ (homeP c XA) ∗ cellP c 0 ∗ (∃ f, slotP c 0 f) ∗ cellP c 1 ∗ (∃ f, slotP c 1 f))

/-- The body at the first point, its stores to be found. -/
def runFirst (hc1 : k0_cond1 i = 1#1) (hc3 : ¬ k0_cond3 i = 1#1) (hc4 : ¬ k0_cond4 i = 1#1)
    (f1 : Bf (F := F) c arg1) (f2 : Bf (F := F) c arg2) (f3 : Bf (F := F) c arg3) (f5 : Bf (F := F) c arg5) (f6 : Bf (F := F) c arg6) (f7 : Bf (F := F) c arg7) (f20 : Bf (F := F) c arg20) :
    { W : List (View.Piece (Elt F) S2x128x4608 .fp8e5m2) × List (View.Piece (Elt F) S36x2x128 .f32) × List (View.Piece (Elt F) S4608x3584 .bf16) × List (View.Piece (Elt F) S256x4608 .bf16) × List (View.Piece (Elt F) S256x128 .f32) × List (View.Piece (Elt F) S256x128 .f32) × List (View.Piece (Elt F) S256x128 .f32) //
      ∀ (f10 : Bf (F := F) c arg10) (f11 : Bf (F := F) c arg11) (f14 : Bf (F := F) c arg14) (f16 : Bf (F := F) c arg16) (f18 : Bf (F := F) c arg18) (f19 : Bf (F := F) c arg19) (K : PUnit → sProp 𝕄),
        iprop(pt c arg1 f1 ∗ pt c arg2 f2 ∗ pt c arg3 f3 ∗ pt c arg5 f5 ∗ pt c arg6 f6 ∗ pt c arg7 f7 ∗ pt c arg10 f10 ∗ pt c arg11 f11 ∗ pt c arg14 f14 ∗ pt c arg16 f16 ∗ pt c arg18 f18 ∗ pt c arg19 f19 ∗ pt c arg20 f20 ∗ chunksP c XA
          ∗ (iprop(pt c arg1 f1 ∗ pt c arg2 f2 ∗ pt c arg3 f3 ∗ pt c arg5 f5 ∗ pt c arg6 f6 ∗ pt c arg7 f7 ∗ pt c arg10 (arg10.view.writes (Elt F) f10 W.1) ∗ pt c arg11 (arg11.view.writes (Elt F) f11 W.2.1) ∗ pt c arg14 (arg14.view.writes (Elt F) f14 W.2.2.1) ∗ pt c arg16 (arg16.view.writes (Elt F) f16 W.2.2.2.1) ∗ pt c arg18 (arg18.view.writes (Elt F) f18 W.2.2.2.2.1) ∗ pt c arg19 (arg19.view.writes (Elt F) f19 W.2.2.2.2.2.1) ∗ pt c arg20 (arg20.view.writes (Elt F) f20 W.2.2.2.2.2.2) ∗ chunksP c XA) -∗ K ⟨⟩))
        ⊢ wp frame (wpE (defs₀ (F := F)) Variants.none (c : Thread nD τ) none) Set.univ
            (cc0_qkv_rope_dgrad (F := F) i arg1 harg1 arg2 harg2 arg3 harg3 arg4 harg4 arg5 harg5 arg6 harg6 arg7 harg7 wM (Memref.isWhole_whole _) arg9 harg9 arg10 harg10 arg11 harg11 arg12 harg12 arg13 harg13 arg14 harg14 stM (Memref.isWhole_whole _) arg16 harg16 arg17 harg17 arg18 harg18 arg19 harg19 arg20 harg20 arg21 harg21 cc0_scratch8) K } := by
  refine ⟨⟨?_, ?_, ?_, ?_, ?_, ?_, ?_⟩, fun f10 f11 f14 f16 f18 f19 K => ?run⟩
  case run =>
    rw [show (chunksP c XA : sProp 𝕄) = iprop((∃ W, owes (c : Thread nD τ) 0 W) ∗ (homeP c XA (Ring.bk 14 0) ∗ bigSep (Ring.homeSet 1 0) (homeP c XA)) ∗ cellP c 0 ∗ (∃ f, slotP c 0 f) ∗ cellP c (0 + 1) ∗ (∃ f, slotP c (0 + 1) f)) by
      unfold chunksP; rw [homes_all c XA 0 (by omega)]]
    iintro ⟨H1, H2, H3, H5, H6, H7, H10, H11, H14, H16, H18, H19, H20, ⟨⟨%W, HW⟩, ⟨Hg, Hh⟩, Hc0, ⟨%s0, Hs0⟩, Hc1, ⟨%s1, Hs1⟩⟩, Hk⟩
    sl_exec_parts
    sl_step
    iapply Hk
    isplitl [H1]; · iexact H1
    isplitl [H2]; · iexact H2
    isplitl [H3]; · iexact H3
    isplitl [H5]; · iexact H5
    isplitl [H6]; · iexact H6
    isplitl [HL0]; · iexact HL0
    isplitl [H10]; · iexact H10
    isplitl [H11]; · iexact H11
    isplitl [HL1]; · iexact HL1
    isplitl [H16]; · iexact H16
    isplitl [H18]; · iexact H18
    isplitl [H19]; · iexact H19
    isplitl [H20]; · iexact H20
    isplitl [HL2]; · iexists _; iexact HL2
    isplitl [HL3]; · rw [← homes_all c XA 0 (by omega)]; iexact HL3
    isplitl [HL4]; · iexact HL4
    isplitl [HL5]; · iexists _; iexact HL5
    isplitl [HL6]; · iexact HL6
    iexists _; iexact HL7

end Cert.KernelIdeal.Hand

end
-- ==== Proof.PI.RunOdd.lean ====
/- The kernel body at odd points (`main` from one left-hand buffer to the other), run once. -/
module

public import proofs.«01_k».proof.Proof.PI.Base

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords)
  (arg1 : Memref sig .tc .vmem S2x28x128x128 .bf16) (harg1 : arg1.IsWhole)
  (arg2 : Memref sig .tc .vmem S2x512x128 .bf16) (harg2 : arg2.IsWhole)
  (arg3 : Memref sig .tc .vmem S2x512x128 .bf16) (harg3 : arg3.IsWhole)
  (arg4 : Memref sig .tc .vmem S2x128x3584 .bf16) (harg4 : arg4.IsWhole)
  (arg5 : Memref sig .tc .vmem S2x128 .i32) (harg5 : arg5.IsWhole)
  (arg6 : Memref sig .tc .vmem S8x128 .f32) (harg6 : arg6.IsWhole)
  (arg7 : Memref sig .tc .smem S28x36 .f32) (harg7 : arg7.IsWhole)
  (arg8 : Memref sig .tc .hbm S3584x4608 .fp8e4m3) (harg8 : arg8.IsWhole)
  (arg9 : Memref sig .tc .vmem S2x128x3584 .bf16) (harg9 : arg9.IsWhole)
  (arg10 : Memref sig .tc .vmem S2x128x4608 .fp8e5m2) (harg10 : arg10.IsWhole)
  (arg11 : Memref sig .tc .vmem S36x2x128 .f32) (harg11 : arg11.IsWhole)
  (arg12 : Memref sig .tc .vmem S2x128x3584 .fp8e5m2) (harg12 : arg12.IsWhole)
  (arg13 : Memref sig .tc .vmem S28x2x128 .f32) (harg13 : arg13.IsWhole)
  (arg14 : Memref sig .tc .vmem S4608x3584 .bf16) (harg14 : arg14.IsWhole)
  (arg15 : Memref sig .tc .vmem S2x256x4608 .fp8e4m3) (harg15 : arg15.IsWhole)
  (arg16 : Memref sig .tc .vmem S256x4608 .bf16) (harg16 : arg16.IsWhole)
  (arg17 : Memref sig .tc .vmem S256x4608 .bf16) (harg17 : arg17.IsWhole)
  (arg18 : Memref sig .tc .vmem S256x128 .f32) (harg18 : arg18.IsWhole)
  (arg19 : Memref sig .tc .vmem S256x128 .f32) (harg19 : arg19.IsWhole)
  (arg20 : Memref sig .tc .vmem S256x128 .f32) (harg20 : arg20.IsWhole)
  (arg21 : Memref sig .tc .vmem S256x128 .f32) (harg21 : arg21.IsWhole)
  (arg22 : DmaSems sig S2)

def runOdd (hc1 : ¬ k0_cond1 i = 1#1) (hc3 : k0_cond3 i = 1#1) (hc4 : ¬ k0_cond4 i = 1#1)
    (f1 : Bf (F := F) c arg1) (f2 : Bf (F := F) c arg2) (f3 : Bf (F := F) c arg3) (f4 : Bf (F := F) c arg4) (f5 : Bf (F := F) c arg5) (f6 : Bf (F := F) c arg6) (f14 : Bf (F := F) c arg14) (f16 : Bf (F := F) c arg16) (f20 : Bf (F := F) c arg20) (f21 : Bf (F := F) c arg21) :
    { W : List (View.Piece (Elt F) S2x128x3584 .bf16) × List (View.Piece (Elt F) S2x128x4608 .fp8e5m2) × List (View.Piece (Elt F) S36x2x128 .f32) × List (View.Piece (Elt F) S2x128x3584 .fp8e5m2) × List (View.Piece (Elt F) S28x2x128 .f32) × List (View.Piece (Elt F) S256x4608 .bf16) × List (View.Piece (Elt F) S256x128 .f32) × List (View.Piece (Elt F) S256x128 .f32) × List (View.Piece (Elt F) S256x128 .f32) × List (View.Piece (Elt F) S256x128 .f32) //
      ∀ (f9 : Bf (F := F) c arg9) (f10 : Bf (F := F) c arg10) (f11 : Bf (F := F) c arg11) (f12 : Bf (F := F) c arg12) (f13 : Bf (F := F) c arg13) (f17 : Bf (F := F) c arg17) (f18 : Bf (F := F) c arg18) (f19 : Bf (F := F) c arg19) (K : PUnit → sProp 𝕄),
        iprop(pt c arg1 f1 ∗ pt c arg2 f2 ∗ pt c arg3 f3 ∗ pt c arg4 f4 ∗ pt c arg5 f5 ∗ pt c arg6 f6 ∗ pt c arg9 f9 ∗ pt c arg10 f10 ∗ pt c arg11 f11 ∗ pt c arg12 f12 ∗ pt c arg13 f13 ∗ pt c arg14 f14 ∗ pt c arg16 f16 ∗ pt c arg17 f17 ∗ pt c arg18 f18 ∗ pt c arg19 f19 ∗ pt c arg20 f20 ∗ pt c arg21 f21
          ∗ (iprop(pt c arg1 f1 ∗ pt c arg2 f2 ∗ pt c arg3 f3 ∗ pt c arg4 f4 ∗ pt c arg5 f5 ∗ pt c arg6 f6 ∗ pt c arg9 (arg9.view.writes (Elt F) f9 W.1) ∗ pt c arg10 (arg10.view.writes (Elt F) f10 W.2.1) ∗ pt c arg11 (arg11.view.writes (Elt F) f11 W.2.2.1) ∗ pt c arg12 (arg12.view.writes (Elt F) f12 W.2.2.2.1) ∗ pt c arg13 (arg13.view.writes (Elt F) f13 W.2.2.2.2.1) ∗ pt c arg14 f14 ∗ pt c arg16 f16 ∗ pt c arg17 (arg17.view.writes (Elt F) f17 W.2.2.2.2.2.1) ∗ pt c arg18 (arg18.view.writes (Elt F) f18 W.2.2.2.2.2.2.1) ∗ pt c arg19 (arg19.view.writes (Elt F) f19 W.2.2.2.2.2.2.2.1) ∗ pt c arg20 (arg20.view.writes (Elt F) f20 W.2.2.2.2.2.2.2.2.1) ∗ pt c arg21 (arg21.view.writes (Elt F) f21 W.2.2.2.2.2.2.2.2.2)) -∗ K ⟨⟩))
        ⊢ wp frame (wpE (defs₀ (F := F)) Variants.none c none) Set.univ
            (cc0_qkv_rope_dgrad (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22) K } := by
  refine ⟨⟨?_, ?_, ?_, ?_, ?_, ?_, ?_, ?_, ?_, ?_⟩, fun f9 f10 f11 f12 f13 f17 f18 f19 K => ?run⟩
  case run =>
    iintro ⟨H1, H2, H3, H4, H5, H6, H9, H10, H11, H12, H13, H14, H16, H17, H18, H19, H20, H21, Hk⟩
    sl_exec_parts
    sl_step
    iapply Hk
    isplitl [H1]; · iexact H1
    isplitl [H2]; · iexact H2
    isplitl [H3]; · iexact H3
    isplitl [H4]; · iexact H4
    isplitl [H5]; · iexact H5
    isplitl [H6]; · iexact H6
    isplitl [H9]; · iexact H9
    isplitl [H10]; · iexact H10
    isplitl [H11]; · iexact H11
    isplitl [H12]; · iexact H12
    isplitl [H13]; · iexact H13
    isplitl [H14]; · iexact H14
    isplitl [H16]; · iexact H16
    isplitl [H17]; · iexact H17
    isplitl [H18]; · iexact H18
    isplitl [H19]; · iexact H19
    isplitl [H20]; · iexact H20
    iexact H21

end Cert.KernelIdeal.Hand

end
-- ==== Proof.PI.RunEven.lean ====
/- The kernel body at even points (`main` from one left-hand buffer to the other), run once. -/
module

public import proofs.«01_k».proof.Proof.PI.Base

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords)
  (arg1 : Memref sig .tc .vmem S2x28x128x128 .bf16) (harg1 : arg1.IsWhole)
  (arg2 : Memref sig .tc .vmem S2x512x128 .bf16) (harg2 : arg2.IsWhole)
  (arg3 : Memref sig .tc .vmem S2x512x128 .bf16) (harg3 : arg3.IsWhole)
  (arg4 : Memref sig .tc .vmem S2x128x3584 .bf16) (harg4 : arg4.IsWhole)
  (arg5 : Memref sig .tc .vmem S2x128 .i32) (harg5 : arg5.IsWhole)
  (arg6 : Memref sig .tc .vmem S8x128 .f32) (harg6 : arg6.IsWhole)
  (arg7 : Memref sig .tc .smem S28x36 .f32) (harg7 : arg7.IsWhole)
  (arg8 : Memref sig .tc .hbm S3584x4608 .fp8e4m3) (harg8 : arg8.IsWhole)
  (arg9 : Memref sig .tc .vmem S2x128x3584 .bf16) (harg9 : arg9.IsWhole)
  (arg10 : Memref sig .tc .vmem S2x128x4608 .fp8e5m2) (harg10 : arg10.IsWhole)
  (arg11 : Memref sig .tc .vmem S36x2x128 .f32) (harg11 : arg11.IsWhole)
  (arg12 : Memref sig .tc .vmem S2x128x3584 .fp8e5m2) (harg12 : arg12.IsWhole)
  (arg13 : Memref sig .tc .vmem S28x2x128 .f32) (harg13 : arg13.IsWhole)
  (arg14 : Memref sig .tc .vmem S4608x3584 .bf16) (harg14 : arg14.IsWhole)
  (arg15 : Memref sig .tc .vmem S2x256x4608 .fp8e4m3) (harg15 : arg15.IsWhole)
  (arg16 : Memref sig .tc .vmem S256x4608 .bf16) (harg16 : arg16.IsWhole)
  (arg17 : Memref sig .tc .vmem S256x4608 .bf16) (harg17 : arg17.IsWhole)
  (arg18 : Memref sig .tc .vmem S256x128 .f32) (harg18 : arg18.IsWhole)
  (arg19 : Memref sig .tc .vmem S256x128 .f32) (harg19 : arg19.IsWhole)
  (arg20 : Memref sig .tc .vmem S256x128 .f32) (harg20 : arg20.IsWhole)
  (arg21 : Memref sig .tc .vmem S256x128 .f32) (harg21 : arg21.IsWhole)
  (arg22 : DmaSems sig S2)

def runEven (hc1 : ¬ k0_cond1 i = 1#1) (hc3 : ¬ k0_cond3 i = 1#1) (hc4 : k0_cond4 i = 1#1)
    (f1 : Bf (F := F) c arg1) (f2 : Bf (F := F) c arg2) (f3 : Bf (F := F) c arg3) (f4 : Bf (F := F) c arg4) (f5 : Bf (F := F) c arg5) (f6 : Bf (F := F) c arg6) (f14 : Bf (F := F) c arg14) (f17 : Bf (F := F) c arg17) (f20 : Bf (F := F) c arg20) (f21 : Bf (F := F) c arg21) :
    { W : List (View.Piece (Elt F) S2x128x3584 .bf16) × List (View.Piece (Elt F) S2x128x4608 .fp8e5m2) × List (View.Piece (Elt F) S36x2x128 .f32) × List (View.Piece (Elt F) S2x128x3584 .fp8e5m2) × List (View.Piece (Elt F) S28x2x128 .f32) × List (View.Piece (Elt F) S256x4608 .bf16) × List (View.Piece (Elt F) S256x128 .f32) × List (View.Piece (Elt F) S256x128 .f32) × List (View.Piece (Elt F) S256x128 .f32) × List (View.Piece (Elt F) S256x128 .f32) //
      ∀ (f9 : Bf (F := F) c arg9) (f10 : Bf (F := F) c arg10) (f11 : Bf (F := F) c arg11) (f12 : Bf (F := F) c arg12) (f13 : Bf (F := F) c arg13) (f16 : Bf (F := F) c arg16) (f18 : Bf (F := F) c arg18) (f19 : Bf (F := F) c arg19) (K : PUnit → sProp 𝕄),
        iprop(pt c arg1 f1 ∗ pt c arg2 f2 ∗ pt c arg3 f3 ∗ pt c arg4 f4 ∗ pt c arg5 f5 ∗ pt c arg6 f6 ∗ pt c arg9 f9 ∗ pt c arg10 f10 ∗ pt c arg11 f11 ∗ pt c arg12 f12 ∗ pt c arg13 f13 ∗ pt c arg14 f14 ∗ pt c arg16 f16 ∗ pt c arg17 f17 ∗ pt c arg18 f18 ∗ pt c arg19 f19 ∗ pt c arg20 f20 ∗ pt c arg21 f21
          ∗ (iprop(pt c arg1 f1 ∗ pt c arg2 f2 ∗ pt c arg3 f3 ∗ pt c arg4 f4 ∗ pt c arg5 f5 ∗ pt c arg6 f6 ∗ pt c arg9 (arg9.view.writes (Elt F) f9 W.1) ∗ pt c arg10 (arg10.view.writes (Elt F) f10 W.2.1) ∗ pt c arg11 (arg11.view.writes (Elt F) f11 W.2.2.1) ∗ pt c arg12 (arg12.view.writes (Elt F) f12 W.2.2.2.1) ∗ pt c arg13 (arg13.view.writes (Elt F) f13 W.2.2.2.2.1) ∗ pt c arg14 f14 ∗ pt c arg16 (arg16.view.writes (Elt F) f16 W.2.2.2.2.2.1) ∗ pt c arg17 f17 ∗ pt c arg18 (arg18.view.writes (Elt F) f18 W.2.2.2.2.2.2.1) ∗ pt c arg19 (arg19.view.writes (Elt F) f19 W.2.2.2.2.2.2.2.1) ∗ pt c arg20 (arg20.view.writes (Elt F) f20 W.2.2.2.2.2.2.2.2.1) ∗ pt c arg21 (arg21.view.writes (Elt F) f21 W.2.2.2.2.2.2.2.2.2)) -∗ K ⟨⟩))
        ⊢ wp frame (wpE (defs₀ (F := F)) Variants.none c none) Set.univ
            (cc0_qkv_rope_dgrad (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22) K } := by
  refine ⟨⟨?_, ?_, ?_, ?_, ?_, ?_, ?_, ?_, ?_, ?_⟩, fun f9 f10 f11 f12 f13 f16 f18 f19 K => ?run⟩
  case run =>
    iintro ⟨H1, H2, H3, H4, H5, H6, H9, H10, H11, H12, H13, H14, H16, H17, H18, H19, H20, H21, Hk⟩
    sl_exec_parts
    sl_step
    iapply Hk
    isplitl [H1]; · iexact H1
    isplitl [H2]; · iexact H2
    isplitl [H3]; · iexact H3
    isplitl [H4]; · iexact H4
    isplitl [H5]; · iexact H5
    isplitl [H6]; · iexact H6
    isplitl [H9]; · iexact H9
    isplitl [H10]; · iexact H10
    isplitl [H11]; · iexact H11
    isplitl [H12]; · iexact H12
    isplitl [H13]; · iexact H13
    isplitl [H14]; · iexact H14
    isplitl [H16]; · iexact H16
    isplitl [H17]; · iexact H17
    isplitl [H18]; · iexact H18
    isplitl [H19]; · iexact H19
    isplitl [H20]; · iexact H20
    iexact H21

end Cert.KernelIdeal.Hand

end
-- ==== Proof.PI.Points.lean ====
/- The body at one point on the windows' staging buffers and the scratch: what each of the three kinds of point asks for
   and leaves, for any claim about the results' blocks and the scratch that the points keep up. -/
module

public import proofs.«01_k».proof.Proof.PI.Buffers
public import proofs.«01_k».proof.Proof.PI.RunFirst
public import proofs.«01_k».proof.Proof.PI.RunOdd
public import proofs.«01_k».proof.Proof.PI.RunEven
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationRel cellOf)

variable {F : FTy → Type} [FloatOps F]

local notation "𝕄" => MT nD τ sig Unit (Elt F) ℕ (Pipeline.UD sig nD τ) ℕ

variable (m : (ℓ : Loc nD τ sig) → Buf (Elt F) ℓ)

/-! ## The body's operands -/

abbrev ms0 (t : Fin cfg0.N) : Memref sig .tc .vmem S2x28x128x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2x512x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2x512x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S2x128x3584 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S2x128 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S8x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .smem S28x36 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S2x128x3584 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S2x128x4608 .fp8e5m2 := win0_8.stage (cfg0.slots t 8)
abbrev hs8 (t : Fin cfg0.N) : (ms8 t).IsWhole := hstage0_8 ((cfg0.slots t 8).cast nbuf0_8)
abbrev ms9 (t : Fin cfg0.N) : Memref sig .tc .vmem S36x2x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S2x128x3584 .fp8e5m2 := win0_10.stage (cfg0.slots t 10)
abbrev hs10 (t : Fin cfg0.N) : (ms10 t).IsWhole := hstage0_10 ((cfg0.slots t 10).cast nbuf0_10)
abbrev ms11 (t : Fin cfg0.N) : Memref sig .tc .vmem S28x2x128 .f32 := win0_11.stage (cfg0.slots t 11)
abbrev hs11 (t : Fin cfg0.N) : (ms11 t).IsWhole := hstage0_11 ((cfg0.slots t 11).cast nbuf0_11)
abbrev sc14 : Memref sig .tc .vmem S4608x3584 .bf16 := Memref.whole cc0_scratch0
abbrev sc15 : Memref sig .tc .vmem S2x256x4608 .fp8e4m3 := Memref.whole cc0_scratch1
abbrev sc16 : Memref sig .tc .vmem S256x4608 .bf16 := Memref.whole cc0_scratch2
abbrev sc17 : Memref sig .tc .vmem S256x4608 .bf16 := Memref.whole cc0_scratch3
abbrev sc18 : Memref sig .tc .vmem S256x128 .f32 := Memref.whole cc0_scratch4
abbrev sc19 : Memref sig .tc .vmem S256x128 .f32 := Memref.whole cc0_scratch5
abbrev sc20 : Memref sig .tc .vmem S256x128 .f32 := Memref.whole cc0_scratch6
abbrev sc21 : Memref sig .tc .vmem S256x128 .f32 := Memref.whole cc0_scratch7

/-- The body at point `t`. -/
abbrev bodyAt (t : Fin cfg0.N) := cc0_qkv_rope_dgrad (F := F) (grid0.coords t) (ms0 t) (hs0 t) (ms1 t) (hs1 t) (ms2 t) (hs2 t) (ms3 t) (hs3 t) (ms4 t) (hs4 t) (ms5 t) (hs5 t) (ms6 t) (hs6 t) wM (Memref.isWhole_whole _) (ms7 t) (hs7 t) (ms8 t) (hs8 t) (ms9 t) (hs9 t) (ms10 t) (hs10 t) (ms11 t) (hs11 t) sc14 (Memref.isWhole_whole _) sc15 (Memref.isWhole_whole _) sc16 (Memref.isWhole_whole _) sc17 (Memref.isWhole_whole _) sc18 (Memref.isWhole_whole _) sc19 (Memref.isWhole_whole _) sc20 (Memref.isWhole_whole _) sc21 (Memref.isWhole_whole _) cc0_scratch8

/-- The weights as the kernel finds them. -/
abbrev XA (c : Dev nD) : Buf (Elt F) (wM.view.loc (c : Thread nD τ)) := V m c main_arg5

abbrev in0 (c : Dev nD) (t : Fin cfg0.N) : Bf (F := F) c (ms0 t) := (ms0 t).view.rep (iblk m c 0 t)
abbrev in1 (c : Dev nD) (t : Fin cfg0.N) : Bf (F := F) c (ms1 t) := (ms1 t).view.rep (iblk m c 1 t)
abbrev in2 (c : Dev nD) (t : Fin cfg0.N) : Bf (F := F) c (ms2 t) := (ms2 t).view.rep (iblk m c 2 t)
abbrev in3 (c : Dev nD) (t : Fin cfg0.N) : Bf (F := F) c (ms3 t) := (ms3 t).view.rep (iblk m c 3 t)
abbrev in4 (c : Dev nD) (t : Fin cfg0.N) : Bf (F := F) c (ms4 t) := (ms4 t).view.rep (iblk m c 4 t)
abbrev in5 (c : Dev nD) (t : Fin cfg0.N) : Bf (F := F) c (ms5 t) := (ms5 t).view.rep (iblk m c 5 t)
abbrev in6 (c : Dev nD) (t : Fin cfg0.N) : Bf (F := F) c (ms6 t) := (ms6 t).view.rep (iblk m c 6 t)

/-! ## The three kinds of point: the stores of each, from what it finds -/

abbrev firstAt (c : Dev nD) (t : Fin cfg0.N) (h1 : k0_cond1 (grid0.coords t) = 1#1) (h3 : ¬ k0_cond3 (grid0.coords t) = 1#1) (h4 : ¬ k0_cond4 (grid0.coords t) = 1#1) (f20 : Bf (F := F) c sc20) :=
  runFirst (F := F) c (grid0.coords t) (XA m c) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc14 (Memref.isWhole_whole _) sc16 (Memref.isWhole_whole _) sc17 (Memref.isWhole_whole _) sc18 (Memref.isWhole_whole _) sc19 (Memref.isWhole_whole _) sc20 (Memref.isWhole_whole _) sc21 (Memref.isWhole_whole _) h1 h3 h4 (in0 m c t) (in1 m c t) (in2 m c t) (in4 m c t) (in5 m c t) (in6 m c t) f20

abbrev oddAt (c : Dev nD) (t : Fin cfg0.N) (h1 : ¬ k0_cond1 (grid0.coords t) = 1#1) (h3 : k0_cond3 (grid0.coords t) = 1#1) (h4 : ¬ k0_cond4 (grid0.coords t) = 1#1) (f14 : Bf (F := F) c sc14) (f16 : Bf (F := F) c sc16) (f20 : Bf (F := F) c sc20) (f21 : Bf (F := F) c sc21) :=
  runOdd (F := F) c (grid0.coords t) (ms0 t) (hs0 t) (ms1 t) (hs1 t) (ms2 t) (hs2 t) (ms3 t) (hs3 t) (ms4 t) (hs4 t) (ms5 t) (hs5 t) (ms6 t) (hs6 t) wM (Memref.isWhole_whole _) (ms7 t) (hs7 t) (ms8 t) (hs8 t) (ms9 t) (hs9 t) (ms10 t) (hs10 t) (ms11 t) (hs11 t) sc14 (Memref.isWhole_whole _) sc15 (Memref.isWhole_whole _) sc16 (Memref.isWhole_whole _) sc17 (Memref.isWhole_whole _) sc18 (Memref.isWhole_whole _) sc19 (Memref.isWhole_whole _) sc20 (Memref.isWhole_whole _) sc21 (Memref.isWhole_whole _) cc0_scratch8 h1 h3 h4 (in0 m c t) (in1 m c t) (in2 m c t) (in3 m c t) (in4 m c t) (in5 m c t) f14 f16 f20 f21

abbrev evenAt (c : Dev nD) (t : Fin cfg0.N) (h1 : ¬ k0_cond1 (grid0.coords t) = 1#1) (h3 : ¬ k0_cond3 (grid0.coords t) = 1#1) (h4 : k0_cond4 (grid0.coords t) = 1#1) (f14 : Bf (F := F) c sc14) (f17 : Bf (F := F) c sc17) (f20 : Bf (F := F) c sc20) (f21 : Bf (F := F) c sc21) :=
  runEven (F := F) c (grid0.coords t) (ms0 t) (hs0 t) (ms1 t) (hs1 t) (ms2 t) (hs2 t) (ms3 t) (hs3 t) (ms4 t) (hs4 t) (ms5 t) (hs5 t) (ms6 t) (hs6 t) wM (Memref.isWhole_whole _) (ms7 t) (hs7 t) (ms8 t) (hs8 t) (ms9 t) (hs9 t) (ms10 t) (hs10 t) (ms11 t) (hs11 t) sc14 (Memref.isWhole_whole _) sc15 (Memref.isWhole_whole _) sc16 (Memref.isWhole_whole _) sc17 (Memref.isWhole_whole _) sc18 (Memref.isWhole_whole _) sc19 (Memref.isWhole_whole _) sc20 (Memref.isWhole_whole _) sc21 (Memref.isWhole_whole _) cc0_scratch8 h1 h3 h4 (in0 m c t) (in1 m c t) (in2 m c t) (in3 m c t) (in4 m c t) (in5 m c t) f14 f17 f20 f21

/-- A claim about what the points leave: of each result's block at a point, and of the weights' scratch and the two
    operand buffers before a point. -/
structure Spec where
  out7 : (c : Dev nD) → (t : Fin cfg0.N) → Vec F S2x128x3584 .bf16 → Prop
  out8 : (c : Dev nD) → (t : Fin cfg0.N) → Vec F S2x128x4608 .fp8e5m2 → Prop
  out9 : (c : Dev nD) → (t : Fin cfg0.N) → Vec F S36x2x128 .f32 → Prop
  out10 : (c : Dev nD) → (t : Fin cfg0.N) → Vec F S2x128x3584 .fp8e5m2 → Prop
  out11 : (c : Dev nD) → (t : Fin cfg0.N) → Vec F S28x2x128 .f32 → Prop
  inv : (c : Dev nD) → ℕ → Bf (F := F) c sc14 → Bf (F := F) c sc16 → Bf (F := F) c sc17 → Prop

/-- Each kind of point keeps the claim up. -/
structure Spec.Kept (S : Spec (F := F)) : Prop where
  start : ∀ c f14 f16 f17, S.inv c 0 f14 f16 f17
  first : ∀ (c : Dev nD) (t : Fin cfg0.N) (h1 : k0_cond1 (grid0.coords t) = 1#1) (h3 : ¬ k0_cond3 (grid0.coords t) = 1#1) (h4 : ¬ k0_cond4 (grid0.coords t) = 1#1) (f9 : Bf (F := F) c (ms7 t)) (f10 : Bf (F := F) c (ms8 t)) (f11 : Bf (F := F) c (ms9 t)) (f12 : Bf (F := F) c (ms10 t)) (f13 : Bf (F := F) c (ms11 t)) (f14 : Bf (F := F) c sc14) (f16 : Bf (F := F) c sc16) (f17 : Bf (F := F) c sc17) (f20 : Bf (F := F) c sc20) (f21 : Bf (F := F) c sc21), t.val = 0 →
    S.out7 c t ((ms7 t).view.read (Elt F) f9) ∧ S.out8 c t ((ms8 t).view.read (Elt F) ((ms8 t).view.writes (Elt F) f10 (firstAt m c t h1 h3 h4 f20).1.1)) ∧ S.out9 c t ((ms9 t).view.read (Elt F) ((ms9 t).view.writes (Elt F) f11 (firstAt m c t h1 h3 h4 f20).1.2.1)) ∧ S.out10 c t ((ms10 t).view.read (Elt F) f12) ∧ S.out11 c t ((ms11 t).view.read (Elt F) f13)
    ∧ S.inv c (t.val + 1) (sc14.view.writes (Elt F) f14 (firstAt m c t h1 h3 h4 f20).1.2.2.1) (sc16.view.writes (Elt F) f16 (firstAt m c t h1 h3 h4 f20).1.2.2.2.1) f17
  odd : ∀ (c : Dev nD) (t : Fin cfg0.N) (h1 : ¬ k0_cond1 (grid0.coords t) = 1#1) (h3 : k0_cond3 (grid0.coords t) = 1#1) (h4 : ¬ k0_cond4 (grid0.coords t) = 1#1) (f9 : Bf (F := F) c (ms7 t)) (f10 : Bf (F := F) c (ms8 t)) (f11 : Bf (F := F) c (ms9 t)) (f12 : Bf (F := F) c (ms10 t)) (f13 : Bf (F := F) c (ms11 t)) (f14 : Bf (F := F) c sc14) (f16 : Bf (F := F) c sc16) (f17 : Bf (F := F) c sc17) (f20 : Bf (F := F) c sc20) (f21 : Bf (F := F) c sc21), S.inv c t.val f14 f16 f17 →
    S.out7 c t ((ms7 t).view.read (Elt F) ((ms7 t).view.writes (Elt F) f9 (oddAt m c t h1 h3 h4 f14 f16 f20 f21).1.1)) ∧ S.out8 c t ((ms8 t).view.read (Elt F) ((ms8 t).view.writes (Elt F) f10 (oddAt m c t h1 h3 h4 f14 f16 f20 f21).1.2.1)) ∧ S.out9 c t ((ms9 t).view.read (Elt F) ((ms9 t).view.writes (Elt F) f11 (oddAt m c t h1 h3 h4 f14 f16 f20 f21).1.2.2.1)) ∧ S.out10 c t ((ms10 t).view.read (Elt F) ((ms10 t).view.writes (Elt F) f12 (oddAt m c t h1 h3 h4 f14 f16 f20 f21).1.2.2.2.1)) ∧ S.out11 c t ((ms11 t).view.read (Elt F) ((ms11 t).view.writes (Elt F) f13 (oddAt m c t h1 h3 h4 f14 f16 f20 f21).1.2.2.2.2.1))
    ∧ S.inv c (t.val + 1) f14 f16 (sc17.view.writes (Elt F) f17 (oddAt m c t h1 h3 h4 f14 f16 f20 f21).1.2.2.2.2.2.1)
  even : ∀ (c : Dev nD) (t : Fin cfg0.N) (h1 : ¬ k0_cond1 (grid0.coords t) = 1#1) (h3 : ¬ k0_cond3 (grid0.coords t) = 1#1) (h4 : k0_cond4 (grid0.coords t) = 1#1) (f9 : Bf (F := F) c (ms7 t)) (f10 : Bf (F := F) c (ms8 t)) (f11 : Bf (F := F) c (ms9 t)) (f12 : Bf (F := F) c (ms10 t)) (f13 : Bf (F := F) c (ms11 t)) (f14 : Bf (F := F) c sc14) (f16 : Bf (F := F) c sc16) (f17 : Bf (F := F) c sc17) (f20 : Bf (F := F) c sc20) (f21 : Bf (F := F) c sc21), S.inv c t.val f14 f16 f17 →
    S.out7 c t ((ms7 t).view.read (Elt F) ((ms7 t).view.writes (Elt F) f9 (evenAt m c t h1 h3 h4 f14 f17 f20 f21).1.1)) ∧ S.out8 c t ((ms8 t).view.read (Elt F) ((ms8 t).view.writes (Elt F) f10 (evenAt m c t h1 h3 h4 f14 f17 f20 f21).1.2.1)) ∧ S.out9 c t ((ms9 t).view.read (Elt F) ((ms9 t).view.writes (Elt F) f11 (evenAt m c t h1 h3 h4 f14 f17 f20 f21).1.2.2.1)) ∧ S.out10 c t ((ms10 t).view.read (Elt F) ((ms10 t).view.writes (Elt F) f12 (evenAt m c t h1 h3 h4 f14 f17 f20 f21).1.2.2.2.1)) ∧ S.out11 c t ((ms11 t).view.read (Elt F) ((ms11 t).view.writes (Elt F) f13 (evenAt m c t h1 h3 h4 f14 f17 f20 f21).1.2.2.2.2.1))
    ∧ S.inv c (t.val + 1) f14 (sc16.view.writes (Elt F) f16 (evenAt m c t h1 h3 h4 f14 f17 f20 f21).1.2.2.2.2.2.1) f17

variable {m} in
/-- The claim that says nothing. -/
def Spec.any : Spec (F := F) := ⟨fun _ _ _ => True, fun _ _ _ => True, fun _ _ _ => True, fun _ _ _ => True, fun _ _ _ => True, fun _ _ _ _ _ => True⟩
theorem Spec.any_kept : (Spec.any (F := F)).Kept m :=
  ⟨fun _ _ _ _ => trivial, by intros; exact ⟨trivial, trivial, trivial, trivial, trivial, trivial⟩, by intros; exact ⟨trivial, trivial, trivial, trivial, trivial, trivial⟩,
    by intros; exact ⟨trivial, trivial, trivial, trivial, trivial, trivial⟩⟩

variable (S : Spec (F := F))

/-- The invariant before point `n`. -/
def Inv (c : Dev nD) (n : ℕ) : sProp 𝕄 :=
  iprop((∃ f14 f16 f17, ⌜S.inv c n f14 f16 f17⌝ ∗ pt c sc14 f14 ∗ pt c sc16 f16 ∗ pt c sc17 f17)
    ∗ (∃ f, pt c sc18 f) ∗ (∃ f, pt c sc19 f) ∗ (∃ f, pt c sc20 f) ∗ (∃ f, pt c sc21 f)
    ∗ ((∃ f, slotP c 0 f) ∗ (∃ f, slotP c 1 f)) ∗ (∃ r, prngReg c r) ∗ (cellP c 0 ∗ cellP c 1) ∗ bigSep Finset.univ (homeP c (XA m c)))

/-- The windows' buffers as a point finds them, -/
abbrev Finds (c : Dev nD) (t : Fin cfg0.N) : sProp 𝕄 :=
  iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t)
    ∗ (∃ Y, owns (c : Thread nD τ) (ms7 t) fullShare Y) ∗ (∃ Y, owns (c : Thread nD τ) (ms8 t) fullShare Y) ∗ (∃ Y, owns (c : Thread nD τ) (ms9 t) fullShare Y) ∗ (∃ Y, owns (c : Thread nD τ) (ms10 t) fullShare Y) ∗ (∃ Y, owns (c : Thread nD τ) (ms11 t) fullShare Y))
/-- and as it leaves them. -/
abbrev Leaves (c : Dev nD) (t : Fin cfg0.N) : sProp 𝕄 :=
  iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t)
    ∗ (∃ X, ⌜S.out7 c t X⌝ ∗ owns (c : Thread nD τ) (ms7 t) fullShare X) ∗ (∃ X, ⌜S.out8 c t X⌝ ∗ owns (c : Thread nD τ) (ms8 t) fullShare X) ∗ (∃ X, ⌜S.out9 c t X⌝ ∗ owns (c : Thread nD τ) (ms9 t) fullShare X) ∗ (∃ X, ⌜S.out10 c t X⌝ ∗ owns (c : Thread nD τ) (ms10 t) fullShare X) ∗ (∃ X, ⌜S.out11 c t X⌝ ∗ owns (c : Thread nD τ) (ms11 t) fullShare X))

end Cert.KernelIdeal.Hand

end
-- ==== Proof.PI.Body.lean ====
/- The body's run at each kind of point, on the windows' staging buffers and the scratch. -/
module

public import proofs.«01_k».proof.Proof.PI.Points

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationRel cellOf)

variable {F : FTy → Type} [FloatOps F]

local notation "𝕄" => MT nD τ sig Unit (Elt F) ℕ (Pipeline.UD sig nD τ) ℕ

variable (m : (ℓ : Loc nD τ sig) → Buf (Elt F) ℓ) (S : Spec (F := F))

attribute [local irreducible] runFirst runOdd runEven

set_option maxHeartbeats 4000000 in
/-- A point of the first kind. -/
theorem first_body (hS : S.Kept m) (c : Dev nD) (t : Fin cfg0.N) (h1 : k0_cond1 (grid0.coords t) = 1#1) (h3 : ¬ k0_cond3 (grid0.coords t) = 1#1) (h4 : ¬ k0_cond4 (grid0.coords t) = 1#1) (h0 : t.val = 0) :
    iprop(Inv m S c t.val ∗ (∃ W, owes (c : Thread nD τ) 0 W) ∗ Finds m c t)
      ⊢ wp frame (wpE (defs₀ (F := F)) Variants.none (c : Thread nD τ) none) Set.univ (bodyAt t)
          (fun _ => iprop(Inv m S c (t.val + 1) ∗ (∃ W, owes (c : Thread nD τ) 0 W) ∗ Leaves m S c t)) := by
  unfold Inv Finds owns
  iintro ⟨⟨⟨%f14, %f16, %f17, %hI, H14, H16, H17⟩, ⟨%f18, H18⟩, ⟨%f19, H19⟩, ⟨%f20, H20⟩, ⟨%f21, H21⟩, ⟨Hs0, Hs1⟩, Hr, ⟨Hc0, Hc1⟩, Hh⟩, HW, ⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, ⟨%Y9, %f9, -, H9⟩, ⟨%Y10, %f10, -, H10⟩, ⟨%Y11, %f11, -, H11⟩, ⟨%Y12, %f12, -, H12⟩, ⟨%Y13, %f13, -, H13⟩⟩
  ihave H1 := (pointsTo_rep_entails (c : Thread nD τ) (ms0 t) g1 fullShare) $$ H1
  rw [hg1]
  ihave H2 := (pointsTo_rep_entails (c : Thread nD τ) (ms1 t) g2 fullShare) $$ H2
  rw [hg2]
  ihave H3 := (pointsTo_rep_entails (c : Thread nD τ) (ms2 t) g3 fullShare) $$ H3
  rw [hg3]
  ihave H5 := (pointsTo_rep_entails (c : Thread nD τ) (ms4 t) g5 fullShare) $$ H5
  rw [hg5]
  ihave H6 := (pointsTo_rep_entails (c : Thread nD τ) (ms5 t) g6 fullShare) $$ H6
  rw [hg6]
  ihave H7 := (pointsTo_rep_entails (c : Thread nD τ) (ms6 t) g7 fullShare) $$ H7
  rw [hg7]
  obtain ⟨k9, k10, k11, k12, k13, kI⟩ := hS.first c t h1 h3 h4 f9 f10 f11 f12 f13 f14 f16 f17 f20 f21 h0
  iapply ((firstAt m c t h1 h3 h4 f20).2 f10 f11 f14 f16 f18 f19 _)
  isplitl [H1]; · iexact H1
  isplitl [H2]; · iexact H2
  isplitl [H3]; · iexact H3
  isplitl [H5]; · iexact H5
  isplitl [H6]; · iexact H6
  isplitl [H7]; · iexact H7
  isplitl [H10]; · iexact H10
  isplitl [H11]; · iexact H11
  isplitl [H14]; · iexact H14
  isplitl [H16]; · iexact H16
  isplitl [H18]; · iexact H18
  isplitl [H19]; · iexact H19
  isplitl [H20]; · iexact H20
  isplitl [HW Hh Hc0 Hc1 Hs0 Hs1]
  · isplitl [HW]; · iexact HW
    isplitl [Hh]; · iexact Hh
    isplitl [Hc0]; · iexact Hc0
    isplitl [Hs0]; · iexact Hs0
    isplitl [Hc1]; · iexact Hc1
    iexact Hs1
  iintro ⟨H1, H2, H3, H5, H6, H7, H10, H11, H14, H16, H18, H19, H20, HW, Hh, Hc0, Hs0, Hc1, Hs1⟩
  isplitl [H14 H16 H17 H18 H19 H20 H21 Hs0 Hs1 Hr Hc0 Hc1 Hh]
  · isplitl [H14 H16 H17]
    · iexists _, _, _; isplitr; swap
      · isplitl [H14]; · iexact H14
        isplitl [H16]; · iexact H16
        iexact H17
      ipureintro; exact kI
    isplitl [H18]; · iexists _; iexact H18
    isplitl [H19]; · iexists _; iexact H19
    isplitl [H20]; · iexists _; iexact H20
    isplitl [H21]; · iexists _; iexact H21
    isplitl [Hs0 Hs1]
    · isplitl [Hs0]; · iexact Hs0
      iexact Hs1
    isplitl [Hr]; · iexact Hr
    isplitl [Hc0 Hc1]
    · isplitl [Hc0]; · iexact Hc0
      iexact Hc1
    iexact Hh
  isplitl [HW]; · iexact HW
  isplitl [H1]
  · unfold owns; iexists _; isplitr; swap; · iexact H1
    ipureintro; exact View.read_rep _ _
  isplitl [H2]
  · unfold owns; iexists _; isplitr; swap; · iexact H2
    ipureintro; exact View.read_rep _ _
  isplitl [H3]
  · unfold owns; iexists _; isplitr; swap; · iexact H3
    ipureintro; exact View.read_rep _ _
  isplitl [H4]
  · unfold owns; iexists _; isplitr; swap; · iexact H4
    ipureintro; exact hg4
  isplitl [H5]
  · unfold owns; iexists _; isplitr; swap; · iexact H5
    ipureintro; exact View.read_rep _ _
  isplitl [H6]
  · unfold owns; iexists _; isplitr; swap; · iexact H6
    ipureintro; exact View.read_rep _ _
  isplitl [H7]
  · unfold owns; iexists _; isplitr; swap; · iexact H7
    ipureintro; exact View.read_rep _ _
  isplitl [H9]
  · iexists _; isplitr; swap
    · unfold owns; iexists _; isplitr; swap; · iexact H9
      ipureintro; rfl
    ipureintro; exact k9
  isplitl [H10]
  · iexists _; isplitr; swap
    · unfold owns; iexists _; isplitr; swap; · iexact H10
      ipureintro; rfl
    ipureintro; exact k10
  isplitl [H11]
  · iexists _; isplitr; swap
    · unfold owns; iexists _; isplitr; swap; · iexact H11
      ipureintro; rfl
    ipureintro; exact k11
  isplitl [H12]
  · iexists _; isplitr; swap
    · unfold owns; iexists _; isplitr; swap; · iexact H12
      ipureintro; rfl
    ipureintro; exact k12
  iexists _; isplitr; swap
  · unfold owns; iexists _; isplitr; swap; · iexact H13
    ipureintro; rfl
  ipureintro; exact k13

set_option maxHeartbeats 4000000 in
/-- A point of the odd kind. -/
theorem odd_body (hS : S.Kept m) (c : Dev nD) (t : Fin cfg0.N) (h1 : ¬ k0_cond1 (grid0.coords t) = 1#1) (h3 : k0_cond3 (grid0.coords t) = 1#1) (h4 : ¬ k0_cond4 (grid0.coords t) = 1#1) :
    iprop(Inv m S c t.val ∗ (∃ W, owes (c : Thread nD τ) 0 W) ∗ Finds m c t)
      ⊢ wp frame (wpE (defs₀ (F := F)) Variants.none (c : Thread nD τ) none) Set.univ (bodyAt t)
          (fun _ => iprop(Inv m S c (t.val + 1) ∗ (∃ W, owes (c : Thread nD τ) 0 W) ∗ Leaves m S c t)) := by
  unfold Inv Finds owns
  iintro ⟨⟨⟨%f14, %f16, %f17, %hI, H14, H16, H17⟩, ⟨%f18, H18⟩, ⟨%f19, H19⟩, ⟨%f20, H20⟩, ⟨%f21, H21⟩, ⟨Hs0, Hs1⟩, Hr, ⟨Hc0, Hc1⟩, Hh⟩, HW, ⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, ⟨%Y9, %f9, -, H9⟩, ⟨%Y10, %f10, -, H10⟩, ⟨%Y11, %f11, -, H11⟩, ⟨%Y12, %f12, -, H12⟩, ⟨%Y13, %f13, -, H13⟩⟩
  ihave H1 := (pointsTo_rep_entails (c : Thread nD τ) (ms0 t) g1 fullShare) $$ H1
  rw [hg1]
  ihave H2 := (pointsTo_rep_entails (c : Thread nD τ) (ms1 t) g2 fullShare) $$ H2
  rw [hg2]
  ihave H3 := (pointsTo_rep_entails (c : Thread nD τ) (ms2 t) g3 fullShare) $$ H3
  rw [hg3]
  ihave H4 := (pointsTo_rep_entails (c : Thread nD τ) (ms3 t) g4 fullShare) $$ H4
  rw [hg4]
  ihave H5 := (pointsTo_rep_entails (c : Thread nD τ) (ms4 t) g5 fullShare) $$ H5
  rw [hg5]
  ihave H6 := (pointsTo_rep_entails (c : Thread nD τ) (ms5 t) g6 fullShare) $$ H6
  rw [hg6]
  obtain ⟨k9, k10, k11, k12, k13, kI⟩ := hS.odd c t h1 h3 h4 f9 f10 f11 f12 f13 f14 f16 f17 f20 f21 hI
  iapply ((oddAt m c t h1 h3 h4 f14 f16 f20 f21).2 f9 f10 f11 f12 f13 f17 f18 f19 _)
  isplitl [H1]; · iexact H1
  isplitl [H2]; · iexact H2
  isplitl [H3]; · iexact H3
  isplitl [H4]; · iexact H4
  isplitl [H5]; · iexact H5
  isplitl [H6]; · iexact H6
  isplitl [H9]; · iexact H9
  isplitl [H10]; · iexact H10
  isplitl [H11]; · iexact H11
  isplitl [H12]; · iexact H12
  isplitl [H13]; · iexact H13
  isplitl [H14]; · iexact H14
  isplitl [H16]; · iexact H16
  isplitl [H17]; · iexact H17
  isplitl [H18]; · iexact H18
  isplitl [H19]; · iexact H19
  isplitl [H20]; · iexact H20
  isplitl [H21]; · iexact H21
  iintro ⟨H1, H2, H3, H4, H5, H6, H9, H10, H11, H12, H13, H14, H16, H17, H18, H19, H20, H21⟩
  isplitl [H14 H16 H17 H18 H19 H20 H21 Hs0 Hs1 Hr Hc0 Hc1 Hh]
  · isplitl [H14 H16 H17]
    · iexists _, _, _; isplitr; swap
      · isplitl [H14]; · iexact H14
        isplitl [H16]; · iexact H16
        iexact H17
      ipureintro; exact kI
    isplitl [H18]; · iexists _; iexact H18
    isplitl [H19]; · iexists _; iexact H19
    isplitl [H20]; · iexists _; iexact H20
    isplitl [H21]; · iexists _; iexact H21
    isplitl [Hs0 Hs1]
    · isplitl [Hs0]; · iexact Hs0
      iexact Hs1
    isplitl [Hr]; · iexact Hr
    isplitl [Hc0 Hc1]
    · isplitl [Hc0]; · iexact Hc0
      iexact Hc1
    iexact Hh
  isplitl [HW]; · iexact HW
  isplitl [H1]
  · unfold owns; iexists _; isplitr; swap; · iexact H1
    ipureintro; exact View.read_rep _ _
  isplitl [H2]
  · unfold owns; iexists _; isplitr; swap; · iexact H2
    ipureintro; exact View.read_rep _ _
  isplitl [H3]
  · unfold owns; iexists _; isplitr; swap; · iexact H3
    ipureintro; exact View.read_rep _ _
  isplitl [H4]
  · unfold owns; iexists _; isplitr; swap; · iexact H4
    ipureintro; exact View.read_rep _ _
  isplitl [H5]
  · unfold owns; iexists _; isplitr; swap; · iexact H5
    ipureintro; exact View.read_rep _ _
  isplitl [H6]
  · unfold owns; iexists _; isplitr; swap; · iexact H6
    ipureintro; exact View.read_rep _ _
  isplitl [H7]
  · unfold owns; iexists _; isplitr; swap; · iexact H7
    ipureintro; exact hg7
  isplitl [H9]
  · iexists _; isplitr; swap
    · unfold owns; iexists _; isplitr; swap; · iexact H9
      ipureintro; rfl
    ipureintro; exact k9
  isplitl [H10]
  · iexists _; isplitr; swap
    · unfold owns; iexists _; isplitr; swap; · iexact H10
      ipureintro; rfl
    ipureintro; exact k10
  isplitl [H11]
  · iexists _; isplitr; swap
    · unfold owns; iexists _; isplitr; swap; · iexact H11
      ipureintro; rfl
    ipureintro; exact k11
  isplitl [H12]
  · iexists _; isplitr; swap
    · unfold owns; iexists _; isplitr; swap; · iexact H12
      ipureintro; rfl
    ipureintro; exact k12
  iexists _; isplitr; swap
  · unfold owns; iexists _; isplitr; swap; · iexact H13
    ipureintro; rfl
  ipureintro; exact k13

set_option maxHeartbeats 4000000 in
/-- A point of the even kind. -/
theorem even_body (hS : S.Kept m) (c : Dev nD) (t : Fin cfg0.N) (h1 : ¬ k0_cond1 (grid0.coords t) = 1#1) (h3 : ¬ k0_cond3 (grid0.coords t) = 1#1) (h4 : k0_cond4 (grid0.coords t) = 1#1) :
    iprop(Inv m S c t.val ∗ (∃ W, owes (c : Thread nD τ) 0 W) ∗ Finds m c t)
      ⊢ wp frame (wpE (defs₀ (F := F)) Variants.none (c : Thread nD τ) none) Set.univ (bodyAt t)
          (fun _ => iprop(Inv m S c (t.val + 1) ∗ (∃ W, owes (c : Thread nD τ) 0 W) ∗ Leaves m S c t)) := by
  unfold Inv Finds owns
  iintro ⟨⟨⟨%f14, %f16, %f17, %hI, H14, H16, H17⟩, ⟨%f18, H18⟩, ⟨%f19, H19⟩, ⟨%f20, H20⟩, ⟨%f21, H21⟩, ⟨Hs0, Hs1⟩, Hr, ⟨Hc0, Hc1⟩, Hh⟩, HW, ⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, ⟨%Y9, %f9, -, H9⟩, ⟨%Y10, %f10, -, H10⟩, ⟨%Y11, %f11, -, H11⟩, ⟨%Y12, %f12, -, H12⟩, ⟨%Y13, %f13, -, H13⟩⟩
  ihave H1 := (pointsTo_rep_entails (c : Thread nD τ) (ms0 t) g1 fullShare) $$ H1
  rw [hg1]
  ihave H2 := (pointsTo_rep_entails (c : Thread nD τ) (ms1 t) g2 fullShare) $$ H2
  rw [hg2]
  ihave H3 := (pointsTo_rep_entails (c : Thread nD τ) (ms2 t) g3 fullShare) $$ H3
  rw [hg3]
  ihave H4 := (pointsTo_rep_entails (c : Thread nD τ) (ms3 t) g4 fullShare) $$ H4
  rw [hg4]
  ihave H5 := (pointsTo_rep_entails (c : Thread nD τ) (ms4 t) g5 fullShare) $$ H5
  rw [hg5]
  ihave H6 := (pointsTo_rep_entails (c : Thread nD τ) (ms5 t) g6 fullShare) $$ H6
  rw [hg6]
  obtain ⟨k9, k10, k11, k12, k13, kI⟩ := hS.even c t h1 h3 h4 f9 f10 f11 f12 f13 f14 f16 f17 f20 f21 hI
  iapply ((evenAt m c t h1 h3 h4 f14 f17 f20 f21).2 f9 f10 f11 f12 f13 f16 f18 f19 _)
  isplitl [H1]; · iexact H1
  isplitl [H2]; · iexact H2
  isplitl [H3]; · iexact H3
  isplitl [H4]; · iexact H4
  isplitl [H5]; · iexact H5
  isplitl [H6]; · iexact H6
  isplitl [H9]; · iexact H9
  isplitl [H10]; · iexact H10
  isplitl [H11]; · iexact H11
  isplitl [H12]; · iexact H12
  isplitl [H13]; · iexact H13
  isplitl [H14]; · iexact H14
  isplitl [H16]; · iexact H16
  isplitl [H17]; · iexact H17
  isplitl [H18]; · iexact H18
  isplitl [H19]; · iexact H19
  isplitl [H20]; · iexact H20
  isplitl [H21]; · iexact H21
  iintro ⟨H1, H2, H3, H4, H5, H6, H9, H10, H11, H12, H13, H14, H16, H17, H18, H19, H20, H21⟩
  isplitl [H14 H16 H17 H18 H19 H20 H21 Hs0 Hs1 Hr Hc0 Hc1 Hh]
  · isplitl [H14 H16 H17]
    · iexists _, _, _; isplitr; swap
      · isplitl [H14]; · iexact H14
        isplitl [H16]; · iexact H16
        iexact H17
      ipureintro; exact kI
    isplitl [H18]; · iexists _; iexact H18
    isplitl [H19]; · iexists _; iexact H19
    isplitl [H20]; · iexists _; iexact H20
    isplitl [H21]; · iexists _; iexact H21
    isplitl [Hs0 Hs1]
    · isplitl [Hs0]; · iexact Hs0
      iexact Hs1
    isplitl [Hr]; · iexact Hr
    isplitl [Hc0 Hc1]
    · isplitl [Hc0]; · iexact Hc0
      iexact Hc1
    iexact Hh
  isplitl [HW]; · iexact HW
  isplitl [H1]
  · unfold owns; iexists _; isplitr; swap; · iexact H1
    ipureintro; exact View.read_rep _ _
  isplitl [H2]
  · unfold owns; iexists _; isplitr; swap; · iexact H2
    ipureintro; exact View.read_rep _ _
  isplitl [H3]
  · unfold owns; iexists _; isplitr; swap; · iexact H3
    ipureintro; exact View.read_rep _ _
  isplitl [H4]
  · unfold owns; iexists _; isplitr; swap; · iexact H4
    ipureintro; exact View.read_rep _ _
  isplitl [H5]
  · unfold owns; iexists _; isplitr; swap; · iexact H5
    ipureintro; exact View.read_rep _ _
  isplitl [H6]
  · unfold owns; iexists _; isplitr; swap; · iexact H6
    ipureintro; exact View.read_rep _ _
  isplitl [H7]
  · unfold owns; iexists _; isplitr; swap; · iexact H7
    ipureintro; exact hg7
  isplitl [H9]
  · iexists _; isplitr; swap
    · unfold owns; iexists _; isplitr; swap; · iexact H9
      ipureintro; rfl
    ipureintro; exact k9
  isplitl [H10]
  · iexists _; isplitr; swap
    · unfold owns; iexists _; isplitr; swap; · iexact H10
      ipureintro; rfl
    ipureintro; exact k10
  isplitl [H11]
  · iexists _; isplitr; swap
    · unfold owns; iexists _; isplitr; swap; · iexact H11
      ipureintro; rfl
    ipureintro; exact k11
  isplitl [H12]
  · iexists _; isplitr; swap
    · unfold owns; iexists _; isplitr; swap; · iexact H12
      ipureintro; rfl
    ipureintro; exact k12
  iexists _; isplitr; swap
  · unfold owns; iexists _; isplitr; swap; · iexact H13
    ipureintro; rfl
  ipureintro; exact k13

end Cert.KernelIdeal.Hand

end
-- ==== Proof.PI.Frame.lean ====
/- The launch: the body obligation at every point, the whole run's post for any claim that the points keep up, and the
   frame. -/
module

public import proofs.«01_k».proof.Proof.PI.Body
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationRel cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (S : Spec (F := F))

/-! ## The kinds of point -/

theorem cond1_iff : ∀ t : Fin cfg0.N, k0_cond1 (grid0.coords t) = 1#1 ↔ t.val = 0 := by decide +kernel
theorem cond3_iff : ∀ t : Fin cfg0.N, k0_cond3 (grid0.coords t) = 1#1 ↔ t.val % 2 = 1 := by decide +kernel
theorem cond4_iff : ∀ t : Fin cfg0.N, k0_cond4 (grid0.coords t) = 1#1 ↔ t.val % 2 = 0 ∧ t.val ≠ 0 := by decide +kernel

theorem point_body (hS : S.Kept m) (c : Dev nD) (t : Fin cfg0.N) :
    iprop(Inv m S c t.val ∗ (∃ W, owes (c : Thread nD τ) 0 W) ∗ Finds m c t)
      ⊢ wp frame (wpE (defs₀ (F := F)) Variants.none (c : Thread nD τ) none) Set.univ (bodyAt t)
          (fun _ => iprop(Inv m S c (t.val + 1) ∗ (∃ W, owes (c : Thread nD τ) 0 W) ∗ Leaves m S c t)) := by
  by_cases h0 : t.val = 0
  · exact first_body m S hS c t ((cond1_iff t).2 h0) (fun h => by have := (cond3_iff t).1 h; omega) (fun h => ((cond4_iff t).1 h).2 h0) h0
  · by_cases h1 : t.val % 2 = 1
    · exact odd_body m S hS c t (fun h => h0 ((cond1_iff t).1 h)) ((cond3_iff t).2 h1) (fun h => by have := ((cond4_iff t).1 h).1; omega)
    · exact even_body m S hS c t (fun h => h0 ((cond1_iff t).1 h)) (fun h => h1 ((cond3_iff t).1 h)) ((cond4_iff t).2 ⟨by omega, h0⟩)

/-! ## The proof data -/

/-- The windows of which a claim says something less than the exact contents: the results'. -/
def loose : Fin cfg0.W → Bool := fun w => decide (7 ≤ w.val)

def Rl (c : Dev nD) : (w : Fin cfg0.W) → Fin cfg0.N → ((cfg0.win w).block.Idx → Elt F (cfg0.win w).elt) → Prop := fun w t X =>
  match w with
  | ⟨7, _⟩ => S.out7 c t X
  | ⟨8, _⟩ => S.out8 c t X
  | ⟨9, _⟩ => S.out9 c t X
  | ⟨10, _⟩ => S.out10 c t X
  | ⟨11, _⟩ => S.out11 c t X
  | ⟨0, _⟩ | ⟨1, _⟩ | ⟨2, _⟩ | ⟨3, _⟩ | ⟨4, _⟩ | ⟨5, _⟩ | ⟨6, _⟩ => True

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => fun _ => Classical.arbitrary _
    | ⟨8, _⟩ => fun _ => Classical.arbitrary _
    | ⟨9, _⟩ => fun _ => Classical.arbitrary _
    | ⟨10, _⟩ => fun _ => Classical.arbitrary _
    | ⟨11, _⟩ => fun _ => Classical.arbitrary _
  Φ t := Inv m S c t.val
  q _ := fullShare
  owed _ := 0

theorem A_eq (c : Dev nD) (w : Fin cfg0.W) : (dats m S 0 c).A w = V m c (Pipeline.arrRef spec0 w) := by dsimp only [dats]

theorem after0 (c : Dev nD) (t : Fin cfg0.N) : (dats m S 0 c).after 0 t = iblk m c 0 t := by dsimp only [dats]
theorem before0 (c : Dev nD) (t : Fin cfg0.N) (d) : (dats m S 0 c).before 0 t d = iblk m c 0 t :=
  ((dats m S 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem after1 (c : Dev nD) (t : Fin cfg0.N) : (dats m S 0 c).after 1 t = iblk m c 1 t := by dsimp only [dats]
theorem before1 (c : Dev nD) (t : Fin cfg0.N) (d) : (dats m S 0 c).before 1 t d = iblk m c 1 t :=
  ((dats m S 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem after2 (c : Dev nD) (t : Fin cfg0.N) : (dats m S 0 c).after 2 t = iblk m c 2 t := by dsimp only [dats]
theorem before2 (c : Dev nD) (t : Fin cfg0.N) (d) : (dats m S 0 c).before 2 t d = iblk m c 2 t :=
  ((dats m S 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem after3 (c : Dev nD) (t : Fin cfg0.N) : (dats m S 0 c).after 3 t = iblk m c 3 t := by dsimp only [dats]
theorem before3 (c : Dev nD) (t : Fin cfg0.N) (d) : (dats m S 0 c).before 3 t d = iblk m c 3 t :=
  ((dats m S 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem after4 (c : Dev nD) (t : Fin cfg0.N) : (dats m S 0 c).after 4 t = iblk m c 4 t := by dsimp only [dats]
theorem before4 (c : Dev nD) (t : Fin cfg0.N) (d) : (dats m S 0 c).before 4 t d = iblk m c 4 t :=
  ((dats m S 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem after5 (c : Dev nD) (t : Fin cfg0.N) : (dats m S 0 c).after 5 t = iblk m c 5 t := by dsimp only [dats]
theorem before5 (c : Dev nD) (t : Fin cfg0.N) (d) : (dats m S 0 c).before 5 t d = iblk m c 5 t :=
  ((dats m S 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem after6 (c : Dev nD) (t : Fin cfg0.N) : (dats m S 0 c).after 6 t = iblk m c 6 t := by dsimp only [dats]
theorem before6 (c : Dev nD) (t : Fin cfg0.N) (d) : (dats m S 0 c).before 6 t d = iblk m c 6 t :=
  ((dats m S 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)

/-! ## The body obligation -/

abbrev bodyPre (c : Dev nD) (t : Fin cfg0.N) : sProp 𝕄 :=
  iprop((dats m S 0 c).Φ t.castSucc ∗ (dats m S 0 c).owesAt () t.castSucc
    ∗ (∃ d, owns (c : Thread nD τ) (ms0 t) fullShare ((dats m S 0 c).before 0 t d)) ∗ (∃ d, owns (c : Thread nD τ) (ms1 t) fullShare ((dats m S 0 c).before 1 t d)) ∗ (∃ d, owns (c : Thread nD τ) (ms2 t) fullShare ((dats m S 0 c).before 2 t d)) ∗ (∃ d, owns (c : Thread nD τ) (ms3 t) fullShare ((dats m S 0 c).before 3 t d)) ∗ (∃ d, owns (c : Thread nD τ) (ms4 t) fullShare ((dats m S 0 c).before 4 t d)) ∗ (∃ d, owns (c : Thread nD τ) (ms5 t) fullShare ((dats m S 0 c).before 5 t d)) ∗ (∃ d, owns (c : Thread nD τ) (ms6 t) fullShare ((dats m S 0 c).before 6 t d))
    ∗ (∃ Y, ⌜((dats m S 0 c).toRRel loose (Rl S c)).Finds 7 t Y⌝ ∗ owns (c : Thread nD τ) (ms7 t) fullShare Y) ∗ (∃ Y, ⌜((dats m S 0 c).toRRel loose (Rl S c)).Finds 8 t Y⌝ ∗ owns (c : Thread nD τ) (ms8 t) fullShare Y) ∗ (∃ Y, ⌜((dats m S 0 c).toRRel loose (Rl S c)).Finds 9 t Y⌝ ∗ owns (c : Thread nD τ) (ms9 t) fullShare Y) ∗ (∃ Y, ⌜((dats m S 0 c).toRRel loose (Rl S c)).Finds 10 t Y⌝ ∗ owns (c : Thread nD τ) (ms10 t) fullShare Y) ∗ (∃ Y, ⌜((dats m S 0 c).toRRel loose (Rl S c)).Finds 11 t Y⌝ ∗ owns (c : Thread nD τ) (ms11 t) fullShare Y))
abbrev bodyPost (c : Dev nD) (t : Fin cfg0.N) : sProp 𝕄 :=
  iprop((dats m S 0 c).Φ t.succ ∗ (dats m S 0 c).owesAt () t.succ
    ∗ owns (c : Thread nD τ) (ms0 t) fullShare ((dats m S 0 c).after 0 t) ∗ owns (c : Thread nD τ) (ms1 t) fullShare ((dats m S 0 c).after 1 t) ∗ owns (c : Thread nD τ) (ms2 t) fullShare ((dats m S 0 c).after 2 t) ∗ owns (c : Thread nD τ) (ms3 t) fullShare ((dats m S 0 c).after 3 t) ∗ owns (c : Thread nD τ) (ms4 t) fullShare ((dats m S 0 c).after 4 t) ∗ owns (c : Thread nD τ) (ms5 t) fullShare ((dats m S 0 c).after 5 t) ∗ owns (c : Thread nD τ) (ms6 t) fullShare ((dats m S 0 c).after 6 t)
    ∗ (∃ X, ⌜Rl S c 7 t X⌝ ∗ owns (c : Thread nD τ) (ms7 t) fullShare X) ∗ (∃ X, ⌜Rl S c 8 t X⌝ ∗ owns (c : Thread nD τ) (ms8 t) fullShare X) ∗ (∃ X, ⌜Rl S c 9 t X⌝ ∗ owns (c : Thread nD τ) (ms9 t) fullShare X) ∗ (∃ X, ⌜Rl S c 10 t X⌝ ∗ owns (c : Thread nD τ) (ms10 t) fullShare X) ∗ (∃ X, ⌜Rl S c 11 t X⌝ ∗ owns (c : Thread nD τ) (ms11 t) fullShare X))

theorem sound_body (hS : S.Kept m) (c : Dev nD) (t : Fin cfg0.N) :
    bodyPre m S c t ⊢ wp frame (wpE (defs₀ (F := F)) Variants.none (c : Thread nD τ) none) Set.univ (bodyAt t) (fun _ => bodyPost m S c t) := by
  refine triple_restated (point_body m S hS c t) rfl ?_ fun _ => ?_
  · unfold bodyPre Dat.owesAt Pipeline.owesWithin
    simp only [before0, before1, before2, before3, before4, before5, before6]
    rw [show (dats m S 0 c).Φ t.castSucc = Inv m S c t.val from rfl, show (dats m S 0 c).owed t.castSucc = 0 from rfl]
    iintro ⟨HI, ⟨%W, -, HW⟩, ⟨%d0, H0⟩, ⟨%d1, H1⟩, ⟨%d2, H2⟩, ⟨%d3, H3⟩, ⟨%d4, H4⟩, ⟨%d5, H5⟩, ⟨%d6, H6⟩, ⟨%Y7, -, H7⟩, ⟨%Y8, -, H8⟩, ⟨%Y9, -, H9⟩, ⟨%Y10, -, H10⟩, ⟨%Y11, -, H11⟩⟩
    isplitl [HI]; · iexact HI
    isplitl [HW]; · iexists W; iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    iexists _; iexact H11
  · unfold bodyPost Dat.owesAt Pipeline.owesWithin
    rw [after0, after1, after2, after3, after4, after5, after6]
    rw [show (dats m S 0 c).Φ t.succ = Inv m S c (t.val + 1) from rfl, show (dats m S 0 c).owed t.succ = 0 from rfl]
    iintro ⟨HI, ⟨%W, HW⟩, H⟩
    isplitl [HI]; · iexact HI
    isplitl [HW]
    · iexists W; isplitr; · ipureintro; exact fun _ _ => Or.inl trivial
      iexact HW
    iexact H

theorem defs₀_row (t : Fin cfg0.N) :
    defs₀ (F := F) .tc cfg0.body (cfg0.bodyArgs t (cfg0.slots t)) = bodyAt t := by
  unfold defs₀; rw [Defs.onTc_tc]

theorem body_obligation (hS : S.Kept m) (c : Dev nD) :
    BodyObligationRel (dats m S 0 c) (defs₀ (F := F)) Variants.none () Set.univ loose (Rl S c) := fun t => by
  rw [bigSep_W0, bigSep_W0, defs₀_row]
  exact triple_restated (sound_body m S hS c t) rfl .rfl fun _ => .rfl

/-! ## Into the region and out of it -/

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem held_eq (c : Dev nD) :
    (bigSep H0 (fun b => ((c : Thread nD τ).loc b) ↦{fullShare} V m c b) : sProp 𝕄) = bigSep Finset.univ (homeP c (XA m c)) := by
  unfold H0; rw [bigSep_singleton]; exact weights_eq c (XA m c)

theorem pt_whole (c : Dev nD) (b : Ref sig .tc) (f : Buf (Elt F) ((c : Thread nD τ).loc b)) :
    (((c : Thread nD τ).loc b) ↦{fullShare} f : sProp 𝕄) = pt c (Memref.whole b) f := by
  show _ = ((c : Thread nD τ).loc b ↦[(View.whole b).set]{fullShare} f : sProp 𝕄)
  rw [View.set_whole]

theorem rest_eq (c : Dev nD) :
    (Pipeline.ΦD osem0 spec0 H0 (V m) c : sProp 𝕄)
      = iprop(iprop((∃ f, pt c sc14 f) ∗ (∃ f : Buf (Elt F) ((c : Thread nD τ).loc cc0_scratch1), ((c : Thread nD τ).loc cc0_scratch1) ↦{fullShare} f)
            ∗ (∃ f, pt c sc16 f) ∗ (∃ f, pt c sc17 f) ∗ (∃ f, pt c sc18 f) ∗ (∃ f, pt c sc19 f) ∗ (∃ f, pt c sc20 f) ∗ (∃ f, pt c sc21 f))
          ∗ (∃ r, prngReg c r) ∗ (cellP c 0 ∗ cellP c 1) ∗ bigSep Finset.univ (homeP c (XA m c))) := by
  rw [Pipeline.ΦD_eq, scopedRest0_eq, ownSems0_eq, held_eq]
  simp only [pt, sc14, sc16, sc17, sc18, sc19, sc20, sc21, View.set_whole]; try rfl

theorem enter (hS : S.Kept m) (c : Dev nD) : Pipeline.ΦD osem0 spec0 H0 (V m) c ⊢ Inv m S c 0 := by
  rw [rest_eq]; unfold Inv
  iintro ⟨⟨⟨%f14, H14⟩, H15, ⟨%f16, H16⟩, ⟨%f17, H17⟩, H18, H19, H20, H21⟩, Hr, Hc, Hh⟩
  isplitl [H14 H16 H17]
  · iexists f14, f16, f17; isplitr; swap
    · isplitl [H14]; · iexact H14
      isplitl [H16]; · iexact H16
      iexact H17
    ipureintro; exact hS.start c f14 f16 f17
  isplitl [H18]; · iexact H18
  isplitl [H19]; · iexact H19
  isplitl [H20]; · iexact H20
  isplitl [H21]; · iexact H21
  isplitl [H15]
  · iapply (stage_split c); iexact H15
  isplitl [Hr]; · iexact Hr
  isplitl [Hc]; · iexact Hc
  iexact Hh

theorem leave (c : Dev nD) (n : ℕ) : Inv m S c n ⊢ Pipeline.ΦD osem0 spec0 H0 (V m) c := by
  rw [rest_eq]; unfold Inv
  iintro ⟨⟨%f14, %f16, %f17, -, H14, H16, H17⟩, H18, H19, H20, H21, H15, Hr, Hc, Hh⟩
  isplitl [H14 H15 H16 H17 H18 H19 H20 H21]
  · isplitl [H14]; · iexists f14; iexact H14
    isplitl [H15]; · iapply (stage_join c); iexact H15
    isplitl [H16]; · iexists f16; iexact H16
    isplitl [H17]; · iexists f17; iexact H17
    isplitl [H18]; · iexact H18
    isplitl [H19]; · iexact H19
    isplitl [H20]; · iexact H20
    iexact H21
  isplitl [Hr]; · iexact Hr
  isplitl [Hc]; · iexact Hc
  iexact Hh

/-! ## The run -/

abbrev rdats (c : Dev nD) : RDat τ (Elt F) Unit ℕ (Pipeline.UD sig nD τ) ℕ cfg0 c := (dats m S 0 c).toRRel loose (Rl S c)

set_option backward.isDefEq.respectTransparency.types false in
theorem run_main (hS : S.Kept m) : θ_run defs (onTc (τ := τ) (main (F := F))) (s₀ m ρ)
    (fun r => Pipeline.RDat.FramePost cfg0 (rdats m S) (V m) r ∧ r.2.sem = fun _ => 0) :=
  Pipeline.RDat.θ_run_frame_dma (Q' := _) cfgs (0 : Fin 1) launch0 osem0 defs₀ Variants.none (rdats m S) ownSemFacts0 H0 H0_sub m ρ main
    (hbody := fun c => (body_obligation m S hS c).toRRel) (hshare := fun c => (dats m S 0 c).share_full fun _ => rfl)
    (howed := fun _ _ => rfl) (V := V m) (hmain := hmain m Variants.none) (hA := A_eq m S)
    (hin := fun c => enter m S hS c) (hout := fun c => leave m S c _)

theorem args_of {r : PUnit × MemSt nD τ sig (Elt F)} (h : Pipeline.RDat.FramePost cfg0 (rdats m S) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 3 rfl).trans (V_main_arg3 m c),
      (Pipeline.RDat.FramePost.arr_in h c 4 rfl).trans (V_main_arg4 m c),
      ((h c).2 main_arg5 (Pipeline.mem_restRefs_of main_arg5 (by decide) (by decide))).trans (V_main_arg5 m c),
      (Pipeline.RDat.FramePost.arr_in h c 6 rfl).trans (V_main_arg6 m c)⟩

/-- The frame: the program ends, its argument arrays end unchanged and every semaphore counter ends at zero. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => args_of m Spec.any h.1 c, h.2⟩) (run_main m ρ Spec.any (Spec.any_kept m))

end Cert.KernelIdeal.Hand

end
-- ==== Proof.PI.Tiles.lean ====
/- What a point stores, said once for every group: the tile of one group and batch is quantised by the same operations
   whichever the group, and the stores of a point are these tiles in order. -/
module

public import proofs.«01_k».proof.Proof.PI.Base

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-! ## The quantiser of one tile -/

/-- The greatest magnitude of each row, over 57344. -/
def ampV (g : FVec F S128x128 .f32) : FVec F S128x1 .f32 :=
  mulf (shapeCast S128x1 (multiReduction FKind.maximumf [1] S128 (absf g) (4286578688#32) reduces_S128x128_S128 k0_pay88._proof_1 k0_pay88._proof_2) shapeCasts_S128_S128x1)
    (broadcast S128x1 (FloatOps.ofBits FTy.f32 932333861#32))

/-- The exponent words. -/
def powV : IVec S128x256 32 :=
  shli (minsi (iota Kind.tc S128x256 32 [1] iota_S128x256_d1_w32) (broadcast S128x256 252#32)) (broadcast S128x256 23#32)

/-- The exponent word of each row. -/
def expV (g : FVec F S128x128 .f32) : IVec S128x1 32 :=
  have e := shapeCast S128x1 (multiReductionI IKind.maxsi [1] S128
    (select (cmpf CmpFPredicate.oge (broadcastTo S128x256 (ampV g) broadcasts_S128x1_S128x256) (bitcastToFloat FTy.f32 powV)) powV (broadcast S128x256 0#32))
    (2147483648#32) reduces_S128x256_S128 k0_pay90._proof_1) shapeCasts_S128_S128x1
  select (cmpi CmpIPredicate.eq e (broadcast S128x1 0#32)) (broadcast S128x1 1056964608#32) e

def scaleV (g : FVec F S128x128 .f32) : FVec F S128x1 .f32 :=
  bitcastToFloat FTy.f32 (addi (expV g) (broadcast S128x1 8388608#32))

def codeV (g : FVec F S128x128 .f32) : FVec F S128x128 .fp8e5m2 :=
  truncf .fp8e5m2 (minimumf (broadcast S128x128 (FloatOps.ofBits FTy.f32 1197473792#32)) (maximumf (broadcast S128x128 (FloatOps.ofBits FTy.f32 3344957440#32))
    (mulf g (broadcastTo S128x128 (bitcastToFloat FTy.f32 (subi (broadcast S128x1 2122317824#32) (expV g))) broadcasts_S128x1_S128x128)))) bitsLt_fp8e5m2_f32

/-- The three stores of a group. -/
def codeS (g : FVec F S128x128 .f32) : FVec F S1x128x128 .fp8e5m2 := shapeCast S1x128x128 (codeV g) shapeCasts_S128x128_S1x128x128
def scaleS (g : FVec F S128x128 .f32) : FVec F S128x1 .f32 := shapeCast S128x1 (scaleV g) shapeCasts_S128x1_S128x1
def lhsS (g : FVec F S128x128 .f32) : FVec F S128x128 .bf16 :=
  shapeCast S128x128 (mulf (extf .bf16 (codeV g) bitsLt_fp8e5m2_bf16) (broadcastTo S128x128 (truncf .bf16 (scaleV g) bitsLt_bf16_f32) broadcasts_S128x1_S128x128)) shapeCasts_S128x128_S128x128

/-! ## The tile of one group -/

/-- The inverse rotation, from the tables of cosines and of signed sines. -/
def ropeV (g cs sn : FVec F S128x128 .f32) : FVec F S128x128 .f32 :=
  addf (mulf g cs) (mulf (dynamicRotate 1 (64#32) none g rotates_S128x128_d1) sn)

def dqV (x : Vec F S1x1x128x128 .bf16) : FVec F S128x128 .f32 := extf .f32 (shapeCast S128x128 x shapeCasts_S1x1x128x128_S128x128) bitsLt_bf16_f32

def kvV (p : Fin 2) (x : Vec F S1x128x2x128 .bf16) : FVec F S128x128 .f32 :=
  extf .f32 (shapeCast S128x128 (shapeCast S1x128x128 (rowsOfParity p S1x128x1x128 x bitcasts_S1x128x2x128_w16_S1x128x1x128_w32) shapeCasts_S1x128x1x128_S1x128x128) shapeCasts_S1x128x128_S128x128) bitsLt_bf16_f32

/-- The angles of a tile's rows. -/
def angleV (p : Vec F S1x128 .i32) (q : Vec F S1x128 .f32) : FVec F S128x128 .f32 :=
  mulf (transpose S128x128 [1, 0] (broadcastTo S128x128 (shapeCast S1x128 (sitofp (F := F) FTy.f32 p) shapeCasts_S1x128_S1x128) broadcasts_S1x128_S128x128) transposes_S128x128_p1_0_S128x128)
    (broadcastTo S128x128 (shapeCast S1x128 q shapeCasts_S1x128_S1x128) broadcasts_S1x128_S128x128)
def cosS (p : Vec F S1x128 .i32) (q : Vec F S1x128 .f32) : FVec F S128x128 .f32 := shapeCast S128x128 (cos (angleV p q)) shapeCasts_S128x128_S128x128
def sinS (p : Vec F S1x128 .i32) (q : Vec F S1x128 .f32) : FVec F S128x128 .f32 :=
  shapeCast S128x128 (select (cmpi CmpIPredicate.slt (iota Kind.tc S128x128 32 [1] iota_S128x128_d1_w32) (broadcast S128x128 64#32))
    (sin (angleV p q)) (subf (broadcast S128x128 (FloatOps.ofBits FTy.f32 0#32)) (sin (angleV p q)))) shapeCasts_S128x128_S128x128

/-! ## The rectangles of the stores and the loads, batch `k % 2` of group `k / 2` -/

abbrev rectC (b h : ℕ) : Rect S2x128x4608 := Rect.unit ![b % 2, 0, 128 * (h % 36)] S1x128x128.size (by intro a; fin_cases a <;> simp <;> omega)
abbrev rectL (b h : ℕ) : Rect S256x4608 := Rect.unit ![128 * (b % 2), 128 * (h % 36)] S128x128.size (by intro a; fin_cases a <;> simp <;> omega)
abbrev rectS (b h : ℕ) : Rect S256x128 := Rect.unit ![128 * (b % 2), h % 36] S128x1.size (by intro a; fin_cases a <;> simp <;> omega)
abbrev rectT (b : ℕ) : Rect S256x128 := Rect.unit ![128 * (b % 2), 0] S128x128.size (by intro a; fin_cases a <;> simp <;> omega)
abbrev rectP (b : ℕ) : Rect S2x128 := Rect.unit ![b % 2, 0] S1x128.size (by intro a; fin_cases a <;> simp <;> omega)
abbrev rectQ (b h : ℕ) : Rect S2x28x128x128 := Rect.unit ![b % 2, h % 28, 0, 0] S1x1x128x128.size (by intro a; fin_cases a <;> simp <;> omega)
abbrev rectX (b n : ℕ) : Rect S2x128x3584 := Rect.unit ![b % 2, 0, 128 * (n % 28)] S1x128x128.size (by intro a; fin_cases a <;> simp <;> omega)
abbrev rectK (b j : ℕ) : LoadRect S2x256x2x128 := { off := ![b % 2, j % 2, 0, 0], size := S1x128x2x128.size, stride := ![1, 2, 1, 1], inb := by intro a; right; fin_cases a <;> simp <;> omega }

/-- Stores `0 … n - 1` in front of a list, the last first. -/
def pieces {S : Shape} {e : EltTy} (P : ℕ → View.Piece (Elt F) S e) : ℕ → List (View.Piece (Elt F) S e) → List (View.Piece (Elt F) S e)
  | 0, L => L
  | n + 1, L => P n :: pieces P n L

variable (c : Dev nD)
  (arg1 : Memref sig .tc .vmem S2x28x128x128 .bf16)
  (arg2 : Memref sig .tc .vmem S2x512x128 .bf16) (harg2 : arg2.IsWhole)
  (arg3 : Memref sig .tc .vmem S2x512x128 .bf16) (harg3 : arg3.IsWhole)
  (arg4 : Memref sig .tc .vmem S2x128x3584 .bf16)
  (arg5 : Memref sig .tc .vmem S2x128 .i32)
  (arg6 : Memref sig .tc .vmem S8x128 .f32)
  (arg14 : Memref sig .tc .vmem S4608x3584 .bf16)
  (arg16 : Memref sig .tc .vmem S256x4608 .bf16)
  (arg18 : Memref sig .tc .vmem S256x128 .f32)
  (arg19 : Memref sig .tc .vmem S256x128 .f32)
  (f1 : Bf (F := F) c arg1) (f2 : Bf (F := F) c arg2) (f3 : Bf (F := F) c arg3) (f4 : Bf (F := F) c arg4) (f5 : Bf (F := F) c arg5) (f6 : Bf (F := F) c arg6)
  (f14 : Bf (F := F) c arg14) (f16 : Bf (F := F) c arg16)

abbrev posR (b : ℕ) : Vec F S1x128 .i32 := View.readAt (Elt F) arg5.view (rectP b).toLoadRect f5
abbrev frqR : Vec F S1x128 .f32 := View.readAt (Elt F) arg6.view (Rect.unit (s := S8x128) ![0, 0] S1x128.size inb_S8x128_S1x128_0_0).toLoadRect f6

/-- The tables. -/
def cosP : ℕ → View.Piece (Elt F) S256x128 .f32 := fun b => ⟨rectT b, cosS (posR c arg5 f5 b) (frqR c arg6 f6)⟩
def sinP : ℕ → View.Piece (Elt F) S256x128 .f32 := fun b => ⟨rectT b, sinS (posR c arg5 f5 b) (frqR c arg6 f6)⟩
def cosR (b : ℕ) : FVec F S128x128 .f32 := arg18.view.readCov (pieces (cosP c arg5 arg6 f5 f6) 2 []) (rectT b).toLoadRect
def sinR (b : ℕ) : FVec F S128x128 .f32 := arg19.view.readCov (pieces (sinP c arg5 arg6 f5 f6) 2 []) (rectT b).toLoadRect

/-- The tiles: of the query heads, the key heads, the value heads. -/
def tileQ (k : ℕ) : FVec F S128x128 .f32 :=
  ropeV (dqV (View.readAt (Elt F) arg1.view (rectQ k (k / 2)).toLoadRect f1)) (cosR c arg5 arg6 arg18 f5 f6 k) (sinR c arg5 arg6 arg19 f5 f6 k)
abbrev kvR (M : Memref sig .tc .vmem S2x512x128 .bf16) (hM : M.IsWhole) (f : Bf (F := F) c M) (k : ℕ) : Vec F S1x128x2x128 .bf16 :=
  View.readAt (Elt F) (M.reshape S2x256x2x128 reshapes_S2x512x128_S2x256x2x128.1 reshapes_S2x512x128_S2x256x2x128.2 hM.contiguous).view (rectK k (k / 2 / 2)) f
def tileK (k : ℕ) : FVec F S128x128 .f32 :=
  ropeV (kvV (Fin.ofNat 2 (k / 2 % 2)) (kvR c arg2 harg2 f2 k)) (cosR c arg5 arg6 arg18 f5 f6 k) (sinR c arg5 arg6 arg19 f5 f6 k)
def tileV (k : ℕ) : FVec F S128x128 .f32 := kvV (Fin.ofNat 2 (k / 2 % 2)) (kvR c arg3 harg3 f3 k)

def codeP (h0 : ℕ) (g : ℕ → FVec F S128x128 .f32) : ℕ → View.Piece (Elt F) S2x128x4608 .fp8e5m2 := fun k => ⟨rectC k (h0 + k / 2), codeS (g k)⟩
def lhsP (h0 : ℕ) (g : ℕ → FVec F S128x128 .f32) : ℕ → View.Piece (Elt F) S256x4608 .bf16 := fun k => ⟨rectL k (h0 + k / 2), lhsS (g k)⟩
def scaleP (h0 : ℕ) (g : ℕ → FVec F S128x128 .f32) : ℕ → View.Piece (Elt F) S256x128 .f32 := fun k => ⟨rectS k (h0 + k / 2), scaleS (g k)⟩

/-- The stores of all groups. -/
def allG {S : Shape} {e : EltTy} (P : ℕ → (ℕ → FVec F S128x128 .f32) → ℕ → View.Piece (Elt F) S e) : List (View.Piece (Elt F) S e) :=
  pieces (P 32 (tileV c arg3 harg3 f3)) 8 (pieces (P 28 (tileK c arg2 harg2 arg5 arg6 arg18 arg19 f2 f5 f6)) 8
    (pieces (P 0 (tileQ c arg1 arg5 arg6 arg18 arg19 f1 f5 f6)) 56 []))

end Cert.KernelIdeal.Hand

end
-- ==== Proof.PI.Epi.lean ====
/- What a point stores of the product: 56 tiles, each a slice of the product of a chunk of 512 columns plus the residual,
   rounded, quantised, and its scales; and the transposed tables of scales. -/
module

public import proofs.«01_k».proof.Proof.PI.Tiles

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- Tile `k` is batch `k / 4 % 2` and column group `4 * (k / 8) + k % 4`. -/
abbrev eb (k : ℕ) : ℕ := k / 4 % 2
abbrev en (k : ℕ) : ℕ := 4 * (k / 8) + k % 4

theorem slices_chunk (b j : ℕ) : S256x512.Slices ![128 * (b % 2), 128 * (j % 4)] S128x128 := by
  have key : ∀ (b : Fin 2) (j : Fin 4), S256x512.Slices ![128 * b.val, 128 * j.val] S128x128 := by decide
  exact key ⟨b % 2, Nat.mod_lt _ (by omega)⟩ ⟨j % 4, Nat.mod_lt _ (by omega)⟩

abbrev rectW (n : ℕ) : Rect S4608x3584 := Rect.unit ![0, 512 * (n % 7)] S4608x512.size (by intro a; fin_cases a <;> simp <;> omega)

variable (c : Dev nD)
  (arg4 : Memref sig .tc .vmem S2x128x3584 .bf16)
  (arg14 : Memref sig .tc .vmem S4608x3584 .bf16)
  (arg16 : Memref sig .tc .vmem S256x4608 .bf16)
  (f4 : Bf (F := F) c arg4) (f14 : Bf (F := F) c arg14) (f16 : Bf (F := F) c arg16)

/-- The product of the left-hand buffer and a chunk of the weights. -/
def prodV (n : ℕ) : FVec F S256x512 .f32 :=
  matmul dot_S256x4608_S4608x512_S256x512_1_0_0_1_n_n none
    (View.readAt (Elt F) arg16.view (Rect.unit (s := S256x4608) ![0, 0] S256x4608.size inb_S256x4608_S256x4608_0_0).toLoadRect f16)
    (View.readAt (Elt F) arg14.view (rectW n).toLoadRect f14) (constant S256x512 .f32 0#32)

/-- The tile's sum with the residual. -/
def tileY (k : ℕ) : FVec F S128x128 .f32 :=
  addf (extractStridedSlice S128x128 ![128 * (eb k % 2), 128 * (k % 4 % 4)] (prodV c arg14 arg16 f14 f16 (k / 8)) (slices_chunk (eb k) (k % 4)))
    (extf .f32 (shapeCast S128x128 (View.readAt (Elt F) arg4.view (rectX (eb k) (en k)).toLoadRect f4) shapeCasts_S1x128x128_S128x128) bitsLt_bf16_f32)

def dxP (g : ℕ → FVec F S128x128 .f32) : ℕ → View.Piece (Elt F) S2x128x3584 .bf16 :=
  fun k => ⟨rectX (eb k) (en k), shapeCast S1x128x128 (truncf .bf16 (g k) bitsLt_bf16_f32) shapeCasts_S128x128_S1x128x128⟩
def dcP (g : ℕ → FVec F S128x128 .f32) : ℕ → View.Piece (Elt F) S2x128x3584 .fp8e5m2 := fun k => ⟨rectX (eb k) (en k), codeS (g k)⟩
def dsP (g : ℕ → FVec F S128x128 .f32) : ℕ → View.Piece (Elt F) S256x128 .f32 := fun k => ⟨rectS (eb k) (en k), scaleS (g k)⟩

abbrev rectG (b : ℕ) : Rect S36x2x128 := Rect.unit ![0, b % 2, 0] S36x1x128.size (by intro a; fin_cases a <;> simp <;> omega)
abbrev rectD (b : ℕ) : Rect S28x2x128 := Rect.unit ![0, b % 2, 0] S28x1x128.size (by intro a; fin_cases a <;> simp <;> omega)

/-- The transposed tables, from what the scratch reads as. -/
def gsP (tab : ℕ → Vec F S128x128 .f32) : ℕ → View.Piece (Elt F) S36x2x128 .f32 := fun b =>
  ⟨rectG b, shapeCast S36x1x128 (extractStridedSlice S36x128 ![0, 0] (transpose S128x128 [1, 0] (tab b) transposes_S128x128_p1_0_S128x128) slices_S128x128_o0_0_S36x128) shapeCasts_S36x128_S36x1x128⟩
def dsT (tab : ℕ → Vec F S128x128 .f32) : ℕ → View.Piece (Elt F) S28x2x128 .f32 := fun b =>
  ⟨rectD b, shapeCast S28x1x128 (extractStridedSlice S28x128 ![0, 0] (transpose S128x128 [1, 0] (tab b) transposes_S128x128_p1_0_S128x128) slices_S128x128_o0_0_S28x128) shapeCasts_S28x128_S28x1x128⟩
def tabV (M : Memref sig .tc .vmem S256x128 .f32) (f : Bf (F := F) c M) (L : List (View.Piece (Elt F) S256x128 .f32)) (b : ℕ) : Vec F S128x128 .f32 :=
  View.readAt (Elt F) M.view (rectT b).toLoadRect (M.view.writes (Elt F) f L)

end Cert.KernelIdeal.Hand

end
-- ==== Proof.Pure.Quant.lean ====
/-
  The scale of one quantised group, computed in two ways from `x`, the greatest magnitude of the group times 1/57344.

  * The kernel finds the greatest of the words `l <<< 23` (`l ≤ 252`) whose value is at most `x`, and forms the scale and its
    inverse by integer additions to that word.
  * The reference takes the least power of two above `x`, and one when `x` is below `2 ^ (-126)`.

  `scale_eq` and `inv_eq` state that the two agree at every extended real `x`.
-/
module

public import Idealize.ShloMosaic.Lib.Pointwise

@[expose] public section

set_option maxRecDepth 16384

noncomputable section

namespace Cert.Quant

open Idealize Idealize.ShloMosaic

/-- The word of exponent field `min l 252`, the other fields zero. -/
def word (l : Nat) : BitVec 32 := IntOp.shli .vector (IntOp.minsi (BitVec.ofNat 32 l) 252#32) 23#32

/-- The kernel's word: the greatest of the `word l` whose value is at most `x`, zero if none. -/
def kWord (x : EReal) : BitVec 32 :=
  Finset.fold IntOp.maxsi 2147483648#32
    (fun l : Fin 256 => if Ideal.ofBits .f32 (word l) ≤ x then word l else 0#32) Finset.univ

/-- That word, a half for zero. -/
def kWord' (x : EReal) : BitVec 32 := if kWord x = 0#32 then 1056964608#32 else kWord x

/-- The kernel's scale. -/
def kScale (x : EReal) : EReal := Ideal.ofBits .f32 (IntOp.addi (kWord' x) 8388608#32)

/-- The kernel's inverse scale. -/
def kInv (x : EReal) : EReal := Ideal.ofBits .f32 (IntOp.subi 2122317824#32 (kWord' x))

/-- The power of two at index `l` of the reference's table. -/
def power (l : Nat) : EReal := Ideal.exp2 (((IntOp.subi (BitVec.ofNat 32 l) 125#32).toInt : ℝ) : EReal)

/-- The reference's scale. -/
def rScale (x : EReal) : EReal :=
  if x < Ideal.ofBits .f32 8388608#32 then Ideal.ofBits .f32 1065353216#32
  else Finset.fold min (Ideal.ofBits .f32 2139095040#32)
    (fun l : Fin 252 => if x < power l then power l else Ideal.ofBits .f32 2122317824#32) Finset.univ

/-- A power of two as an extended real. -/
def two (e : Int) : EReal := ((2 : ℝ) ^ e : ℝ)

theorem two_le {a b : Int} (h : a ≤ b) : two a ≤ two b :=
  EReal.coe_le_coe_iff.2 (zpow_le_zpow_right₀ (by norm_num) h)

theorem two_ne_zero (a : Int) : two a ≠ 0 := by
  unfold two
  exact_mod_cast (zpow_pos (by norm_num : (0 : ℝ) < 2) a).ne'

theorem two_inv (a : Int) : (two a)⁻¹ = two (-a) := by
  unfold two
  rw [← EReal.coe_inv, zpow_neg]

/-- A word that holds an exponent field alone reads as a power of two. -/
theorem ofBits_field (n : Nat) (h : 1 ≤ n) (h' : n ≤ 254) :
    Ideal.ofBits .f32 (BitVec.ofNat 32 (n * 8388608)) = two ((n : Int) - 127) := by
  have key : ∀ k : Fin 255, ((BitVec.ofNat 32 (k.val * 8388608)).extractLsb' 31 1 == 1#1) = false
      ∧ ((BitVec.ofNat 32 (k.val * 8388608)).extractLsb' 23 8).toNat = k.val
      ∧ ((BitVec.ofNat 32 (k.val * 8388608)).extractLsb' 0 23).toNat = 0 := by decide +kernel
  obtain ⟨h1, h2, h3⟩ := key ⟨n, by omega⟩
  show Ideal.ieee 8 23 (BitVec.ofNat 32 (n * 8388608)) = _
  unfold Ideal.ieee
  simp only [] at h1 h2 h3
  simp only [h1, h2, h3]
  rw [if_neg (by omega), if_neg (by omega)]
  unfold two
  congr 1
  have : ((n : Int) - 127) = ((n : Int) - (2 ^ (8 - 1) - 1) - (23 : Nat)) + 23 := by norm_num
  rw [this, zpow_add₀ (by norm_num)]
  norm_num
  ring

theorem ofBits_zero : Ideal.ofBits .f32 0#32 = 0 := by
  simp [Ideal.ofBits, Ideal.ieee]

theorem word_eq (l : Fin 256) : word l = BitVec.ofNat 32 (min l.val 252 * 8388608) := by
  have key : ∀ l : Fin 256, word l = BitVec.ofNat 32 (min l.val 252 * 8388608) := by decide +kernel
  exact key l

theorem word_value (l : Fin 256) (h : 1 ≤ l.val) : Ideal.ofBits .f32 (word l) = two ((min l.val 252 : Nat) - 127) := by
  rw [word_eq, ofBits_field _ (by omega) (by omega)]

theorem power_eq (l : Fin 252) : power l = two ((l.val : Int) - 125) := by
  have key : ∀ l : Fin 252, (IntOp.subi (BitVec.ofNat 32 l.val) 125#32).toInt = (l.val : Int) - 125 := by decide +kernel
  unfold power two
  rw [key]
  show ((Real.rpow 2 _ : ℝ) : EReal) = _
  congr 1
  exact Real.rpow_intCast 2 _

/-- A fold of an idempotent operation whose greatest member is known is that member. -/
theorem fold_eq_of_top {ι α : Type} [DecidableEq ι] [Fintype ι] (op : α → α → α) [Std.Commutative op] [Std.Associative op]
    [Std.IdempotentOp op] (b : α) (f : ι → α) (i : ι) (hb : op (f i) b = f i) (h : ∀ j, op (f i) (f j) = f i) :
    Finset.fold op b f Finset.univ = f i := by
  have key : ∀ s : Finset ι, op (f i) (Finset.fold op b f s) = f i := by
    intro s
    induction s using Finset.induction_on with
    | empty => rw [Finset.fold_empty, hb]
    | insert a s ha ih => rw [Finset.fold_insert ha, ← Std.Associative.assoc (op := op), h, ih]
  have hi : (Finset.univ : Finset ι) = insert i Finset.univ := (Finset.insert_eq_of_mem (Finset.mem_univ i)).symm
  rw [hi, Finset.fold_insert_idem, key]

instance : Std.IdempotentOp (IntOp.maxsi (w := 32)) := ⟨fun x => by unfold IntOp.maxsi; split <;> rfl⟩

/-- The greater of two words of nonnegative numbers. -/
theorem maxsi_fields (a b : Nat) (h : b ≤ a) (ha : a ≤ 252) :
    IntOp.maxsi (BitVec.ofNat 32 (a * 8388608)) (BitVec.ofNat 32 (b * 8388608)) = BitVec.ofNat 32 (a * 8388608) := by
  have hn : ∀ n, n ≤ 252 → (BitVec.ofNat 32 (n * 8388608)).toInt = (n * 8388608 : Nat) := by
    intro n hn
    rw [BitVec.toInt_eq_toNat_of_lt (by rw [BitVec.toNat_ofNat]; omega), BitVec.toNat_ofNat]
    omega
  unfold IntOp.maxsi
  split
  · rfl
  · next hlt =>
    have : a = b := by
      rw [BitVec.slt_eq_decide, hn a ha, hn b (by omega)] at hlt
      simp at hlt
      omega
    rw [this]

theorem maxsi_start (a : Nat) (ha : a ≤ 252) :
    IntOp.maxsi (BitVec.ofNat 32 (a * 8388608)) 2147483648#32 = BitVec.ofNat 32 (a * 8388608) := by
  have key : ∀ k : Fin 253, IntOp.maxsi (BitVec.ofNat 32 (k.val * 8388608)) 2147483648#32 = BitVec.ofNat 32 (k.val * 8388608) := by
    decide +kernel
  exact key ⟨a, by omega⟩

/-- Below the least normal number the kernel's word is zero. -/
theorem kWord_small (x : EReal) (hx : x < two (-126)) : kWord x = 0#32 := by
  have h0 : ∀ l : Fin 256, (if Ideal.ofBits .f32 (word l) ≤ x then word l else 0#32) = 0#32 := by
    intro l
    split
    · next h =>
      by_cases hl : l.val = 0
      · rw [word_eq, hl]; rfl
      · rw [word_value l (by omega)] at h
        exact absurd (lt_of_le_of_lt (le_trans (two_le (by omega)) h) hx) (lt_irrefl _)
    · rfl
  unfold kWord
  rw [fold_eq_of_top IntOp.maxsi _ _ (0 : Fin 256) (by rw [h0]; rfl) (fun j => by rw [h0, h0]; rfl), h0]

/-- With `j` the greatest index whose power is at most `x`, the kernel's word is the word of `j`. -/
theorem kWord_big (x : EReal) (j : Nat) (h1 : 1 ≤ j) (h2 : j ≤ 252) (hj : two ((j : Int) - 127) ≤ x)
    (hlt : j < 252 → x < two ((j : Int) - 126)) : kWord x = BitVec.ofNat 32 (j * 8388608) := by
  have hv : ∀ l : Fin 256, ∃ k, k ≤ j ∧ (if Ideal.ofBits .f32 (word l) ≤ x then word l else 0#32) = BitVec.ofNat 32 (k * 8388608) := by
    intro l
    split
    · next h =>
      refine ⟨min l.val 252, ?_, word_eq l⟩
      by_contra hc
      rw [word_value l (by omega)] at h
      exact absurd (lt_of_le_of_lt (le_trans (two_le (by omega)) h) (hlt (by omega))) (lt_irrefl _)
    · exact ⟨0, by omega, rfl⟩
  have ht : (if Ideal.ofBits .f32 (word j) ≤ x then word j else 0#32) = BitVec.ofNat 32 (j * 8388608) := by
    have hw := word_eq ⟨j, by omega⟩
    have hwv := word_value ⟨j, by omega⟩ h1
    simp only [Nat.min_eq_left h2] at hw hwv
    rw [hwv, if_pos hj, hw]
  unfold kWord
  rw [fold_eq_of_top IntOp.maxsi _ _ (⟨j, by omega⟩ : Fin 256)]
  · exact ht
  · simp only []
    rw [ht]; exact maxsi_start j h2
  · intro l
    obtain ⟨k, hk, e⟩ := hv l
    simp only [] at e ⊢
    rw [ht, e]; exact maxsi_fields j k hk h2

/-- The index of the greatest power at most `x`. -/
theorem exists_index (x : EReal) (hx : two (-126) ≤ x) :
    ∃ j : Nat, 1 ≤ j ∧ j ≤ 252 ∧ two ((j : Int) - 127) ≤ x ∧ (j < 252 → x < two ((j : Int) - 126)) := by
  classical
  let P : Nat → Prop := fun j => 1 ≤ j ∧ two ((j : Int) - 127) ≤ x
  have h1 : P 1 := ⟨le_refl _, by simpa using hx⟩
  refine ⟨Nat.findGreatest P 252, ?_, Nat.findGreatest_le _, ?_, ?_⟩
  · exact (Nat.findGreatest_spec (P := P) (by norm_num : 1 ≤ 252) h1).1
  · exact (Nat.findGreatest_spec (P := P) (by norm_num : 1 ≤ 252) h1).2
  · intro hlt
    by_contra hc
    have hp : P (Nat.findGreatest P 252 + 1) := ⟨by omega, by
      have : (((Nat.findGreatest P 252 + 1 : Nat) : Int) - 127) = (Nat.findGreatest P 252 : Int) - 126 := by push_cast; ring
      rw [this]; exact not_lt.1 hc⟩
    exact Nat.findGreatest_is_greatest (Nat.lt_succ_self _) (by omega) hp

theorem field_one : Ideal.ofBits .f32 1065353216#32 = two 0 := ofBits_field 127 (by norm_num) (by norm_num)
theorem field_least : Ideal.ofBits .f32 8388608#32 = two (-126) := ofBits_field 1 (by norm_num) (by norm_num)
theorem field_top : Ideal.ofBits .f32 2122317824#32 = two 126 := ofBits_field 253 (by norm_num) (by norm_num)
theorem field_inf : Ideal.ofBits .f32 2139095040#32 = ⊤ := by
  simp [Ideal.ofBits, Ideal.ieee]

theorem rScale_big (x : EReal) (j : Nat) (h1 : 1 ≤ j) (h2 : j ≤ 252) (hj : two ((j : Int) - 127) ≤ x)
    (hlt : j < 252 → x < two ((j : Int) - 126)) : rScale x = two ((j : Int) - 126) := by
  unfold rScale
  rw [field_least, if_neg (not_lt.2 (le_trans (two_le (by omega)) hj)), field_inf, field_top]
  have hv : ∀ l : Fin 252, two ((j : Int) - 126) ≤ (if x < power l then power l else two 126) := by
    intro l
    split
    · next h =>
      rw [power_eq] at h ⊢
      refine two_le ?_
      by_contra hc
      exact absurd (lt_of_lt_of_le h (le_trans (two_le (by omega)) hj)) (lt_irrefl _)
    · exact two_le (by omega)
  have ht : (if x < power (j - 1) then power (j - 1) else two 126) = two ((j : Int) - 126) := by
    have hp := power_eq ⟨j - 1, by omega⟩
    simp only [] at hp
    have e : (((j - 1 : Nat) : Int) - 125) = (j : Int) - 126 := by omega
    rw [hp, e]
    split
    · rfl
    · next h =>
      have : j = 252 := by
        by_contra hc
        exact h (hlt (by omega))
      rw [this]; rfl
  rw [fold_eq_of_top min _ _ (⟨j - 1, by omega⟩ : Fin 252)]
  · exact ht
  · exact min_eq_left le_top
  · intro l
    simp only []
    rw [ht]; exact min_eq_left (hv l)

/-- The kernel's scale is the reference's. -/
theorem scale_eq (x : EReal) : kScale x = rScale x := by
  by_cases hx : x < two (-126)
  · unfold kScale kWord' rScale
    rw [kWord_small x hx, field_least, if_pos hx]
    rfl
  · obtain ⟨j, h1, h2, hj, hlt⟩ := exists_index x (not_lt.1 hx)
    rw [rScale_big x j h1 h2 hj hlt]
    unfold kScale kWord'
    rw [kWord_big x j h1 h2 hj hlt]
    have key : ∀ k : Fin 253, 1 ≤ k.val → BitVec.ofNat 32 (k.val * 8388608) ≠ 0#32 ∧
        IntOp.addi (BitVec.ofNat 32 (k.val * 8388608)) 8388608#32 = BitVec.ofNat 32 ((k.val + 1) * 8388608) := by decide +kernel
    obtain ⟨k1, k2⟩ := key ⟨j, by omega⟩ h1
    simp only [] at k1 k2
    rw [if_neg k1, k2, ofBits_field _ (by omega) (by omega)]
    congr 1; push_cast; ring

/-- The kernel's inverse scale is one over the reference's scale. -/
theorem inv_eq (x : EReal) : kInv x = Ideal.div (Ideal.ofBits .f32 1065353216#32) (rScale x) := by
  have hdiv : ∀ a : Int, Ideal.div (Ideal.ofBits .f32 1065353216#32) (two a) = two (-a) := by
    intro a
    unfold Ideal.div
    rw [if_neg (two_ne_zero a), field_one, two_inv]
    have : two 0 = 1 := by simp [two]
    rw [this, one_mul]
  by_cases hx : x < two (-126)
  · have hr : rScale x = two 0 := by
      unfold rScale
      rw [field_least, if_pos hx, field_one]
    rw [hr, hdiv]
    unfold kInv kWord'
    rw [kWord_small x hx, if_pos rfl]
    exact field_one
  · obtain ⟨j, h1, h2, hj, hlt⟩ := exists_index x (not_lt.1 hx)
    rw [rScale_big x j h1 h2 hj hlt, hdiv]
    unfold kInv kWord'
    rw [kWord_big x j h1 h2 hj hlt]
    have key : ∀ k : Fin 253, 1 ≤ k.val → BitVec.ofNat 32 (k.val * 8388608) ≠ 0#32 ∧
        IntOp.subi 2122317824#32 (BitVec.ofNat 32 (k.val * 8388608)) = BitVec.ofNat 32 ((253 - k.val) * 8388608) := by decide +kernel
    obtain ⟨k1, k2⟩ := key ⟨j, by omega⟩ h1
    simp only [] at k1 k2
    rw [if_neg k1, k2, ofBits_field _ (by omega) (by omega)]
    congr 1; omega

end Cert.Quant

end
-- ==== Proof.PI.Vec.lean ====
/- The vector operations of a tile read at one index, over the extended reals. -/
module

public import proofs.«01_k».proof.Proof.PI.Epi
public import proofs.«01_k».proof.Proof.Pure.Quant
public import Idealize.ShloMosaic.Lib.Pointwise

@[expose] public section

set_option maxRecDepth 16384

noncomputable section

namespace Cert.KernelIdeal.Hand

open Cert.KernelIdeal Cert.KernelIdeal.Gen Cert.Quant
open Idealize.ShloMosaic Idealize.ShloMosaic.TcCoe

/-- A row's greatest magnitude over 57344, its scale, its codes. -/
def rowAmp (v : Fin 128 → EReal) : EReal :=
  Finset.fold max (Ideal.ofBits .f32 4286578688#32) (fun k => FloatOps.absf (F := Ideal) (φ := .f32) (v k)) Finset.univ * Ideal.ofBits .f32 932333861#32
def rowScale (v : Fin 128 → EReal) : EReal := rScale (rowAmp v)
def rowCode (v : Fin 128 → EReal) (l : Fin 128) : EReal :=
  min (Ideal.ofBits .f32 1197473792#32) (max (Ideal.ofBits .f32 3344957440#32) (v l * Ideal.div (Ideal.ofBits .f32 1065353216#32) (rowScale v)))

theorem select_eq_zero (a b : BitVec 32) : Scalar.select (IntOp.cmpi CmpIPredicate.eq a 0#32) b a = if a = 0#32 then b else a := by
  by_cases h : a = 0#32
  · subst h; rfl
  · rw [if_neg h]; unfold Scalar.select; rw [if_neg]; show ¬ BitVec.ofBool (a == 0#32) = 1#1; rw [show (a == 0#32) = false by simpa using h]; decide

variable (g : FVec Ideal S128x128 .f32)

theorem ampV_apply (r : Fin 128) : ampV g (ix2 r 0) = rowAmp (fun l => g (ix2 r l)) := by
  unfold ampV rowAmp
  pointwise
theorem expV_apply (r : Fin 128) : expV g (ix2 r 0) = kWord' (rowAmp fun l => g (ix2 r l)) := by
  unfold expV kWord' kWord word
  pointwise
  simp only [ampV_apply, powV]
  pointwise
  exact select_eq_zero _ _
theorem scaleV_apply (r : Fin 128) : scaleV g (ix2 r 0) = rowScale (fun l => g (ix2 r l)) := by
  unfold scaleV rowScale
  pointwise
  simp only [expV_apply]
  rw [← scale_eq]; rfl
theorem codeV_apply (r l : Fin 128) : codeV g (ix2 r l) = rowCode (fun l => g (ix2 r l)) l := by
  unfold codeV rowCode
  pointwise
  simp only [expV_apply]
  unfold rowScale
  rw [show Ideal.ofBits .f32 (IntOp.subi 2122317824#32 (kWord' (rowAmp fun l => g (ix2 r l)))) = _ from inv_eq _]
  pointwise
theorem codeS_apply (a : Fin 1) (r l : Fin 128) : codeS g (ix3 a r l) = rowCode (fun l => g (ix2 r l)) l := by
  unfold codeS
  pointwise
  simp only [codeV_apply]
theorem scaleS_apply (r : Fin 128) (a : Fin 1) : scaleS g (ix2 r a) = rowScale (fun l => g (ix2 r l)) := by
  obtain rfl : a = 0 := Subsingleton.elim _ _
  unfold scaleS
  pointwise
  simp only [scaleV_apply]
theorem lhsS_apply (r l : Fin 128) : lhsS g (ix2 r l) = rowCode (fun l => g (ix2 r l)) l * rowScale (fun l => g (ix2 r l)) := by
  unfold lhsS
  pointwise
  simp only [codeV_apply, scaleV_apply]

theorem ropeV_apply (cs sn : FVec Ideal S128x128 .f32) (r l : Fin 128) :
    ropeV g cs sn (ix2 r l) = g (ix2 r l) * cs (ix2 r l) + g (ix2 r ⟨(l.val + 64) % 128, Nat.mod_lt _ (by norm_num)⟩) * sn (ix2 r l) := by
  unfold ropeV
  pointwise
  congr 4
theorem dqV_apply (x : Vec Ideal S1x1x128x128 .bf16) (r l : Fin 128) : dqV x (ix2 r l) = x (ix4 0 0 r l) := by
  unfold dqV
  pointwise
theorem kvV_apply (p : Fin 2) (x : Vec Ideal S1x128x2x128 .bf16) (r l : Fin 128) : kvV p x (ix2 r l) = x (ix4 0 r p l) := by
  unfold kvV
  pointwise
/-- The angle of a position at a lane. -/
def angle (p : BitVec 32) (q : EReal) : EReal := FloatOps.sitofp (F := Ideal) FTy.f32 p * q
theorem cosS_apply (p : Vec Ideal S1x128 .i32) (q : Vec Ideal S1x128 .f32) (r l : Fin 128) :
    cosS p q (ix2 r l) = Ideal.cos (angle (p (ix2 0 r)) (q (ix2 0 l))) := by
  unfold cosS angleV angle
  pointwise
theorem lane_lt : ∀ l : Fin 128, IntOp.cmpi CmpIPredicate.slt (BitVec.ofNat 32 l.val) 64#32 = if l.val < 64 then 1#1 else 0#1 := by decide +kernel
theorem sinS_apply (p : Vec Ideal S1x128 .i32) (q : Vec Ideal S1x128 .f32) (r l : Fin 128) :
    sinS p q (ix2 r l) = if l.val < 64 then Ideal.sin (angle (p (ix2 0 r)) (q (ix2 0 l))) else 0 - Ideal.sin (angle (p (ix2 0 r)) (q (ix2 0 l))) := by
  unfold sinS angleV angle
  pointwise
  rw [lane_lt]
  split <;> rfl

end Cert.KernelIdeal.Hand

end
-- ==== Proof.PI.Values.lean ====
/- What the tiles of a point hold, index by index, from the blocks of the inputs; and what a buffer reads as after a
   family of stores. -/
module

public import proofs.«01_k».proof.Proof.PI.Vec

@[expose] public section

set_option maxRecDepth 16384

noncomputable section

namespace Cert.KernelIdeal.Hand

open Cert.KernelIdeal Cert.KernelIdeal.Gen Cert.Quant
open Idealize.ShloMosaic Idealize.ShloMosaic.TcCoe

/-! ## Reading after a family of stores -/

section Pieces
variable {F : FTy → Type} [FloatOps F]

theorem mem_pieces {S : Shape} {e : EltTy} (P : ℕ → View.Piece (Elt F) S e) (L : List (View.Piece (Elt F) S e)) (p : View.Piece (Elt F) S e) :
    ∀ n, p ∈ pieces P n L ↔ (∃ k, k < n ∧ p = P k) ∨ p ∈ L
  | 0 => by simp [pieces]
  | n + 1 => by
    rw [pieces, List.mem_cons, mem_pieces P L p n]
    constructor
    · rintro (rfl | ⟨k, hk, rfl⟩ | h)
      · exact .inl ⟨n, by omega, rfl⟩
      · exact .inl ⟨k, by omega, rfl⟩
      · exact .inr h
    · rintro (⟨k, hk, rfl⟩ | h)
      · rcases Nat.lt_succ_iff_lt_or_eq.mp hk with h | rfl
        · exact .inr (.inl ⟨k, h, rfl⟩)
        · exact .inl rfl
      · exact .inr (.inr h)

theorem read_pieces {S : Shape} {e : EltTy} {κ : Kind} {sp : Space} (v : View sig κ sp S e) (f : v.ty.Contents (Elt F)) (P : ℕ → View.Piece (Elt F) S e) (n : ℕ)
    (G : S.Idx → Elt F e) (hG : ∀ k, k < n → ∀ x : (P k).1.shape.Idx, (P k).2 x = G ((P k).1.emb x)) (y : S.Idx) (hy : ∃ k, k < n ∧ y ∈ (P k).1.set) :
    v.read (Elt F) (v.writes (Elt F) f (pieces P n [])) y = G y := by
  refine View.read_writes_apply_of_pieces v f G _ ?_ y ?_
  · intro p hp x
    rw [mem_pieces] at hp
    obtain ⟨k, hk, rfl⟩ | h := hp
    · exact hG k hk x
    · cases h
  · obtain ⟨k, hk, hm⟩ := hy
    exact ⟨_, (mem_pieces _ _ _ _).2 (.inl ⟨k, hk, rfl⟩), hm⟩

end Pieces

/-! ## The rows of a point -/

/-- The inverse rotation of a row. -/
def rope (v : Fin 128 → EReal) (p : BitVec 32) (q : Fin 128 → EReal) (l : Fin 128) : EReal :=
  v l * Ideal.cos (angle p (q l)) + v ⟨(l.val + 64) % 128, Nat.mod_lt _ (by norm_num)⟩ * (if l.val < 64 then Ideal.sin (angle p (q l)) else 0 - Ideal.sin (angle p (q l)))

abbrev fb (k : ℕ) : Fin 2 := ⟨k % 2, Nat.mod_lt _ (by norm_num)⟩

/-- Row `r` of group `h` and batch `b`, from the blocks of the gradients, the positions and the frequencies. -/
def gRow (x0 : Vec Ideal S2x28x128x128 .bf16) (x1 x2 : Vec Ideal S2x512x128 .bf16) (x4 : Vec Ideal S2x128 .i32) (x5 : Vec Ideal S8x128 .f32)
    (b : Fin 2) (h : ℕ) (r : Fin 128) : Fin 128 → EReal :=
  if h < 28 then rope (fun l => x0 (ix4 b (⟨h % 28, Nat.mod_lt _ (by norm_num)⟩ : Fin 28) r l)) (x4 (ix2 b r)) (fun l => x5 (ix2 0 l))
  else if h < 32 then rope (fun l => x1 (ix3 b (⟨4 * r.val + (h - 28) % 4, by omega⟩ : Fin 512) l)) (x4 (ix2 b r)) (fun l => x5 (ix2 0 l))
  else fun l => x2 (ix3 b (⟨4 * r.val + (h - 32) % 4, by omega⟩ : Fin 512) l)

variable (c : Dev nD)
  (arg1 : Memref sig .tc .vmem S2x28x128x128 .bf16)
  (arg2 : Memref sig .tc .vmem S2x512x128 .bf16) (harg2 : arg2.IsWhole)
  (arg3 : Memref sig .tc .vmem S2x512x128 .bf16) (harg3 : arg3.IsWhole)
  (arg5 : Memref sig .tc .vmem S2x128 .i32)
  (arg6 : Memref sig .tc .vmem S8x128 .f32)
  (arg18 : Memref sig .tc .vmem S256x128 .f32)
  (arg19 : Memref sig .tc .vmem S256x128 .f32)
  (x0 : Vec Ideal S2x28x128x128 .bf16) (x1 x2 : Vec Ideal S2x512x128 .bf16) (x4 : Vec Ideal S2x128 .i32) (x5 : Vec Ideal S8x128 .f32)

theorem posR_apply (b : ℕ) (a : Fin 1) (r : Fin 128) : posR (F := Ideal) c arg5 (arg5.view.rep x4) b (ix2 a r) = x4 (ix2 (fb b) r) := by
  unfold posR
  rw [View.readAt_rep]
  refine congrArg x4 (funext fun i => Fin.ext ?_); fin_cases i
  · show b % 2 + 1 * a.val = b % 2; omega
  · show 0 + 1 * r.val = r.val; omega
theorem frqR_apply (a : Fin 1) (l : Fin 128) : frqR (F := Ideal) c arg6 (arg6.view.rep x5) (ix2 a l) = x5 (ix2 0 l) := by
  unfold frqR
  rw [View.readAt_rep]
  refine congrArg x5 (funext fun i => Fin.ext ?_); fin_cases i
  · show 0 + 1 * a.val = 0; omega
  · show 0 + 1 * l.val = l.val; omega

theorem tabP_read {M : Memref sig .tc .vmem S256x128 .f32} (S : ℕ → FVec Ideal S128x128 .f32) (hS : ∀ b, S (b % 2) = S b) (b : ℕ) (r l : Fin 128) :
    M.view.readCov (Val := Elt Ideal) (pieces (fun b => ⟨rectT b, S b⟩) 2 []) (rectT b).toLoadRect (ix2 r l) = S b (ix2 r l) := by
  unfold View.readCov
  rw [View.readAt_apply]
  have h := read_pieces (F := Ideal) M.view M.view.junk (fun b => ⟨rectT b, S b⟩) 2
    (fun y => S ((y 0).val / 128) (ix2 ⟨(y 0).val % 128, Nat.mod_lt _ (by norm_num)⟩ (y 1))) ?_ ((rectT b).toLoadRect.idx (ix2 r l)) ?_
  · refine h.trans ?_
    have e0 : (((rectT b).toLoadRect.idx (ix2 r l)) 0).val = 128 * (b % 2) + r.val := by show 128 * (b % 2) + 1 * r.val = _; omega
    have e1 : (((rectT b).toLoadRect.idx (ix2 r l)) 1) = l := by ext; show 0 + 1 * l.val = _; omega
    simp only [e0, e1]
    have := r.isLt
    rw [show (128 * (b % 2) + r.val) / 128 = b % 2 by omega, hS]
    congr 2
    ext; show (128 * (b % 2) + r.val) % 128 = _; omega
  · intro k hk x
    have e0 : (((rectT k).emb x) 0).val = 128 * (k % 2) + (x 0).val := by show 128 * (k % 2) + 1 * (x 0).val = _; omega
    have e1 : (((rectT k).emb x) 1) = x 1 := by ext; show 0 + 1 * (x 1).val = _; omega
    simp only [e0, e1]
    have : (x 0).val < 128 := (x 0).isLt
    rw [show (128 * (k % 2) + (x 0).val) / 128 = k % 2 by omega, hS]
    congr 1
    ext i; fin_cases i
    · show (x 0).val = (128 * (k % 2) + (x 0).val) % 128; omega
    · rfl
  · refine ⟨b % 2, by omega, ?_⟩
    rw [Rect.mem_set_unit]
    have := r.isLt
    intro a; fin_cases a
    · show 128 * (b % 2 % 2) ≤ 128 * (b % 2) + 1 * r.val ∧ 128 * (b % 2) + 1 * r.val < 128 * (b % 2 % 2) + 128; omega
    · have := l.isLt; show 0 ≤ 0 + 1 * l.val ∧ 0 + 1 * l.val < 0 + 128; omega

theorem posR_mod (b : ℕ) : posR (F := Ideal) c arg5 (arg5.view.rep x4) (b % 2) = posR (F := Ideal) c arg5 (arg5.view.rep x4) b := by
  funext y
  rw [← ix2_eta y]
  refine (posR_apply c arg5 x4 (b % 2) _ _).trans (Eq.trans ?_ (posR_apply c arg5 x4 b _ _).symm)
  rw [show fb (b % 2) = fb b by ext; simp]

theorem cosR_apply (b : ℕ) (r l : Fin 128) :
    cosR (F := Ideal) c arg5 arg6 arg18 (arg5.view.rep x4) (arg6.view.rep x5) b (ix2 r l) = Ideal.cos (angle (x4 (ix2 (fb b) r)) (x5 (ix2 0 l))) := by
  unfold cosR cosP
  rw [tabP_read (M := arg18) (fun b => cosS (posR (F := Ideal) c arg5 (arg5.view.rep x4) b) (frqR c arg6 (arg6.view.rep x5))) (fun b => by rw [posR_mod]) b r l,
    cosS_apply, posR_apply, frqR_apply]
theorem sinR_apply (b : ℕ) (r l : Fin 128) :
    sinR (F := Ideal) c arg5 arg6 arg19 (arg5.view.rep x4) (arg6.view.rep x5) b (ix2 r l)
      = if l.val < 64 then Ideal.sin (angle (x4 (ix2 (fb b) r)) (x5 (ix2 0 l))) else 0 - Ideal.sin (angle (x4 (ix2 (fb b) r)) (x5 (ix2 0 l))) := by
  unfold sinR sinP
  rw [tabP_read (M := arg19) (fun b => sinS (posR (F := Ideal) c arg5 (arg5.view.rep x4) b) (frqR c arg6 (arg6.view.rep x5))) (fun b => by rw [posR_mod]) b r l,
    sinS_apply, posR_apply, frqR_apply]

theorem tileQ_apply (k : ℕ) (hk : k < 56) (r l : Fin 128) :
    tileQ (F := Ideal) c arg1 arg5 arg6 arg18 arg19 (arg1.view.rep x0) (arg5.view.rep x4) (arg6.view.rep x5) k (ix2 r l) = gRow x0 x1 x2 x4 x5 (fb k) (0 + k / 2) r l := by
  unfold tileQ gRow rope
  rw [if_pos (by omega), ropeV_apply, cosR_apply, sinR_apply, dqV_apply, dqV_apply, View.readAt_rep]
  congr 2
  · refine congrArg x0 (funext fun i => Fin.ext ?_); fin_cases i
    · show k % 2 + 1 * 0 = k % 2; omega
    · show k / 2 % 28 + 1 * 0 = (0 + k / 2) % 28; omega
    · show 0 + 1 * r.val = r.val; omega
    · show 0 + 1 * l.val = l.val; omega
  · refine congrArg x0 (funext fun i => Fin.ext ?_); fin_cases i
    · show k % 2 + 1 * 0 = k % 2; omega
    · show k / 2 % 28 + 1 * 0 = (0 + k / 2) % 28; omega
    · show 0 + 1 * r.val = r.val; omega
    · show 0 + 1 * ((l.val + 64) % 128) = (l.val + 64) % 128; omega

theorem kvR_apply (M : Memref sig .tc .vmem S2x512x128 .bf16) (hM : M.IsWhole) (x : Vec Ideal S2x512x128 .bf16) (k : ℕ) (hk : k < 8) (r l : Fin 128) :
    kvV (Fin.ofNat 2 (k / 2 % 2)) (kvR (F := Ideal) c M hM (M.view.rep x) k) (ix2 r l) = x (ix3 (fb k) (⟨4 * r.val + k / 2 % 4, by omega⟩ : Fin 512) l) := by
  rw [kvV_apply]
  unfold kvR
  rw [View.readAt_apply]
  show M.view.read (Elt Ideal) (M.view.rep x) (Shape.reshapeEquiv _ _) = _
  rw [View.read_rep]
  congr 1
  apply Shape.reshapeEquiv_eq_of_rowMajor
  rw [Shape.rowMajor_val_three, Shape.rowMajor_val_four]
  show (k % 2 * 512 + (4 * r.val + k / 2 % 4)) * 128 + l.val = (((k % 2 + 1 * 0) * 256 + (k / 2 / 2 % 2 + 2 * r.val)) * 2 + (0 + 1 * (k / 2 % 2 % 2))) * 128 + (0 + 1 * l.val)
  omega

theorem tileK_apply (k : ℕ) (hk : k < 8) (r l : Fin 128) :
    tileK (F := Ideal) c arg2 harg2 arg5 arg6 arg18 arg19 (arg2.view.rep x1) (arg5.view.rep x4) (arg6.view.rep x5) k (ix2 r l) = gRow x0 x1 x2 x4 x5 (fb k) (28 + k / 2) r l := by
  unfold tileK gRow rope
  rw [if_neg (by omega), if_pos (by omega), ropeV_apply, cosR_apply, sinR_apply, kvR_apply _ _ _ _ _ hk, kvR_apply _ _ _ _ _ hk]
  simp only [show 28 + k / 2 - 28 = k / 2 by omega]
theorem tileV_apply (k : ℕ) (hk : k < 8) (r l : Fin 128) :
    tileV (F := Ideal) c arg3 harg3 (arg3.view.rep x2) k (ix2 r l) = gRow x0 x1 x2 x4 x5 (fb k) (32 + k / 2) r l := by
  unfold tileV gRow
  rw [if_neg (by omega), if_neg (by omega), kvR_apply _ _ _ _ _ hk]
  simp only [show 32 + k / 2 - 32 = k / 2 by omega]

end Cert.KernelIdeal.Hand

end
-- ==== Proof.PI.Reads.lean ====
/- What the results' blocks, the left-hand buffer and the tables of scales read as after the stores of all groups. -/
module

public import proofs.«01_k».proof.Proof.PI.Values

@[expose] public section

set_option maxRecDepth 16384

noncomputable section

namespace Cert.KernelIdeal.Hand

open Cert.KernelIdeal Cert.KernelIdeal.Gen Cert.Quant
open Idealize.ShloMosaic Idealize.ShloMosaic.TcCoe

abbrev f128 (n : ℕ) : Fin 128 := ⟨n % 128, Nat.mod_lt _ (by norm_num)⟩

section Groups

variable (c : Dev nD)
  (arg1 : Memref sig .tc .vmem S2x28x128x128 .bf16)
  (arg2 : Memref sig .tc .vmem S2x512x128 .bf16) (harg2 : arg2.IsWhole)
  (arg3 : Memref sig .tc .vmem S2x512x128 .bf16) (harg3 : arg3.IsWhole)
  (arg5 : Memref sig .tc .vmem S2x128 .i32)
  (arg6 : Memref sig .tc .vmem S8x128 .f32)
  (arg18 : Memref sig .tc .vmem S256x128 .f32)
  (arg19 : Memref sig .tc .vmem S256x128 .f32)
  (x0 : Vec Ideal S2x28x128x128 .bf16) (x1 x2 : Vec Ideal S2x512x128 .bf16) (x4 : Vec Ideal S2x128 .i32) (x5 : Vec Ideal S8x128 .f32)

/-- The stores of all groups, from the blocks. -/
abbrev groupsL {S : Shape} {e : EltTy} (P : ℕ → (ℕ → FVec Ideal S128x128 .f32) → ℕ → View.Piece (Elt Ideal) S e) : List (View.Piece (Elt Ideal) S e) :=
  allG (F := Ideal) c arg1 arg2 harg2 arg3 harg3 arg5 arg6 arg18 arg19 (arg1.view.rep x0) (arg2.view.rep x1) (arg3.view.rep x2) (arg5.view.rep x4) (arg6.view.rep x5) P

theorem groupsL_read {S : Shape} {e : EltTy} {κ : Kind} {sp : Space} (v : View sig κ sp S e) (f : v.ty.Contents (Elt Ideal))
    (P : ℕ → (ℕ → FVec Ideal S128x128 .f32) → ℕ → View.Piece (Elt Ideal) S e) (G : S.Idx → Elt Ideal e)
    (hG : ∀ h0 g k, h0 + k / 2 < 36 → (∀ r l, g k (ix2 r l) = gRow x0 x1 x2 x4 x5 (fb k) (h0 + k / 2) r l) → ∀ x, (P h0 g k).2 x = G ((P h0 g k).1.emb x))
    (y : S.Idx) (h b : ℕ) (hh : h < 36) (hb : b < 2) (hy : ∀ h0 g k, h0 + k / 2 = h → k % 2 = b → y ∈ (P h0 g k).1.set) :
    v.read (Elt Ideal) (v.writes (Elt Ideal) f (groupsL c arg1 arg2 harg2 arg3 harg3 arg5 arg6 arg18 arg19 x0 x1 x2 x4 x5 P)) y = G y := by
  refine View.read_writes_apply_of_pieces v f G _ ?_ y ?_
  · intro p hp x
    unfold groupsL allG at hp
    rw [mem_pieces, mem_pieces, mem_pieces] at hp
    rcases hp with ⟨k, hk, rfl⟩ | ⟨k, hk, rfl⟩ | ⟨k, hk, rfl⟩ | h
    · exact hG 32 _ k (by omega) (tileV_apply c arg3 harg3 x0 x1 x2 x4 x5 k hk) x
    · exact hG 28 _ k (by omega) (tileK_apply c arg2 harg2 arg5 arg6 arg18 arg19 x0 x1 x2 x4 x5 k hk) x
    · exact hG 0 _ k (by omega) (tileQ_apply c arg1 arg5 arg6 arg18 arg19 x0 x1 x2 x4 x5 k hk) x
    · cases h
  · unfold groupsL allG
    by_cases h28 : h < 28
    · exact ⟨_, (mem_pieces ..).2 (.inr ((mem_pieces ..).2 (.inr ((mem_pieces ..).2 (.inl ⟨2 * h + b, by omega, rfl⟩))))), hy _ _ _ (by omega) (by omega)⟩
    · by_cases h32 : h < 32
      · exact ⟨_, (mem_pieces ..).2 (.inr ((mem_pieces ..).2 (.inl ⟨2 * (h - 28) + b, by omega, rfl⟩))), hy _ _ _ (by omega) (by omega)⟩
      · exact ⟨_, (mem_pieces ..).2 (.inl ⟨2 * (h - 32) + b, by omega, rfl⟩), hy _ _ _ (by omega) (by omega)⟩

/-- The codes' block. -/
theorem codes_read {sp : Space} (v : View sig .tc sp S2x128x4608 .fp8e5m2) (f : v.ty.Contents (Elt Ideal)) (y : S2x128x4608.Idx) :
    v.read (Elt Ideal) (v.writes (Elt Ideal) f (groupsL c arg1 arg2 harg2 arg3 harg3 arg5 arg6 arg18 arg19 x0 x1 x2 x4 x5 codeP)) y
      = rowCode (gRow x0 x1 x2 x4 x5 (y 0) ((y 2).val / 128) (y 1)) (f128 (y 2).val) := by
  refine groupsL_read c arg1 arg2 harg2 arg3 harg3 arg5 arg6 arg18 arg19 x0 x1 x2 x4 x5 v f codeP
    (fun y => rowCode (gRow x0 x1 x2 x4 x5 (y 0) ((y 2).val / 128) (y 1)) (f128 (y 2).val)) ?_ y ((y 2).val / 128) (y 0).val ?_ (y 0).isLt ?_
  · intro h0 g k hk hg x
    have hx2 : (x 2).val < 128 := (x 2).isLt
    have hx0 : (x 0).val < 1 := (x 0).isLt
    have e0 : (((rectC k (h0 + k / 2)).emb x) 0) = fb k := Fin.ext (by show k % 2 + 1 * (x 0).val = k % 2; omega)
    have e1 : (((rectC k (h0 + k / 2)).emb x) 1) = x 1 := Fin.ext (by show 0 + 1 * (x 1).val = _; omega)
    have e2 : (((rectC k (h0 + k / 2)).emb x) 2).val = 128 * (h0 + k / 2) + (x 2).val := by show 128 * ((h0 + k / 2) % 36) + 1 * (x 2).val = _; omega
    show codeS (g k) x = rowCode (gRow x0 x1 x2 x4 x5 (((rectC k (h0 + k / 2)).emb x) 0) ((((rectC k (h0 + k / 2)).emb x) 2).val / 128) (((rectC k (h0 + k / 2)).emb x) 1)) (f128 (((rectC k (h0 + k / 2)).emb x) 2).val)
    rw [e0, e1, e2, show (128 * (h0 + k / 2) + (x 2).val) / 128 = h0 + k / 2 by omega, show f128 (128 * (h0 + k / 2) + (x 2).val) = x 2 from Fin.ext (by show (128 * (h0 + k / 2) + (x 2).val) % 128 = _; omega),
      eq_ix3 x]
    refine (codeS_apply (g k) _ _ _).trans ?_
    exact congrArg (fun w => rowCode w (x 2)) (funext fun l => hg (x 1) l)
  · have := (y 2).isLt; show (y 2).val / 128 < 36; have : (y 2).val < 4608 := (y 2).isLt; omega
  · intro h0 g k h1 h2
    show y ∈ (rectC k (h0 + k / 2)).set
    rw [Rect.mem_set_unit]
    have : (y 2).val < 4608 := (y 2).isLt
    have : (y 1).val < 128 := (y 1).isLt
    have : (y 0).val < 2 := (y 0).isLt
    intro a; fin_cases a
    · show k % 2 ≤ (y 0).val ∧ (y 0).val < k % 2 + 1; omega
    · show 0 ≤ (y 1).val ∧ (y 1).val < 0 + 128; omega
    · show 128 * ((h0 + k / 2) % 36) ≤ (y 2).val ∧ (y 2).val < 128 * ((h0 + k / 2) % 36) + 128; omega

abbrev f2 (n : ℕ) : Fin 2 := ⟨n % 2, Nat.mod_lt _ (by norm_num)⟩

/-- The left-hand buffer. -/
theorem lhs_read {sp : Space} (v : View sig .tc sp S256x4608 .bf16) (f : v.ty.Contents (Elt Ideal)) (y : S256x4608.Idx) :
    v.read (Elt Ideal) (v.writes (Elt Ideal) f (groupsL c arg1 arg2 harg2 arg3 harg3 arg5 arg6 arg18 arg19 x0 x1 x2 x4 x5 lhsP)) y
      = rowCode (gRow x0 x1 x2 x4 x5 (f2 ((y 0).val / 128)) ((y 1).val / 128) (f128 (y 0).val)) (f128 (y 1).val) * rowScale (gRow x0 x1 x2 x4 x5 (f2 ((y 0).val / 128)) ((y 1).val / 128) (f128 (y 0).val)) := by
  refine groupsL_read c arg1 arg2 harg2 arg3 harg3 arg5 arg6 arg18 arg19 x0 x1 x2 x4 x5 v f lhsP
    (fun y => (rowCode (gRow x0 x1 x2 x4 x5 (f2 ((y 0).val / 128)) ((y 1).val / 128) (f128 (y 0).val)) (f128 (y 1).val) * rowScale (gRow x0 x1 x2 x4 x5 (f2 ((y 0).val / 128)) ((y 1).val / 128) (f128 (y 0).val)) : EReal)) ?_ y ((y 1).val / 128) ((y 0).val / 128) ?_ ?_ ?_
  · intro h0 g k hk hg x
    have hx1 : (x 1).val < 128 := (x 1).isLt
    have hx0 : (x 0).val < 128 := (x 0).isLt
    have e0 : (((rectL k (h0 + k / 2)).emb x) 0).val = 128 * (k % 2) + (x 0).val := by show 128 * (k % 2) + 1 * (x 0).val = _; omega
    have e1 : (((rectL k (h0 + k / 2)).emb x) 1).val = 128 * (h0 + k / 2) + (x 1).val := by show 128 * ((h0 + k / 2) % 36) + 1 * (x 1).val = _; omega
    show lhsS (g k) x = (rowCode (gRow x0 x1 x2 x4 x5 (f2 ((((rectL k (h0 + k / 2)).emb x) 0).val / 128)) ((((rectL k (h0 + k / 2)).emb x) 1).val / 128) (f128 (((rectL k (h0 + k / 2)).emb x) 0).val)) (f128 (((rectL k (h0 + k / 2)).emb x) 1).val)
      * rowScale (gRow x0 x1 x2 x4 x5 (f2 ((((rectL k (h0 + k / 2)).emb x) 0).val / 128)) ((((rectL k (h0 + k / 2)).emb x) 1).val / 128) (f128 (((rectL k (h0 + k / 2)).emb x) 0).val)) : EReal)
    rw [e0, e1, show (128 * (h0 + k / 2) + (x 1).val) / 128 = h0 + k / 2 by omega, show f128 (128 * (h0 + k / 2) + (x 1).val) = x 1 from Fin.ext (by show (128 * (h0 + k / 2) + (x 1).val) % 128 = _; omega),
      show f128 (128 * (k % 2) + (x 0).val) = x 0 from Fin.ext (by show (128 * (k % 2) + (x 0).val) % 128 = _; omega),
      show f2 ((128 * (k % 2) + (x 0).val) / 128) = fb k from Fin.ext (by show (128 * (k % 2) + (x 0).val) / 128 % 2 = k % 2; omega),
      eq_ix2 x]
    refine (lhsS_apply (g k) _ _).trans ?_
    exact congrArg (fun w => (rowCode w (x 1) * rowScale w : EReal)) (funext fun l => hg (x 0) l)
  · have : (y 1).val < 4608 := (y 1).isLt; omega
  · have : (y 0).val < 256 := (y 0).isLt; omega
  · intro h0 g k h1 h2
    show y ∈ (rectL k (h0 + k / 2)).set
    rw [Rect.mem_set_unit]
    have : (y 1).val < 4608 := (y 1).isLt
    have : (y 0).val < 256 := (y 0).isLt
    intro a; fin_cases a
    · show 128 * (k % 2) ≤ (y 0).val ∧ (y 0).val < 128 * (k % 2) + 128; omega
    · show 128 * ((h0 + k / 2) % 36) ≤ (y 1).val ∧ (y 1).val < 128 * ((h0 + k / 2) % 36) + 128; omega

/-- The table of scales, in its first 36 columns. -/
theorem scales_read {sp : Space} (v : View sig .tc sp S256x128 .f32) (f : v.ty.Contents (Elt Ideal)) (y : S256x128.Idx) (hy : (y 1).val < 36) :
    v.read (Elt Ideal) (v.writes (Elt Ideal) f (groupsL c arg1 arg2 harg2 arg3 harg3 arg5 arg6 arg18 arg19 x0 x1 x2 x4 x5 scaleP)) y
      = rowScale (gRow x0 x1 x2 x4 x5 (f2 ((y 0).val / 128)) (y 1).val (f128 (y 0).val)) := by
  refine groupsL_read c arg1 arg2 harg2 arg3 harg3 arg5 arg6 arg18 arg19 x0 x1 x2 x4 x5 v f scaleP
    (fun y => rowScale (gRow x0 x1 x2 x4 x5 (f2 ((y 0).val / 128)) (y 1).val (f128 (y 0).val))) ?_ y (y 1).val ((y 0).val / 128) hy ?_ ?_
  · intro h0 g k hk hg x
    have hx1 : (x 1).val < 1 := (x 1).isLt
    have hx0 : (x 0).val < 128 := (x 0).isLt
    have e0 : (((rectS k (h0 + k / 2)).emb x) 0).val = 128 * (k % 2) + (x 0).val := by show 128 * (k % 2) + 1 * (x 0).val = _; omega
    have e1 : (((rectS k (h0 + k / 2)).emb x) 1).val = h0 + k / 2 := by show (h0 + k / 2) % 36 + 1 * (x 1).val = _; omega
    show scaleS (g k) x = rowScale (gRow x0 x1 x2 x4 x5 (f2 ((((rectS k (h0 + k / 2)).emb x) 0).val / 128)) (((rectS k (h0 + k / 2)).emb x) 1).val (f128 (((rectS k (h0 + k / 2)).emb x) 0).val))
    rw [e0, e1, show f128 (128 * (k % 2) + (x 0).val) = x 0 from Fin.ext (by show (128 * (k % 2) + (x 0).val) % 128 = _; omega),
      show f2 ((128 * (k % 2) + (x 0).val) / 128) = fb k from Fin.ext (by show (128 * (k % 2) + (x 0).val) / 128 % 2 = k % 2; omega),
      eq_ix2 x]
    refine (scaleS_apply (g k) _ _).trans ?_
    exact congrArg rowScale (funext fun l => hg (x 0) l)
  · have : (y 0).val < 256 := (y 0).isLt; omega
  · intro h0 g k h1 h2
    show y ∈ (rectS k (h0 + k / 2)).set
    rw [Rect.mem_set_unit]
    have : (y 0).val < 256 := (y 0).isLt
    intro a; fin_cases a
    · show 128 * (k % 2) ≤ (y 0).val ∧ (y 0).val < 128 * (k % 2) + 128; omega
    · show (h0 + k / 2) % 36 ≤ (y 1).val ∧ (y 1).val < (h0 + k / 2) % 36 + 1; omega

theorem gsV_apply (t : Vec Ideal S128x128 .f32) (h : Fin 36) (a : Fin 1) (r : Fin 128) :
    shapeCast S36x1x128 (extractStridedSlice S36x128 ![0, 0] (transpose S128x128 [1, 0] t transposes_S128x128_p1_0_S128x128) slices_S128x128_o0_0_S36x128) shapeCasts_S36x128_S36x1x128 (ix3 h a r)
      = t (ix2 r (⟨h.val % 128, Nat.mod_lt _ (by norm_num)⟩ : Fin 128)) := by
  pointwise
  exact congrArg (fun z => t (ix2 r z)) (Fin.ext (Nat.mod_eq_of_lt (by omega)).symm)

/-- The transposed table of scales. -/
theorem gsP_read {sp : Space} (v : View sig .tc sp S36x2x128 .f32) (f : v.ty.Contents (Elt Ideal)) (tab : ℕ → Vec Ideal S128x128 .f32) (y : S36x2x128.Idx) :
    v.read (Elt Ideal) (v.writes (Elt Ideal) f (pieces (gsP tab) 2 [])) y = tab (y 1).val (ix2 (y 2) (⟨(y 0).val % 128, Nat.mod_lt _ (by norm_num)⟩ : Fin 128)) := by
  refine read_pieces v f (gsP tab) 2 (fun y => tab (y 1).val (ix2 (y 2) (⟨(y 0).val % 128, Nat.mod_lt _ (by norm_num)⟩ : Fin 128))) ?_ y ⟨(y 1).val, (y 1).isLt, ?_⟩
  · intro k hk x
    have hx1 : (x 1).val < 1 := (x 1).isLt
    have e0 : (((rectG k).emb x) 0).val = (x 0).val := by show 0 + 1 * (x 0).val = _; omega
    have e1 : (((rectG k).emb x) 1).val = k := by show k % 2 + 1 * (x 1).val = _; omega
    have e2 : (((rectG k).emb x) 2) = x 2 := Fin.ext (by show 0 + 1 * (x 2).val = _; omega)
    show (gsP tab k).2 x = tab (((rectG k).emb x) 1).val (ix2 (((rectG k).emb x) 2) ⟨(((rectG k).emb x) 0).val % 128, _⟩)
    simp only [e1, e2, e0]
    exact (congrArg (gsP tab k).2 (eq_ix3 x)).trans (gsV_apply (tab k) _ _ _)
  · show y ∈ (rectG (y 1).val).set
    rw [Rect.mem_set_unit]
    have : (y 0).val < 36 := (y 0).isLt
    have : (y 1).val < 2 := (y 1).isLt
    have : (y 2).val < 128 := (y 2).isLt
    intro a; fin_cases a
    · show 0 ≤ (y 0).val ∧ (y 0).val < 0 + 36; omega
    · show (y 1).val % 2 ≤ (y 1).val ∧ (y 1).val < (y 1).val % 2 + 1; omega
    · show 0 ≤ (y 2).val ∧ (y 2).val < 0 + 128; omega

theorem dsV_apply (t : Vec Ideal S128x128 .f32) (h : Fin 28) (a : Fin 1) (r : Fin 128) :
    shapeCast S28x1x128 (extractStridedSlice S28x128 ![0, 0] (transpose S128x128 [1, 0] t transposes_S128x128_p1_0_S128x128) slices_S128x128_o0_0_S28x128) shapeCasts_S28x128_S28x1x128 (ix3 h a r)
      = t (ix2 r (⟨h.val % 128, Nat.mod_lt _ (by norm_num)⟩ : Fin 128)) := by
  pointwise
  exact congrArg (fun z => t (ix2 r z)) (Fin.ext (Nat.mod_eq_of_lt (by omega)).symm)

/-- The transposed table of scales. -/
theorem dsT_read {sp : Space} (v : View sig .tc sp S28x2x128 .f32) (f : v.ty.Contents (Elt Ideal)) (tab : ℕ → Vec Ideal S128x128 .f32) (y : S28x2x128.Idx) :
    v.read (Elt Ideal) (v.writes (Elt Ideal) f (pieces (dsT tab) 2 [])) y = tab (y 1).val (ix2 (y 2) (⟨(y 0).val % 128, Nat.mod_lt _ (by norm_num)⟩ : Fin 128)) := by
  refine read_pieces v f (dsT tab) 2 (fun y => tab (y 1).val (ix2 (y 2) (⟨(y 0).val % 128, Nat.mod_lt _ (by norm_num)⟩ : Fin 128))) ?_ y ⟨(y 1).val, (y 1).isLt, ?_⟩
  · intro k hk x
    have hx1 : (x 1).val < 1 := (x 1).isLt
    have e0 : (((rectD k).emb x) 0).val = (x 0).val := by show 0 + 1 * (x 0).val = _; omega
    have e1 : (((rectD k).emb x) 1).val = k := by show k % 2 + 1 * (x 1).val = _; omega
    have e2 : (((rectD k).emb x) 2) = x 2 := Fin.ext (by show 0 + 1 * (x 2).val = _; omega)
    show (dsT tab k).2 x = tab (((rectD k).emb x) 1).val (ix2 (((rectD k).emb x) 2) ⟨(((rectD k).emb x) 0).val % 128, _⟩)
    simp only [e1, e2, e0]
    exact (congrArg (dsT tab k).2 (eq_ix3 x)).trans (dsV_apply (tab k) _ _ _)
  · show y ∈ (rectD (y 1).val).set
    rw [Rect.mem_set_unit]
    have : (y 0).val < 28 := (y 0).isLt
    have : (y 1).val < 2 := (y 1).isLt
    have : (y 2).val < 128 := (y 2).isLt
    intro a; fin_cases a
    · show 0 ≤ (y 0).val ∧ (y 0).val < 0 + 28; omega
    · show (y 1).val % 2 ≤ (y 1).val ∧ (y 1).val < (y 1).val % 2 + 1; omega
    · show 0 ≤ (y 2).val ∧ (y 2).val < 0 + 128; omega

end Groups

end Cert.KernelIdeal.Hand

end
-- ==== Proof.PI.EpiReads.lean ====
/- What the results' blocks read as after the stores of a product, index by index. -/
module

public import proofs.«01_k».proof.Proof.PI.Reads

@[expose] public section

set_option maxRecDepth 16384

noncomputable section

namespace Cert.KernelIdeal.Hand

open Cert.KernelIdeal Cert.KernelIdeal.Gen Cert.Quant
open Idealize.ShloMosaic Idealize.ShloMosaic.TcCoe

/-- Row `r` of column group `n` and batch `b` of the product plus the residual. -/
def yRow (x3 : Vec Ideal S2x128x3584 .bf16) (L : Vec Ideal S256x4608 .bf16) (W : Vec Ideal S4608x3584 .bf16) (b : Fin 2) (n : ℕ) (r l : Fin 128) : EReal :=
  (∑ k : Fin 4608, L (ix2 (⟨128 * b.val + r.val, by omega⟩ : Fin 256) k) * W (ix2 k (⟨128 * (n % 28) + l.val, by omega⟩ : Fin 3584)))
    + x3 (ix3 b r (⟨128 * (n % 28) + l.val, by omega⟩ : Fin 3584))

variable (c : Dev nD)
  (arg4 : Memref sig .tc .vmem S2x128x3584 .bf16)
  (arg14 : Memref sig .tc .vmem S4608x3584 .bf16)
  (arg16 : Memref sig .tc .vmem S256x4608 .bf16)
  (x3 : Vec Ideal S2x128x3584 .bf16)
  (f14 : Bf (F := Ideal) c arg14) (f16 : Bf (F := Ideal) c arg16)

theorem prodV_apply (n : ℕ) (R : Fin 256) (C : Fin 512) :
    prodV (F := Ideal) c arg14 arg16 f14 f16 n (ix2 R C)
      = ∑ k : Fin 4608, arg16.view.read (Elt Ideal) f16 (ix2 R k) * arg14.view.read (Elt Ideal) f14 (ix2 k (⟨512 * (n % 7) + C.val, by omega⟩ : Fin 3584)) := by
  unfold prodV
  pointwise
  refine Finset.sum_congr rfl fun k _ => ?_
  have e1 : ((Rect.unit (s := S256x4608) ![0, 0] S256x4608.size inb_S256x4608_S256x4608_0_0).toLoadRect.idx (ix2 R k)) = ix2 R k := by
    funext a; refine Fin.ext ?_; fin_cases a
    · show 0 + 1 * R.val = R.val; omega
    · show 0 + 1 * k.val = k.val; omega
  have e2 : ((rectW n).toLoadRect.idx (ix2 k C)) = ix2 k (⟨512 * (n % 7) + C.val, by omega⟩ : Fin 3584) := by
    funext a; refine Fin.ext ?_; fin_cases a
    · show 0 + 1 * k.val = k.val; omega
    · show 512 * (n % 7) + 1 * C.val = 512 * (n % 7) + C.val; omega
  exact congrArg₂ (fun a b : EReal => a * b) (congrArg (arg16.view.read (Elt Ideal) f16) e1) (congrArg (arg14.view.read (Elt Ideal) f14) e2)

theorem sliceY_apply (p : FVec Ideal S256x512 .f32) (x : FVec Ideal S1x128x128 .bf16) (b j : ℕ) (r l : Fin 128) :
    addf (extractStridedSlice S128x128 ![128 * (b % 2), 128 * (j % 4)] p (slices_chunk b j))
      (extf .f32 (shapeCast S128x128 x shapeCasts_S1x128x128_S128x128) bitsLt_bf16_f32) (ix2 r l)
      = p (ix2 (⟨128 * (b % 2) + r.val, by omega⟩ : Fin 256) (⟨128 * (j % 4) + l.val, by omega⟩ : Fin 512)) + x (ix3 0 r l) := by
  pointwise

theorem tileY_apply (k : ℕ) (hk : k < 56) (r l : Fin 128) :
    tileY (F := Ideal) c arg4 arg14 arg16 (arg4.view.rep x3) f14 f16 k (ix2 r l)
      = yRow x3 (arg16.view.read (Elt Ideal) f16) (arg14.view.read (Elt Ideal) f14) (f2 (eb k)) (en k) r l := by
  unfold tileY
  rw [View.readAt_rep]
  refine (sliceY_apply _ _ (eb k) (k % 4) r l).trans ?_
  rw [prodV_apply]
  unfold yRow
  have e3 : (rectX (eb k) (en k)).toLoadRect.idx (ix3 0 r l) = ix3 (f2 (eb k)) r (⟨128 * (en k % 28) + l.val, by omega⟩ : Fin 3584) := by
    funext a; refine Fin.ext ?_; fin_cases a
    · show eb k % 2 + 1 * 0 = eb k % 2; omega
    · show 0 + 1 * r.val = r.val; omega
    · show 128 * (en k % 28) + 1 * l.val = 128 * (en k % 28) + l.val; omega
  refine congrArg₂ (fun a b : EReal => a + b) (Finset.sum_congr rfl fun q _ => ?_) (congrArg x3 e3)
  refine congrArg₂ (fun a b : EReal => a * b) rfl (congrArg (fun z => arg14.view.read (Elt Ideal) f14 (ix2 q z)) (Fin.ext ?_))
  show 512 * (k / 8 % 7) + (128 * (k % 4 % 4) + l.val) = 128 * ((4 * (k / 8) + k % 4) % 28) + l.val
  omega

section Blocks

variable (y : Fin 2 → ℕ → Fin 128 → Fin 128 → EReal) (g : ℕ → FVec Ideal S128x128 .f32)
  (hg : ∀ k < 56, ∀ r l, g k (ix2 r l) = y (f2 (eb k)) (en k) r l)

theorem dxV_apply (t : FVec Ideal S128x128 .f32) (a : Fin 1) (r l : Fin 128) :
    shapeCast S1x128x128 (truncf .bf16 t bitsLt_bf16_f32) shapeCasts_S128x128_S1x128x128 (ix3 a r l) = t (ix2 r l) := by
  pointwise

theorem embX (k : ℕ) (hk : k < 56) (x : S1x128x128.Idx) :
    ((rectX (eb k) (en k)).emb x) 0 = f2 (eb k) ∧ ((rectX (eb k) (en k)).emb x) 1 = x 1 ∧ (((rectX (eb k) (en k)).emb x) 2).val / 128 = en k ∧ f128 (((rectX (eb k) (en k)).emb x) 2).val = x 2 := by
  have hx0 : (x 0).val < 1 := (x 0).isLt
  have hx2 : (x 2).val < 128 := (x 2).isLt
  refine ⟨Fin.ext ?_, Fin.ext ?_, ?_, Fin.ext ?_⟩
  · show eb k % 2 + 1 * (x 0).val = eb k % 2; omega
  · show 0 + 1 * (x 1).val = (x 1).val; omega
  · show (128 * (en k % 28) + 1 * (x 2).val) / 128 = en k; unfold en; omega
  · show (128 * (en k % 28) + 1 * (x 2).val) % 128 = (x 2).val; omega

theorem memX (z : S2x128x3584.Idx) : ∃ k < 56, z ∈ (rectX (eb k) (en k)).set := by
  have h2 : (z 2).val < 3584 := (z 2).isLt
  have h1 : (z 1).val < 128 := (z 1).isLt
  have h0 : (z 0).val < 2 := (z 0).isLt
  refine ⟨8 * ((z 2).val / 128 / 4) + 4 * (z 0).val + (z 2).val / 128 % 4, by omega, ?_⟩
  rw [Rect.mem_set_unit]
  generalize hk : 8 * ((z 2).val / 128 / 4) + 4 * (z 0).val + (z 2).val / 128 % 4 = k
  have e1 : eb k = (z 0).val := by unfold eb; omega
  have e2 : en k = (z 2).val / 128 := by unfold en; omega
  rw [e1, e2]
  intro a; fin_cases a
  · show (z 0).val % 2 ≤ (z 0).val ∧ (z 0).val < (z 0).val % 2 + 1; omega
  · show 0 ≤ (z 1).val ∧ (z 1).val < 0 + 128; omega
  · show 128 * ((z 2).val / 128 % 28) ≤ (z 2).val ∧ (z 2).val < 128 * ((z 2).val / 128 % 28) + 128; omega

include hg in
/-- The product's block. -/
theorem dx_read {sp : Space} (v : View sig .tc sp S2x128x3584 .bf16) (f : v.ty.Contents (Elt Ideal)) (z : S2x128x3584.Idx) :
    v.read (Elt Ideal) (v.writes (Elt Ideal) f (pieces (dxP g) 56 [])) z = y (z 0) ((z 2).val / 128) (z 1) (f128 (z 2).val) := by
  refine read_pieces v f (dxP g) 56 (fun z => y (z 0) ((z 2).val / 128) (z 1) (f128 (z 2).val)) ?_ z (memX z)
  intro k hk x
  obtain ⟨e0, e1, e2, e3⟩ := embX k hk x
  show (dxP g k).2 x = y (((rectX (eb k) (en k)).emb x) 0) ((((rectX (eb k) (en k)).emb x) 2).val / 128) (((rectX (eb k) (en k)).emb x) 1) (f128 (((rectX (eb k) (en k)).emb x) 2).val)
  rw [e0, e1, e2, e3]
  exact (congrArg (dxP g k).2 (eq_ix3 x)).trans ((dxV_apply (g k) _ _ _).trans (hg k hk _ _))

include hg in
/-- The codes' block of the product. -/
theorem dc_read {sp : Space} (v : View sig .tc sp S2x128x3584 .fp8e5m2) (f : v.ty.Contents (Elt Ideal)) (z : S2x128x3584.Idx) :
    v.read (Elt Ideal) (v.writes (Elt Ideal) f (pieces (dcP g) 56 [])) z = rowCode (y (z 0) ((z 2).val / 128) (z 1)) (f128 (z 2).val) := by
  refine read_pieces v f (dcP g) 56 (fun z => rowCode (y (z 0) ((z 2).val / 128) (z 1)) (f128 (z 2).val)) ?_ z (memX z)
  intro k hk x
  obtain ⟨e0, e1, e2, e3⟩ := embX k hk x
  show (dcP g k).2 x = rowCode (y (((rectX (eb k) (en k)).emb x) 0) ((((rectX (eb k) (en k)).emb x) 2).val / 128) (((rectX (eb k) (en k)).emb x) 1)) (f128 (((rectX (eb k) (en k)).emb x) 2).val)
  rw [e0, e1, e2, e3]
  refine (congrArg (dcP g k).2 (eq_ix3 x)).trans ((codeS_apply (g k) _ _ _).trans ?_)
  exact congrArg (fun w => rowCode w (x 2)) (funext fun l => hg k hk (x 1) l)

include hg in
/-- The table of the product's scales, in its first 28 columns. -/
theorem dscales_read {sp : Space} (v : View sig .tc sp S256x128 .f32) (f : v.ty.Contents (Elt Ideal)) (z : S256x128.Idx) (hz : (z 1).val < 28) :
    v.read (Elt Ideal) (v.writes (Elt Ideal) f (pieces (dsP g) 56 [])) z = rowScale (y (f2 ((z 0).val / 128)) (z 1).val (f128 (z 0).val)) := by
  refine read_pieces v f (dsP g) 56 (fun z => rowScale (y (f2 ((z 0).val / 128)) (z 1).val (f128 (z 0).val))) ?_ z ?_
  · intro k hk x
    have hx1 : (x 1).val < 1 := (x 1).isLt
    have hx0 : (x 0).val < 128 := (x 0).isLt
    have hn : en k < 28 := by unfold en; omega
    have e0 : (((rectS (eb k) (en k)).emb x) 0).val = 128 * (eb k % 2) + (x 0).val := by show 128 * (eb k % 2) + 1 * (x 0).val = _; omega
    have e1 : (((rectS (eb k) (en k)).emb x) 1).val = en k := by show (en k) % 36 + 1 * (x 1).val = _; omega
    show (dsP g k).2 x = rowScale (y (f2 ((((rectS (eb k) (en k)).emb x) 0).val / 128)) (((rectS (eb k) (en k)).emb x) 1).val (f128 (((rectS (eb k) (en k)).emb x) 0).val))
    rw [e0, e1, show f128 (128 * (eb k % 2) + (x 0).val) = x 0 from Fin.ext (by show (128 * (eb k % 2) + (x 0).val) % 128 = _; omega),
      show f2 ((128 * (eb k % 2) + (x 0).val) / 128) = f2 (eb k) from Fin.ext (by show (128 * (eb k % 2) + (x 0).val) / 128 % 2 = eb k % 2; omega)]
    refine (congrArg (dsP g k).2 (eq_ix2 x)).trans ((scaleS_apply (g k) _ _).trans ?_)
    exact congrArg rowScale (funext fun l => hg k hk (x 0) l)
  · have h1 : (z 1).val < 28 := hz
    have h0 : (z 0).val < 256 := (z 0).isLt
    refine ⟨8 * ((z 1).val / 4) + 4 * ((z 0).val / 128) + (z 1).val % 4, by omega, ?_⟩
    show z ∈ (rectS (eb _) (en _)).set
    rw [Rect.mem_set_unit]
    generalize hk : 8 * ((z 1).val / 4) + 4 * ((z 0).val / 128) + (z 1).val % 4 = k
    have e1 : eb k = (z 0).val / 128 := by unfold eb; omega
    have e2 : en k = (z 1).val := by unfold en; omega
    rw [e1, e2]
    intro a; fin_cases a
    · show 128 * ((z 0).val / 128 % 2) ≤ (z 0).val ∧ (z 0).val < 128 * ((z 0).val / 128 % 2) + 128; omega
    · show (z 1).val % 36 ≤ (z 1).val ∧ (z 1).val < (z 1).val % 36 + 1; omega

end Blocks

/-- A block of a table of scales. -/
theorem tabV_apply (M : Memref sig .tc .vmem S256x128 .f32) (f : Bf (F := Ideal) c M) (L : List (View.Piece (Elt Ideal) S256x128 .f32)) (b : ℕ) (r l : Fin 128) :
    tabV (F := Ideal) c M f L b (ix2 r l) = M.view.read (Elt Ideal) (M.view.writes (Elt Ideal) f L) (ix2 (⟨128 * (b % 2) + r.val, by omega⟩ : Fin 256) l) := by
  refine congrArg (M.view.read (Elt Ideal) (M.view.writes (Elt Ideal) f L)) (funext fun a => Fin.ext ?_)
  fin_cases a
  · show 128 * (b % 2) + 1 * r.val = 128 * (b % 2) + r.val; omega
  · show 0 + 1 * l.val = l.val; omega

end Cert.KernelIdeal.Hand

end
-- ==== Proof.PI.Weights.lean ====
/- The weights that the loop over chunks leaves: the stores of a trip as one family over the 36 groups. -/
module

public import proofs.«01_k».proof.Proof.PI.Epi
public import proofs.«01_k».proof.Proof.PI.Trip

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-! ## The offsets as the program computes them, for any group -/

abbrev tripI (k : Fin k0_t1_loop.trips) : BitVec 32 := Scf.iv 0#32 1#32 k.val
abbrev offA (k : Fin k0_t1_loop.trips) (r g : ℕ) : Fin 3 → ℕ := ![BitVec.toNat (Scalar.indexCast (Scalar.remsi (tripI k) 2#32)), 128 * (r % 2), 128 * (g % 36)]
abbrev offB (k : Fin k0_t1_loop.trips) (r : BitVec 32) (g : ℕ) : Fin 2 → ℕ := ![BitVec.toNat (Scalar.indexCast (Scalar.addi (Scalar.muli (tripI k) 2#32) r)), g % 36]
abbrev offC (k : Fin k0_t1_loop.trips) (g : ℕ) : Fin 2 → ℕ := ![128 * (g % 36), BitVec.toNat (Scalar.indexCast (Scalar.muli (tripI k) 256#32))]

theorem wordA : ∀ k : Fin k0_t1_loop.trips, BitVec.toNat (Scalar.indexCast (Scalar.remsi (tripI k) 2#32)) = k.val % 2 := by decide +kernel
theorem wordB : ∀ (k : Fin k0_t1_loop.trips) (r : Fin 2), BitVec.toNat (Scalar.indexCast (Scalar.addi (Scalar.muli (tripI k) 2#32) (BitVec.ofNat 32 r.val))) = 2 * k.val + r.val := by decide +kernel
theorem wordC : ∀ k : Fin k0_t1_loop.trips, BitVec.toNat (Scalar.indexCast (Scalar.muli (tripI k) 256#32)) = 256 * k.val := by decide +kernel

theorem offA_eq (k : Fin k0_t1_loop.trips) (r g : ℕ) : offA k r g = ![k.val % 2, 128 * (r % 2), 128 * (g % 36)] := by rw [offA, wordA]
theorem offB_eq (k : Fin k0_t1_loop.trips) (r : Fin 2) (g : ℕ) : offB k (BitVec.ofNat 32 r.val) g = ![2 * k.val + r.val, g % 36] := by rw [offB, wordB]
theorem offC_eq (k : Fin k0_t1_loop.trips) (g : ℕ) : offC k g = ![128 * (g % 36), 256 * k.val] := by rw [offC, wordC]

theorem trip_lt (k : Fin k0_t1_loop.trips) : k.val < 14 := lt_of_lt_of_eq k.isLt trips_eq

abbrev rectA (k : Fin k0_t1_loop.trips) (r g : ℕ) : Rect S2x256x4608 :=
  Rect.unit (offA k r g) S1x128x128.size (by rw [offA_eq]; intro a; fin_cases a <;> simp <;> omega)
abbrev rectB (k : Fin k0_t1_loop.trips) (r : Fin 2) (g : ℕ) : Rect S28x36 :=
  Rect.unit (offB k (BitVec.ofNat 32 r.val) g) S1x1.size (by have := trip_lt k; rw [offB_eq]; intro a; fin_cases a <;> simp <;> omega)
abbrev rectO (k : Fin k0_t1_loop.trips) (g : ℕ) : Rect S4608x3584 :=
  Rect.unit (offC k g) S128x256.size (by have := trip_lt k; rw [offC_eq]; intro a; fin_cases a <;> simp <;> omega)

variable (c : Dev nD) (i : grid0.Coords) (XA : Buf (Elt F) (wM.view.loc (c : Thread nD τ)))
  (arg7 : Memref sig .tc .smem S28x36 .f32) (f7 : Bf (F := F) c arg7)

/-- A block of codes in the landed chunk, and its scale. -/
def blockA (k : Fin k0_t1_loop.trips) (r g : ℕ) : Vec F S1x128x128 .fp8e4m3 :=
  View.readAt (Elt F) stM.view (rectA k r g).toLoadRect (landed c XA k.val (Ring.bk 14 k.val) (rslot k.val).view.junk)
def scaleB (k : Fin k0_t1_loop.trips) (r : Fin 2) (g : ℕ) : F .f32 :=
  View.readAt (Elt F) arg7.view (rectB k r g).toLoadRect f7 (Shape.Idx.first (s := S1x1) (by decide))

def partW (x : Vec F S1x128x128 .fp8e4m3) (s : F .f32) : FVec F S128x128 .bf16 :=
  truncf .bf16 (transpose S128x128 [1, 0] (mulf (extf .f32 (shapeCast S128x128 x shapeCasts_S1x128x128_S128x128) bitsLt_fp8e4m3_f32) (broadcast S128x128 s)) transposes_S128x128_p1_0_S128x128) bitsLt_bf16_f32
def pairW (x y : FVec F S128x128 .bf16) : FVec F S128x256 .bf16 :=
  shapeCast S128x256 (concatenate S128x256 1 [⟨S128x128, x⟩, ⟨S128x128, y⟩] concatenates_S128x128_S128x128_S128x256_d1) shapeCasts_S128x256_S128x256

/-- The store of group `g` in trip `k`. -/
def wP (k : Fin k0_t1_loop.trips) (g : ℕ) : View.Piece (Elt F) S4608x3584 .bf16 :=
  ⟨rectO k g, pairW (partW (blockA c XA k 0 g) (scaleB c arg7 f7 k 0 g)) (partW (blockA c XA k 1 g) (scaleB c arg7 f7 k 1 g))⟩

variable (arg1 : Memref sig .tc .vmem S2x28x128x128 .bf16) (harg1 : arg1.IsWhole)
  (arg2 : Memref sig .tc .vmem S2x512x128 .bf16) (harg2 : arg2.IsWhole)
  (arg3 : Memref sig .tc .vmem S2x512x128 .bf16) (harg3 : arg3.IsWhole)
  (arg4 : Memref sig .tc .vmem S2x128x3584 .bf16) (harg4 : arg4.IsWhole)
  (arg5 : Memref sig .tc .vmem S2x128 .i32) (harg5 : arg5.IsWhole)
  (arg6 : Memref sig .tc .vmem S8x128 .f32) (harg6 : arg6.IsWhole)
  (harg7 : arg7.IsWhole)
  (arg9 : Memref sig .tc .vmem S2x128x3584 .bf16) (harg9 : arg9.IsWhole)
  (arg10 : Memref sig .tc .vmem S2x128x4608 .fp8e5m2) (harg10 : arg10.IsWhole)
  (arg11 : Memref sig .tc .vmem S36x2x128 .f32) (harg11 : arg11.IsWhole)
  (arg12 : Memref sig .tc .vmem S2x128x3584 .fp8e5m2) (harg12 : arg12.IsWhole)
  (arg13 : Memref sig .tc .vmem S28x2x128 .f32) (harg13 : arg13.IsWhole)
  (arg14 : Memref sig .tc .vmem S4608x3584 .bf16) (harg14 : arg14.IsWhole)
  (arg16 : Memref sig .tc .vmem S256x4608 .bf16) (harg16 : arg16.IsWhole)
  (arg17 : Memref sig .tc .vmem S256x4608 .bf16) (harg17 : arg17.IsWhole)
  (arg18 : Memref sig .tc .vmem S256x128 .f32) (harg18 : arg18.IsWhole)
  (arg19 : Memref sig .tc .vmem S256x128 .f32) (harg19 : arg19.IsWhole)
  (arg20 : Memref sig .tc .vmem S256x128 .f32) (harg20 : arg20.IsWhole)
  (arg21 : Memref sig .tc .vmem S256x128 .f32) (harg21 : arg21.IsWhole)

variable (k0_h1 : k0_cond1 i = 1#1)
set_option maxHeartbeats 1000000 in
theorem tripRun_eq (k : Fin k0_t1_loop.trips) (hk : k.val + 1 < 14) : (tripRun c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 k hk).1 = pieces (wP c XA arg7 f7 k) 36 [] := rfl
set_option maxHeartbeats 1000000 in
theorem tripLast_eq (k : Fin k0_t1_loop.trips) (hk : ¬ k.val + 1 < 14) : (tripLast c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 k hk).1 = pieces (wP c XA arg7 f7 k) 36 [] := rfl
theorem tripW_eq (k : Fin k0_t1_loop.trips) : tripW c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1 f7 k = pieces (wP c XA arg7 f7 k) 36 [] := by
  unfold tripW; split
  · exact tripRun_eq ..
  · exact tripLast_eq ..

end Cert.KernelIdeal.Hand

end
-- ==== Proof.PI.WRead.lean ====
/- What the weights' scratch reads as after the loop over chunks. -/
module

public import proofs.«01_k».proof.Proof.PI.Weights
public import proofs.«01_k».proof.Proof.PI.Values

@[expose] public section

set_option maxRecDepth 16384

noncomputable section

namespace Cert.KernelIdeal.Hand

open Cert.KernelIdeal Cert.KernelIdeal.Gen Cert.Quant
open Idealize.ShloMosaic Idealize.ShloMosaic.TcCoe

theorem partW_apply (x : Vec Ideal S1x128x128 .fp8e4m3) (s : Ideal .f32) (p q : Fin 128) : partW (F := Ideal) x s (ix2 p q) = x (ix3 0 q p) * s := by
  unfold partW
  pointwise

theorem pairW_apply (x y : FVec Ideal S128x128 .bf16) (p : Fin 128) (q : Fin 256) :
    pairW (F := Ideal) x y (ix2 p q) = if h : q.val < 128 then x (ix2 p ⟨q.val, h⟩) else y (ix2 p ⟨q.val - 128, by omega⟩) := by
  unfold pairW
  pointwise

variable (c : Dev nD) (XA : Buf (Elt Ideal) (wM.view.loc (c : Thread nD τ)))

theorem grp_read (b : Fin 14) (p : Fin 256) (q : Fin 4608) :
    (grp b).view.read (Elt Ideal) XA (ix2 p q) = wM.view.read (Elt Ideal) XA (ix2 (⟨256 * b.val + p.val, by omega⟩ : Fin 3584) q) := by
  show wM.view.read (Elt Ideal) XA ((Rect.unit (s := S3584x4608) (grpOff b) S256x4608.size (grpOff_inb b)).emb (ix2 p q)) = _
  refine congrArg (wM.view.read (Elt Ideal) XA) (funext fun a => Fin.ext ?_)
  fin_cases a
  · show 256 * b.val + 1 * p.val = 256 * b.val + p.val; omega
  · show 0 + 1 * q.val = q.val; omega

theorem rslot_read (n : ℕ) (f : Buf (Elt Ideal) ((rslot n).view.loc (c : Thread nD τ))) (p : Fin 256) (q : Fin 4608) :
    (rslot n).view.read (Elt Ideal) f (ix2 p q) = stM.view.read (Elt Ideal) f (ix3 (⟨n % 2, Nat.mod_lt _ (by norm_num)⟩ : Fin 2) p q) := by
  show stM.view.read (Elt Ideal) f ((Rect.unit (s := S2x256x4608) (slotOff n) S1x256x4608.size (slotOff_inb n)).emb (Shape.reshapeEquiv _ (ix2 p q))) = _
  have e : Shape.reshapeEquiv squeezes_S1x256x4608_S256x4608.numel_eq (ix2 p q) = (ix3 0 p q : S1x256x4608.Idx) := by
    refine Shape.reshapeEquiv_eq_of_rowMajor _ ?_
    rw [Shape.rowMajor_val_three, Shape.rowMajor_val_two]
    simp
  refine congrArg (stM.view.read (Elt Ideal) f) ?_
  refine (congrArg (Rect.unit (s := S2x256x4608) (slotOff n) S1x256x4608.size (slotOff_inb n)).emb e).trans ?_
  refine funext fun a => Fin.ext ?_
  fin_cases a
  · show n % 2 + 1 * 0 = n % 2; omega
  · show 0 + 1 * p.val = p.val; omega
  · show 0 + 1 * q.val = q.val; omega

theorem landed_read (n : ℕ) (b : Fin 14) (f : Buf (Elt Ideal) ((rslot n).view.loc (c : Thread nD τ))) (p : Fin 256) (q : Fin 4608) :
    stM.view.read (Elt Ideal) (landed c XA n b f) (ix3 (⟨n % 2, Nat.mod_lt _ (by norm_num)⟩ : Fin 2) p q)
      = wM.view.read (Elt Ideal) XA (ix2 (⟨256 * b.val + p.val, by omega⟩ : Fin 3584) q) := by
  refine (rslot_read c n _ p q).symm.trans (Eq.trans ?_ (grp_read c XA b p q))
  refine View.read_writes_apply_of_pieces (rslot n).view f (fun y => (grp b).view.read (Elt Ideal) XA y) _ ?_ (ix2 p q) ⟨_, List.mem_singleton.2 rfl, ?_⟩
  · intro P hP x
    obtain rfl := List.mem_singleton.1 hP
    exact congrArg ((grp b).view.read (Elt Ideal) XA) (funext fun a => Fin.ext (by show (x a).val = 0 + 1 * (x a).val; omega))
  · show ix2 p q ∈ (Rect.whole S256x4608).set
    rw [Rect.set_whole]; exact Finset.mem_univ _

variable (arg7 : Memref sig .tc .smem S28x36 .f32) (x6 : Vec Ideal S28x36 .f32)

theorem rectA_idx (k : Fin k0_t1_loop.trips) (r g : ℕ) (p q : Fin 128) :
    (rectA k r g).toLoadRect.idx (ix3 0 p q) = ix3 (⟨k.val % 2, Nat.mod_lt _ (by norm_num)⟩ : Fin 2) (⟨128 * (r % 2) + p.val, by omega⟩ : Fin 256) (⟨128 * (g % 36) + q.val, by omega⟩ : Fin 4608) := by
  funext a; refine Fin.ext ?_
  show offA k r g a + 1 * _ = _
  rw [offA_eq]
  fin_cases a
  · show k.val % 2 + 1 * 0 = k.val % 2; omega
  · show 128 * (r % 2) + 1 * p.val = 128 * (r % 2) + p.val; omega
  · show 128 * (g % 36) + 1 * q.val = 128 * (g % 36) + q.val; omega

theorem blockA_apply (k : Fin k0_t1_loop.trips) (r g : ℕ) (p q : Fin 128) :
    blockA (F := Ideal) c XA k r g (ix3 0 p q)
      = wM.view.read (Elt Ideal) XA (ix2 (⟨256 * k.val + 128 * (r % 2) + p.val, by have := trip_lt k; omega⟩ : Fin 3584) (⟨128 * (g % 36) + q.val, by omega⟩ : Fin 4608)) := by
  have hk := trip_lt k
  have key := landed_read c XA k.val (Ring.bk 14 k.val) (rslot k.val).view.junk (⟨128 * (r % 2) + p.val, by omega⟩ : Fin 256) (⟨128 * (g % 36) + q.val, by omega⟩ : Fin 4608)
  have e2 : (⟨256 * (Ring.bk 14 k.val).val + (128 * (r % 2) + p.val), by have := (Ring.bk 14 k.val).isLt; omega⟩ : Fin 3584) = ⟨256 * k.val + 128 * (r % 2) + p.val, by omega⟩ :=
    Fin.ext ((congrArg (fun z => 256 * z + (128 * (r % 2) + p.val)) (Ring.bk_val hk)).trans (Nat.add_assoc _ _ _).symm)
  unfold blockA
  refine Eq.trans ?_ (key.trans (congrArg (fun z => wM.view.read (Elt Ideal) XA (ix2 z _)) e2))
  exact congrArg (stM.view.read (Elt Ideal) (landed c XA k.val (Ring.bk 14 k.val) (rslot k.val).view.junk)) (rectA_idx k r g p q)

theorem scaleB_apply (k : Fin k0_t1_loop.trips) (r : Fin 2) (g : ℕ) :
    scaleB (F := Ideal) c arg7 (arg7.view.rep x6) k r g = x6 (ix2 (⟨2 * k.val + r.val, by have := trip_lt k; omega⟩ : Fin 28) (⟨g % 36, Nat.mod_lt _ (by norm_num)⟩ : Fin 36)) := by
  unfold scaleB
  rw [View.readAt_rep]
  refine congrArg x6 (funext fun a => Fin.ext ?_)
  show offB k (BitVec.ofNat 32 r.val) g a + 1 * _ = _
  rw [offB_eq]
  fin_cases a
  · show 2 * k.val + r.val + 1 * 0 = 2 * k.val + r.val; omega
  · show g % 36 + 1 * 0 = g % 36; omega

/-- The weights as they are used. -/
def wVal (X : Vec Ideal S3584x4608 .fp8e4m3) (x6 : Vec Ideal S28x36 .f32) : Vec Ideal S4608x3584 .bf16 := fun y =>
  (X (ix2 (y 1) (y 0)) * x6 (ix2 (⟨(y 1).val / 128, by have : (y 1).val < 3584 := (y 1).isLt; omega⟩ : Fin 28) (⟨(y 0).val / 128, by have : (y 0).val < 4608 := (y 0).isLt; omega⟩ : Fin 36)) : EReal)

theorem wB_apply (k : Fin k0_t1_loop.trips) (g : ℕ) (hg : g < 36) (p : Fin 128) (q : Fin 256) :
    pairW (F := Ideal) (partW (blockA c XA k 0 g) (scaleB c arg7 (arg7.view.rep x6) k 0 g)) (partW (blockA c XA k 1 g) (scaleB c arg7 (arg7.view.rep x6) k 1 g)) (ix2 p q)
      = wVal (wM.view.read (Elt Ideal) XA) x6 (ix2 (⟨128 * g + p.val, by omega⟩ : Fin 4608) (⟨256 * k.val + q.val, by have := trip_lt k; omega⟩ : Fin 3584)) := by
  have hk := trip_lt k
  rw [pairW_apply]
  split
  · next h =>
    rw [partW_apply, blockA_apply, scaleB_apply]
    refine congrArg₂ (fun a b : EReal => a * b) (congrArg (wM.view.read (Elt Ideal) XA) (congrArg₂ ix2 (Fin.ext ?_) (Fin.ext ?_))) (congrArg x6 (congrArg₂ ix2 (Fin.ext ?_) (Fin.ext ?_)))
    · show 256 * k.val + 128 * (0 % 2) + q.val = 256 * k.val + q.val; omega
    · show 128 * (g % 36) + p.val = 128 * g + p.val; omega
    · show 2 * k.val + 0 = (256 * k.val + q.val) / 128; omega
    · show g % 36 = (128 * g + p.val) / 128; omega
  · next h =>
    rw [partW_apply, blockA_apply, scaleB_apply]
    refine congrArg₂ (fun a b : EReal => a * b) (congrArg (wM.view.read (Elt Ideal) XA) (congrArg₂ ix2 (Fin.ext ?_) (Fin.ext ?_))) (congrArg x6 (congrArg₂ ix2 (Fin.ext ?_) (Fin.ext ?_)))
    · show 256 * k.val + 128 * (1 % 2) + (q.val - 128) = 256 * k.val + q.val; omega
    · show 128 * (g % 36) + p.val = 128 * g + p.val; omega
    · show 2 * k.val + 1 = (256 * k.val + q.val) / 128; omega
    · show g % 36 = (128 * g + p.val) / 128; omega

theorem wP_apply (k : Fin k0_t1_loop.trips) (g : ℕ) (hg : g < 36) (x : S128x256.Idx) :
    (wP (F := Ideal) c XA arg7 (arg7.view.rep x6) k g).2 x = wVal (wM.view.read (Elt Ideal) XA) x6 ((rectO k g).emb x) := by
  refine (congrArg (wP (F := Ideal) c XA arg7 (arg7.view.rep x6) k g).2 (eq_ix2 x)).trans ((wB_apply c XA arg7 x6 k g hg (x 0) (x 1)).trans ?_)
  refine congrArg (wVal (wM.view.read (Elt Ideal) XA) x6) (funext fun a => Fin.ext ?_)
  show _ = offC k g a + 1 * (x a).val
  rw [offC_eq]
  fin_cases a
  · show 128 * g + (x 0).val = 128 * (g % 36) + 1 * (x 0).val; omega
  · show 256 * k.val + (x 1).val = 256 * k.val + 1 * (x 1).val; omega

variable (i : grid0.Coords) (arg1 : Memref sig .tc .vmem S2x28x128x128 .bf16) (harg1 : arg1.IsWhole)
  (arg2 : Memref sig .tc .vmem S2x512x128 .bf16) (harg2 : arg2.IsWhole)
  (arg3 : Memref sig .tc .vmem S2x512x128 .bf16) (harg3 : arg3.IsWhole)
  (arg4 : Memref sig .tc .vmem S2x128x3584 .bf16) (harg4 : arg4.IsWhole)
  (arg5 : Memref sig .tc .vmem S2x128 .i32) (harg5 : arg5.IsWhole)
  (arg6 : Memref sig .tc .vmem S8x128 .f32) (harg6 : arg6.IsWhole)
  (harg7 : arg7.IsWhole)
  (arg9 : Memref sig .tc .vmem S2x128x3584 .bf16) (harg9 : arg9.IsWhole)
  (arg10 : Memref sig .tc .vmem S2x128x4608 .fp8e5m2) (harg10 : arg10.IsWhole)
  (arg11 : Memref sig .tc .vmem S36x2x128 .f32) (harg11 : arg11.IsWhole)
  (arg12 : Memref sig .tc .vmem S2x128x3584 .fp8e5m2) (harg12 : arg12.IsWhole)
  (arg13 : Memref sig .tc .vmem S28x2x128 .f32) (harg13 : arg13.IsWhole)
  (arg14 : Memref sig .tc .vmem S4608x3584 .bf16) (harg14 : arg14.IsWhole)
  (arg16 : Memref sig .tc .vmem S256x4608 .bf16) (harg16 : arg16.IsWhole)
  (arg17 : Memref sig .tc .vmem S256x4608 .bf16) (harg17 : arg17.IsWhole)
  (arg18 : Memref sig .tc .vmem S256x128 .f32) (harg18 : arg18.IsWhole)
  (arg19 : Memref sig .tc .vmem S256x128 .f32) (harg19 : arg19.IsWhole)
  (arg20 : Memref sig .tc .vmem S256x128 .f32) (harg20 : arg20.IsWhole)
  (arg21 : Memref sig .tc .vmem S256x128 .f32) (harg21 : arg21.IsWhole)
  (k0_h1 : k0_cond1 i = 1#1) (f7 : Bf (F := Ideal) c arg7)

theorem mem_loopW (n : ℕ) (p : View.Piece (Elt Ideal) S4608x3584 .bf16) :
    p ∈ (loopW (F := Ideal) c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1) f7 n ↔ ∃ k : Fin k0_t1_loop.trips, k.val < n ∧ ∃ g < 36, p = wP c XA arg7 f7 k g := by
  induction n with
  | zero => unfold loopW; simp
  | succ n ih =>
    unfold loopW
    split
    · next h =>
      rw [List.mem_append, tripW_eq, mem_pieces, ih]
      constructor
      · rintro ((⟨g, hg, rfl⟩ | h') | ⟨k, hk, hp⟩)
        · exact ⟨⟨n, h⟩, Nat.lt_succ_self n, g, hg, rfl⟩
        · cases h'
        · exact ⟨k, by omega, hp⟩
      · rintro ⟨k, hk, g, hg, rfl⟩
        rcases Nat.lt_succ_iff_lt_or_eq.1 hk with hk | hk
        · exact .inr ⟨k, hk, g, hg, rfl⟩
        · exact .inl (.inl ⟨g, hg, by rw [show k = ⟨n, h⟩ from Fin.ext hk]⟩)
    · next h =>
      rw [ih]
      constructor
      · rintro ⟨k, hk, hp⟩; exact ⟨k, by omega, hp⟩
      · rintro ⟨k, hk, hp⟩; exact ⟨k, by have := k.isLt; omega, hp⟩

theorem weights_read {sp : Space} (v : View sig .tc sp S4608x3584 .bf16) (f : v.ty.Contents (Elt Ideal)) (y : S4608x3584.Idx) :
    v.read (Elt Ideal) (v.writes (Elt Ideal) f ((loopW (F := Ideal) c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 k0_h1) (arg7.view.rep x6) 14)) y = wVal (wM.view.read (Elt Ideal) XA) x6 y := by
  have h0 : (y 0).val < 4608 := (y 0).isLt
  have h1 : (y 1).val < 3584 := (y 1).isLt
  refine View.read_writes_apply_of_pieces v f (wVal (wM.view.read (Elt Ideal) XA) x6) _ ?_ y ?_
  · intro p hp x
    obtain ⟨k, -, g, hg, rfl⟩ := (mem_loopW ..).1 hp
    exact wP_apply c XA arg7 x6 k g hg x
  · have hk : (y 1).val / 256 < k0_t1_loop.trips := by rw [trips_eq]; omega
    refine ⟨_, (mem_loopW ..).2 ⟨⟨(y 1).val / 256, hk⟩, by show (y 1).val / 256 < 14; omega, (y 0).val / 128, by omega, rfl⟩, ?_⟩
    show y ∈ (rectO ⟨(y 1).val / 256, hk⟩ ((y 0).val / 128)).set
    rw [Rect.mem_set_unit, offC_eq]
    intro a; fin_cases a
    · show 128 * ((y 0).val / 128 % 36) ≤ (y 0).val ∧ (y 0).val < 128 * ((y 0).val / 128 % 36) + 128; omega
    · show 256 * ((y 1).val / 256) ≤ (y 1).val ∧ (y 1).val < 256 * ((y 1).val / 256) + 256; omega

end Cert.KernelIdeal.Hand

end
-- ==== Proof.PI.ListFirst.lean ====
/- The stores of a first point as families of tiles. -/
module

public import proofs.«01_k».proof.Proof.PI.Epi
public import proofs.«01_k».proof.Proof.PI.RunFirst

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

variable (c : Dev nD) (i : grid0.Coords) (XA : Buf (Elt F) (wM.view.loc (c : Thread nD τ)))
  (arg1 : Memref sig .tc .vmem S2x28x128x128 .bf16) (harg1 : arg1.IsWhole)
  (arg2 : Memref sig .tc .vmem S2x512x128 .bf16) (harg2 : arg2.IsWhole)
  (arg3 : Memref sig .tc .vmem S2x512x128 .bf16) (harg3 : arg3.IsWhole)
  (arg4 : Memref sig .tc .vmem S2x128x3584 .bf16) (harg4 : arg4.IsWhole)
  (arg5 : Memref sig .tc .vmem S2x128 .i32) (harg5 : arg5.IsWhole)
  (arg6 : Memref sig .tc .vmem S8x128 .f32) (harg6 : arg6.IsWhole)
  (arg7 : Memref sig .tc .smem S28x36 .f32) (harg7 : arg7.IsWhole)
  (arg9 : Memref sig .tc .vmem S2x128x3584 .bf16) (harg9 : arg9.IsWhole)
  (arg10 : Memref sig .tc .vmem S2x128x4608 .fp8e5m2) (harg10 : arg10.IsWhole)
  (arg11 : Memref sig .tc .vmem S36x2x128 .f32) (harg11 : arg11.IsWhole)
  (arg12 : Memref sig .tc .vmem S2x128x3584 .fp8e5m2) (harg12 : arg12.IsWhole)
  (arg13 : Memref sig .tc .vmem S28x2x128 .f32) (harg13 : arg13.IsWhole)
  (arg14 : Memref sig .tc .vmem S4608x3584 .bf16) (harg14 : arg14.IsWhole)
  (arg16 : Memref sig .tc .vmem S256x4608 .bf16) (harg16 : arg16.IsWhole)
  (arg17 : Memref sig .tc .vmem S256x4608 .bf16) (harg17 : arg17.IsWhole)
  (arg18 : Memref sig .tc .vmem S256x128 .f32) (harg18 : arg18.IsWhole)
  (arg19 : Memref sig .tc .vmem S256x128 .f32) (harg19 : arg19.IsWhole)
  (arg20 : Memref sig .tc .vmem S256x128 .f32) (harg20 : arg20.IsWhole)
  (arg21 : Memref sig .tc .vmem S256x128 .f32) (harg21 : arg21.IsWhole)

variable (hc1 : k0_cond1 i = 1#1) (hc3 : ¬ k0_cond3 i = 1#1) (hc4 : ¬ k0_cond4 i = 1#1)
    (f1 : Bf (F := F) c arg1) (f2 : Bf (F := F) c arg2) (f3 : Bf (F := F) c arg3) (f5 : Bf (F := F) c arg5) (f6 : Bf (F := F) c arg6) (f7 : Bf (F := F) c arg7) (f20 : Bf (F := F) c arg20)

theorem runFirst_gc : (runFirst c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 hc1 hc3 hc4 f1 f2 f3 f5 f6 f7 f20).1.1 = allG c arg1 arg2 harg2 arg3 harg3 arg5 arg6 arg18 arg19 f1 f2 f3 f5 f6 codeP := rfl

theorem runFirst_gs : (runFirst c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 hc1 hc3 hc4 f1 f2 f3 f5 f6 f7 f20).1.2.1 = pieces (gsP (tabV c arg20 f20 (allG c arg1 arg2 harg2 arg3 harg3 arg5 arg6 arg18 arg19 f1 f2 f3 f5 f6 scaleP))) 2 [] := rfl

theorem runFirst_lhs : (runFirst c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 hc1 hc3 hc4 f1 f2 f3 f5 f6 f7 f20).1.2.2.2.1 = allG c arg1 arg2 harg2 arg3 harg3 arg5 arg6 arg18 arg19 f1 f2 f3 f5 f6 lhsP := rfl

theorem runFirst_w : (runFirst c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 hc1 hc3 hc4 f1 f2 f3 f5 f6 f7 f20).1.2.2.1 = loopW c i XA arg1 harg1 arg2 harg2 arg3 harg3 arg4 harg4 arg5 harg5 arg6 harg6 arg7 harg7 arg9 harg9 arg10 harg10 arg11 harg11 arg12 harg12 arg13 harg13 arg14 harg14 arg16 harg16 arg17 harg17 arg18 harg18 arg19 harg19 arg20 harg20 arg21 harg21 hc1 f7 14 := rfl

end Cert.KernelIdeal.Hand

end
-- ==== Proof.PI.ListOdd.lean ====
/- The stores of a odd point as families of tiles. -/
module

public import proofs.«01_k».proof.Proof.PI.Epi
public import proofs.«01_k».proof.Proof.PI.RunOdd

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

variable (c : Dev nD) (i : grid0.Coords)
  (arg1 : Memref sig .tc .vmem S2x28x128x128 .bf16) (harg1 : arg1.IsWhole)
  (arg2 : Memref sig .tc .vmem S2x512x128 .bf16) (harg2 : arg2.IsWhole)
  (arg3 : Memref sig .tc .vmem S2x512x128 .bf16) (harg3 : arg3.IsWhole)
  (arg4 : Memref sig .tc .vmem S2x128x3584 .bf16) (harg4 : arg4.IsWhole)
  (arg5 : Memref sig .tc .vmem S2x128 .i32) (harg5 : arg5.IsWhole)
  (arg6 : Memref sig .tc .vmem S8x128 .f32) (harg6 : arg6.IsWhole)
  (arg7 : Memref sig .tc .smem S28x36 .f32) (harg7 : arg7.IsWhole)
  (arg8 : Memref sig .tc .hbm S3584x4608 .fp8e4m3) (harg8 : arg8.IsWhole)
  (arg9 : Memref sig .tc .vmem S2x128x3584 .bf16) (harg9 : arg9.IsWhole)
  (arg10 : Memref sig .tc .vmem S2x128x4608 .fp8e5m2) (harg10 : arg10.IsWhole)
  (arg11 : Memref sig .tc .vmem S36x2x128 .f32) (harg11 : arg11.IsWhole)
  (arg12 : Memref sig .tc .vmem S2x128x3584 .fp8e5m2) (harg12 : arg12.IsWhole)
  (arg13 : Memref sig .tc .vmem S28x2x128 .f32) (harg13 : arg13.IsWhole)
  (arg14 : Memref sig .tc .vmem S4608x3584 .bf16) (harg14 : arg14.IsWhole)
  (arg15 : Memref sig .tc .vmem S2x256x4608 .fp8e4m3) (harg15 : arg15.IsWhole)
  (arg16 : Memref sig .tc .vmem S256x4608 .bf16) (harg16 : arg16.IsWhole)
  (arg17 : Memref sig .tc .vmem S256x4608 .bf16) (harg17 : arg17.IsWhole)
  (arg18 : Memref sig .tc .vmem S256x128 .f32) (harg18 : arg18.IsWhole)
  (arg19 : Memref sig .tc .vmem S256x128 .f32) (harg19 : arg19.IsWhole)
  (arg20 : Memref sig .tc .vmem S256x128 .f32) (harg20 : arg20.IsWhole)
  (arg21 : Memref sig .tc .vmem S256x128 .f32) (harg21 : arg21.IsWhole)
  (arg22 : DmaSems sig S2)

variable (hc1 : ¬ k0_cond1 i = 1#1) (hc3 : k0_cond3 i = 1#1) (hc4 : ¬ k0_cond4 i = 1#1)
    (f1 : Bf (F := F) c arg1) (f2 : Bf (F := F) c arg2) (f3 : Bf (F := F) c arg3) (f4 : Bf (F := F) c arg4) (f5 : Bf (F := F) c arg5) (f6 : Bf (F := F) c arg6) (f14 : Bf (F := F) c arg14) (f16 : Bf (F := F) c arg16) (f20 : Bf (F := F) c arg20) (f21 : Bf (F := F) c arg21)

theorem runOdd_dx : (runOdd c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 hc1 hc3 hc4 f1 f2 f3 f4 f5 f6 f14 f16 f20 f21).1.1 = pieces (dxP (tileY c arg4 arg14 arg16 f4 f14 f16)) 56 [] := rfl

theorem runOdd_gc : (runOdd c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 hc1 hc3 hc4 f1 f2 f3 f4 f5 f6 f14 f16 f20 f21).1.2.1 = allG c arg1 arg2 harg2 arg3 harg3 arg5 arg6 arg18 arg19 f1 f2 f3 f5 f6 codeP := rfl

theorem runOdd_gs : (runOdd c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 hc1 hc3 hc4 f1 f2 f3 f4 f5 f6 f14 f16 f20 f21).1.2.2.1 = pieces (gsP (tabV c arg20 f20 (allG c arg1 arg2 harg2 arg3 harg3 arg5 arg6 arg18 arg19 f1 f2 f3 f5 f6 scaleP))) 2 [] := rfl

theorem runOdd_dc : (runOdd c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 hc1 hc3 hc4 f1 f2 f3 f4 f5 f6 f14 f16 f20 f21).1.2.2.2.1 = pieces (dcP (tileY c arg4 arg14 arg16 f4 f14 f16)) 56 [] := rfl

theorem runOdd_ds : (runOdd c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 hc1 hc3 hc4 f1 f2 f3 f4 f5 f6 f14 f16 f20 f21).1.2.2.2.2.1 = pieces (dsT (tabV c arg21 f21 (pieces (dsP (tileY c arg4 arg14 arg16 f4 f14 f16)) 56 []))) 2 [] := rfl

theorem runOdd_lhs : (runOdd c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 hc1 hc3 hc4 f1 f2 f3 f4 f5 f6 f14 f16 f20 f21).1.2.2.2.2.2.1 = allG c arg1 arg2 harg2 arg3 harg3 arg5 arg6 arg18 arg19 f1 f2 f3 f5 f6 lhsP := rfl

end Cert.KernelIdeal.Hand

end
-- ==== Proof.PI.ListEven.lean ====
/- The stores of a even point as families of tiles. -/
module

public import proofs.«01_k».proof.Proof.PI.Epi
public import proofs.«01_k».proof.Proof.PI.RunEven

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

variable (c : Dev nD) (i : grid0.Coords)
  (arg1 : Memref sig .tc .vmem S2x28x128x128 .bf16) (harg1 : arg1.IsWhole)
  (arg2 : Memref sig .tc .vmem S2x512x128 .bf16) (harg2 : arg2.IsWhole)
  (arg3 : Memref sig .tc .vmem S2x512x128 .bf16) (harg3 : arg3.IsWhole)
  (arg4 : Memref sig .tc .vmem S2x128x3584 .bf16) (harg4 : arg4.IsWhole)
  (arg5 : Memref sig .tc .vmem S2x128 .i32) (harg5 : arg5.IsWhole)
  (arg6 : Memref sig .tc .vmem S8x128 .f32) (harg6 : arg6.IsWhole)
  (arg7 : Memref sig .tc .smem S28x36 .f32) (harg7 : arg7.IsWhole)
  (arg8 : Memref sig .tc .hbm S3584x4608 .fp8e4m3) (harg8 : arg8.IsWhole)
  (arg9 : Memref sig .tc .vmem S2x128x3584 .bf16) (harg9 : arg9.IsWhole)
  (arg10 : Memref sig .tc .vmem S2x128x4608 .fp8e5m2) (harg10 : arg10.IsWhole)
  (arg11 : Memref sig .tc .vmem S36x2x128 .f32) (harg11 : arg11.IsWhole)
  (arg12 : Memref sig .tc .vmem S2x128x3584 .fp8e5m2) (harg12 : arg12.IsWhole)
  (arg13 : Memref sig .tc .vmem S28x2x128 .f32) (harg13 : arg13.IsWhole)
  (arg14 : Memref sig .tc .vmem S4608x3584 .bf16) (harg14 : arg14.IsWhole)
  (arg15 : Memref sig .tc .vmem S2x256x4608 .fp8e4m3) (harg15 : arg15.IsWhole)
  (arg16 : Memref sig .tc .vmem S256x4608 .bf16) (harg16 : arg16.IsWhole)
  (arg17 : Memref sig .tc .vmem S256x4608 .bf16) (harg17 : arg17.IsWhole)
  (arg18 : Memref sig .tc .vmem S256x128 .f32) (harg18 : arg18.IsWhole)
  (arg19 : Memref sig .tc .vmem S256x128 .f32) (harg19 : arg19.IsWhole)
  (arg20 : Memref sig .tc .vmem S256x128 .f32) (harg20 : arg20.IsWhole)
  (arg21 : Memref sig .tc .vmem S256x128 .f32) (harg21 : arg21.IsWhole)
  (arg22 : DmaSems sig S2)

variable (hc1 : ¬ k0_cond1 i = 1#1) (hc3 : ¬ k0_cond3 i = 1#1) (hc4 : k0_cond4 i = 1#1)
    (f1 : Bf (F := F) c arg1) (f2 : Bf (F := F) c arg2) (f3 : Bf (F := F) c arg3) (f4 : Bf (F := F) c arg4) (f5 : Bf (F := F) c arg5) (f6 : Bf (F := F) c arg6) (f14 : Bf (F := F) c arg14) (f17 : Bf (F := F) c arg17) (f20 : Bf (F := F) c arg20) (f21 : Bf (F := F) c arg21)

theorem runEven_dx : (runEven c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 hc1 hc3 hc4 f1 f2 f3 f4 f5 f6 f14 f17 f20 f21).1.1 = pieces (dxP (tileY c arg4 arg14 arg17 f4 f14 f17)) 56 [] := rfl

theorem runEven_gc : (runEven c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 hc1 hc3 hc4 f1 f2 f3 f4 f5 f6 f14 f17 f20 f21).1.2.1 = allG c arg1 arg2 harg2 arg3 harg3 arg5 arg6 arg18 arg19 f1 f2 f3 f5 f6 codeP := rfl

theorem runEven_gs : (runEven c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 hc1 hc3 hc4 f1 f2 f3 f4 f5 f6 f14 f17 f20 f21).1.2.2.1 = pieces (gsP (tabV c arg20 f20 (allG c arg1 arg2 harg2 arg3 harg3 arg5 arg6 arg18 arg19 f1 f2 f3 f5 f6 scaleP))) 2 [] := rfl

theorem runEven_dc : (runEven c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 hc1 hc3 hc4 f1 f2 f3 f4 f5 f6 f14 f17 f20 f21).1.2.2.2.1 = pieces (dcP (tileY c arg4 arg14 arg17 f4 f14 f17)) 56 [] := rfl

theorem runEven_ds : (runEven c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 hc1 hc3 hc4 f1 f2 f3 f4 f5 f6 f14 f17 f20 f21).1.2.2.2.2.1 = pieces (dsT (tabV c arg21 f21 (pieces (dsP (tileY c arg4 arg14 arg17 f4 f14 f17)) 56 []))) 2 [] := rfl

theorem runEven_lhs : (runEven c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 hc1 hc3 hc4 f1 f2 f3 f4 f5 f6 f14 f17 f20 f21).1.2.2.2.2.2.1 = allG c arg1 arg2 harg2 arg3 harg3 arg5 arg6 arg18 arg19 f1 f2 f3 f5 f6 lhsP := rfl

end Cert.KernelIdeal.Hand

end
-- ==== Proof.PI.Post.lean ====
/- What the points leave, as a claim about the results' blocks and the scratch, and that every point keeps it up. -/
module

public import proofs.«01_k».proof.Proof.PI.EpiReads
public import proofs.«01_k».proof.Proof.PI.WRead
public import proofs.«01_k».proof.Proof.PI.ListFirst
public import proofs.«01_k».proof.Proof.PI.ListOdd
public import proofs.«01_k».proof.Proof.PI.ListEven
public import proofs.«01_k».proof.Proof.PI.Frame

@[expose] public section

set_option maxRecDepth 16384

noncomputable section

namespace Cert.KernelIdeal.Hand

open Cert.KernelIdeal Cert.KernelIdeal.Gen Cert.Quant
open Idealize.ShloMosaic Idealize.ShloMosaic.TcCoe

section Tables

variable (c : Dev nD)
  (arg1 : Memref sig .tc .vmem S2x28x128x128 .bf16)
  (arg2 : Memref sig .tc .vmem S2x512x128 .bf16) (harg2 : arg2.IsWhole)
  (arg3 : Memref sig .tc .vmem S2x512x128 .bf16) (harg3 : arg3.IsWhole)
  (arg5 : Memref sig .tc .vmem S2x128 .i32)
  (arg6 : Memref sig .tc .vmem S8x128 .f32)
  (arg18 : Memref sig .tc .vmem S256x128 .f32)
  (arg19 : Memref sig .tc .vmem S256x128 .f32)
  (arg20 : Memref sig .tc .vmem S256x128 .f32) (f20 : Bf (F := Ideal) c arg20)
  (x0 : Vec Ideal S2x28x128x128 .bf16) (x1 x2 : Vec Ideal S2x512x128 .bf16) (x4 : Vec Ideal S2x128 .i32) (x5 : Vec Ideal S8x128 .f32)

theorem gs_spec {sp : Space} (v : View sig .tc sp S36x2x128 .f32) (f : v.ty.Contents (Elt Ideal)) (y : S36x2x128.Idx) :
    v.read (Elt Ideal) (v.writes (Elt Ideal) f (pieces (gsP (tabV c arg20 f20 (groupsL c arg1 arg2 harg2 arg3 harg3 arg5 arg6 arg18 arg19 x0 x1 x2 x4 x5 scaleP))) 2 [])) y
      = rowScale (gRow x0 x1 x2 x4 x5 (y 1) (y 0).val (y 2)) := by
  have h0 : (y 0).val < 36 := (y 0).isLt
  have h1 : (y 1).val < 2 := (y 1).isLt
  have h2 : (y 2).val < 128 := (y 2).isLt
  refine (gsP_read v f _ y).trans ((tabV_apply c arg20 f20 _ _ (y 2) _).trans ((scales_read c arg1 arg2 harg2 arg3 harg3 arg5 arg6 arg18 arg19 x0 x1 x2 x4 x5 arg20.view f20 _ ?_).trans ?_))
  · show (y 0).val % 128 < 36; omega
  · show rowScale (gRow x0 x1 x2 x4 x5 (f2 ((128 * ((y 1).val % 2) + (y 2).val) / 128)) ((y 0).val % 128) (f128 (128 * ((y 1).val % 2) + (y 2).val))) = _
    rw [show f2 ((128 * ((y 1).val % 2) + (y 2).val) / 128) = y 1 from Fin.ext (by show (128 * ((y 1).val % 2) + (y 2).val) / 128 % 2 = (y 1).val; omega),
      show f128 (128 * ((y 1).val % 2) + (y 2).val) = y 2 from Fin.ext (by show (128 * ((y 1).val % 2) + (y 2).val) % 128 = (y 2).val; omega), Nat.mod_eq_of_lt (show (y 0).val < 128 by omega)]

theorem ds_spec (w : Fin 2 → ℕ → Fin 128 → Fin 128 → EReal) (g : ℕ → FVec Ideal S128x128 .f32)
    (hg : ∀ k < 56, ∀ r l, g k (ix2 r l) = w (f2 (eb k)) (en k) r l) {sp : Space} (v : View sig .tc sp S28x2x128 .f32) (f : v.ty.Contents (Elt Ideal)) (y : S28x2x128.Idx) :
    v.read (Elt Ideal) (v.writes (Elt Ideal) f (pieces (dsT (tabV c arg20 f20 (pieces (dsP g) 56 []))) 2 [])) y = rowScale (w (y 1) (y 0).val (y 2)) := by
  have h0 : (y 0).val < 28 := (y 0).isLt
  have h1 : (y 1).val < 2 := (y 1).isLt
  have h2 : (y 2).val < 128 := (y 2).isLt
  refine (dsT_read v f _ y).trans ((tabV_apply c arg20 f20 _ _ (y 2) _).trans ((dscales_read w g hg arg20.view f20 _ ?_).trans ?_))
  · show (y 0).val % 128 < 28; omega
  · show rowScale (w (f2 ((128 * ((y 1).val % 2) + (y 2).val) / 128)) ((y 0).val % 128) (f128 (128 * ((y 1).val % 2) + (y 2).val))) = _
    rw [show f2 ((128 * ((y 1).val % 2) + (y 2).val) / 128) = y 1 from Fin.ext (by show (128 * ((y 1).val % 2) + (y 2).val) / 128 % 2 = (y 1).val; omega),
      show f128 (128 * ((y 1).val % 2) + (y 2).val) = y 2 from Fin.ext (by show (128 * ((y 1).val % 2) + (y 2).val) % 128 = (y 2).val; omega), Nat.mod_eq_of_lt (show (y 0).val < 128 by omega)]

end Tables

variable (m : (ℓ : Loc nD τ sig) → Buf (Elt Ideal) ℓ)

/-- The gradient's rows at a point's block. -/
def gT (c : Dev nD) (t : Fin cfg0.N) : Fin 2 → ℕ → Fin 128 → Fin 128 → EReal :=
  gRow (iblk m c 0 t) (iblk m c 1 t) (iblk m c 2 t) (iblk m c 4 t) (iblk m c 5 t)
/-- The left-hand operand made of rows. -/
def lT (g : Fin 2 → ℕ → Fin 128 → Fin 128 → EReal) : Vec Ideal S256x4608 .bf16 := fun y =>
  (rowCode (g (f2 ((y 0).val / 128)) ((y 1).val / 128) (f128 (y 0).val)) (f128 (y 1).val) * rowScale (g (f2 ((y 0).val / 128)) ((y 1).val / 128) (f128 (y 0).val)) : EReal)
def t0 : Fin cfg0.N := ⟨0, by decide +kernel⟩
/-- The weights' scratch. -/
def wT (c : Dev nD) : Vec Ideal S4608x3584 .bf16 := wVal (wM.view.read (Elt Ideal) (XA m c)) (iblk m c 6 t0)
/-- The product's rows at point `t`, from the operand of point `tp`. -/
def yT (c : Dev nD) (t tp : Fin cfg0.N) : Fin 2 → ℕ → Fin 128 → Fin 128 → EReal := yRow (iblk m c 3 t) (lT (gT m c tp)) (wT m c)

/-- What the points leave. -/
def post : Spec (F := Ideal) where
  out7 c t X := ∀ tp : Fin cfg0.N, tp.val + 1 = t.val → ∀ z, X z = yT m c t tp (z 0) ((z 2).val / 128) (z 1) (f128 (z 2).val)
  out8 c t X := ∀ z, X z = rowCode (gT m c t (z 0) ((z 2).val / 128) (z 1)) (f128 (z 2).val)
  out9 c t X := ∀ z, X z = rowScale (gT m c t (z 1) (z 0).val (z 2))
  out10 c t X := ∀ tp : Fin cfg0.N, tp.val + 1 = t.val → ∀ z, X z = rowCode (yT m c t tp (z 0) ((z 2).val / 128) (z 1)) (f128 (z 2).val)
  out11 c t X := ∀ tp : Fin cfg0.N, tp.val + 1 = t.val → ∀ z, X z = rowScale (yT m c t tp (z 1) (z 0).val (z 2))
  inv c n f14 f16 f17 := ∀ tp : Fin cfg0.N, tp.val + 1 = n → sc14.view.read (Elt Ideal) f14 = wT m c
    ∧ (n % 2 = 1 → sc16.view.read (Elt Ideal) f16 = lT (gT m c tp)) ∧ (n % 2 = 0 → sc17.view.read (Elt Ideal) f17 = lT (gT m c tp))

/-- The tiles of a product whose operands are as the claim says. -/
theorem tile_post (c : Dev nD) (t tp : Fin cfg0.N) (f14 : Bf (F := Ideal) c sc14) {M : Memref sig .tc .vmem S256x4608 .bf16} (f16 : Bf (F := Ideal) c M)
    (h14 : sc14.view.read (Elt Ideal) f14 = wT m c) (h16 : M.view.read (Elt Ideal) f16 = lT (gT m c tp)) (k : ℕ) (hk : k < 56) (r l : Fin 128) :
    tileY (F := Ideal) c (ms3 t) sc14 M (in3 m c t) f14 f16 k (ix2 r l) = yT m c t tp (f2 (eb k)) (en k) r l := by
  rw [tileY_apply c (ms3 t) sc14 M (iblk m c 3 t) f14 f16 k hk r l, h14, h16]
  rfl

theorem post_first (c : Dev nD) (t : Fin cfg0.N) (h1 : k0_cond1 (grid0.coords t) = 1#1) (h3 : ¬ k0_cond3 (grid0.coords t) = 1#1) (h4 : ¬ k0_cond4 (grid0.coords t) = 1#1)
    (f10 : Bf (F := Ideal) c (ms8 t)) (f11 : Bf (F := Ideal) c (ms9 t)) (f14 : Bf (F := Ideal) c sc14) (f16 : Bf (F := Ideal) c sc16) (f17 : Bf (F := Ideal) c sc17) (f20 : Bf (F := Ideal) c sc20) (ht : t.val = 0) :
    (post m).out8 c t ((ms8 t).view.read (Elt Ideal) ((ms8 t).view.writes (Elt Ideal) f10 (firstAt m c t h1 h3 h4 f20).1.1))
    ∧ (post m).out9 c t ((ms9 t).view.read (Elt Ideal) ((ms9 t).view.writes (Elt Ideal) f11 (firstAt m c t h1 h3 h4 f20).1.2.1))
    ∧ (post m).inv c (t.val + 1) (sc14.view.writes (Elt Ideal) f14 (firstAt m c t h1 h3 h4 f20).1.2.2.1) (sc16.view.writes (Elt Ideal) f16 (firstAt m c t h1 h3 h4 f20).1.2.2.2.1) f17 := by
  refine ⟨fun z => ?_, fun z => ?_, fun tp htp => ⟨?_, fun _ => ?_, fun h => absurd h (by omega)⟩⟩
  · rw [runFirst_gc]; exact codes_read c _ _ _ _ _ _ _ _ _ _ _ _ _ _ _ _ z
  · rw [runFirst_gs]; exact gs_spec c _ _ _ _ _ _ _ _ _ _ _ _ _ _ _ _ _ _ z
  · rw [runFirst_w]
    obtain rfl : t = t0 := Fin.ext ht
    exact funext fun y => weights_read (y := y) ..
  · rw [runFirst_lhs]
    obtain rfl : tp = t := Fin.ext (by omega)
    exact funext fun y => lhs_read c _ _ _ _ _ _ _ _ _ _ _ _ _ _ _ _ y

theorem post_odd (c : Dev nD) (t : Fin cfg0.N) (h1 : ¬ k0_cond1 (grid0.coords t) = 1#1) (h3 : k0_cond3 (grid0.coords t) = 1#1) (h4 : ¬ k0_cond4 (grid0.coords t) = 1#1)
    (f9 : Bf (F := Ideal) c (ms7 t)) (f10 : Bf (F := Ideal) c (ms8 t)) (f11 : Bf (F := Ideal) c (ms9 t)) (f12 : Bf (F := Ideal) c (ms10 t)) (f13 : Bf (F := Ideal) c (ms11 t))
    (f14 : Bf (F := Ideal) c sc14) (f16 : Bf (F := Ideal) c sc16) (f17 : Bf (F := Ideal) c sc17) (f20 : Bf (F := Ideal) c sc20) (f21 : Bf (F := Ideal) c sc21) (hI : (post m).inv c t.val f14 f16 f17) :
    (post m).out7 c t ((ms7 t).view.read (Elt Ideal) ((ms7 t).view.writes (Elt Ideal) f9 (oddAt m c t h1 h3 h4 f14 f16 f20 f21).1.1))
    ∧ (post m).out8 c t ((ms8 t).view.read (Elt Ideal) ((ms8 t).view.writes (Elt Ideal) f10 (oddAt m c t h1 h3 h4 f14 f16 f20 f21).1.2.1))
    ∧ (post m).out9 c t ((ms9 t).view.read (Elt Ideal) ((ms9 t).view.writes (Elt Ideal) f11 (oddAt m c t h1 h3 h4 f14 f16 f20 f21).1.2.2.1))
    ∧ (post m).out10 c t ((ms10 t).view.read (Elt Ideal) ((ms10 t).view.writes (Elt Ideal) f12 (oddAt m c t h1 h3 h4 f14 f16 f20 f21).1.2.2.2.1))
    ∧ (post m).out11 c t ((ms11 t).view.read (Elt Ideal) ((ms11 t).view.writes (Elt Ideal) f13 (oddAt m c t h1 h3 h4 f14 f16 f20 f21).1.2.2.2.2.1))
    ∧ (post m).inv c (t.val + 1) f14 f16 (sc17.view.writes (Elt Ideal) f17 (oddAt m c t h1 h3 h4 f14 f16 f20 f21).1.2.2.2.2.2.1) := by
  have ht : t.val % 2 = 1 := (cond3_iff t).1 h3
  refine ⟨fun tp htp z => ?_, fun z => ?_, fun z => ?_, fun tp htp z => ?_, fun tp htp z => ?_, fun tp htp => ⟨(hI ⟨t.val - 1, by omega⟩ (by show t.val - 1 + 1 = _; omega)).1, fun h => absurd h (by omega), fun _ => ?_⟩⟩
  · rw [runOdd_dx]; exact dx_read _ _ (tile_post m c t tp f14 f16 (hI tp htp).1 ((hI tp htp).2.1 ht)) _ _ z
  · rw [runOdd_gc]; exact codes_read c _ _ _ _ _ _ _ _ _ _ _ _ _ _ _ _ z
  · rw [runOdd_gs]; exact gs_spec c _ _ _ _ _ _ _ _ _ _ _ _ _ _ _ _ _ _ z
  · rw [runOdd_dc]; exact dc_read _ _ (tile_post m c t tp f14 f16 (hI tp htp).1 ((hI tp htp).2.1 ht)) _ _ z
  · rw [runOdd_ds]; exact ds_spec c _ _ _ _ (tile_post m c t tp f14 f16 (hI tp htp).1 ((hI tp htp).2.1 ht)) _ _ z
  · rw [runOdd_lhs]
    obtain rfl : tp = t := Fin.ext (by omega)
    exact funext fun y => lhs_read c _ _ _ _ _ _ _ _ _ _ _ _ _ _ _ _ y

theorem post_even (c : Dev nD) (t : Fin cfg0.N) (h1 : ¬ k0_cond1 (grid0.coords t) = 1#1) (h3 : ¬ k0_cond3 (grid0.coords t) = 1#1) (h4 : k0_cond4 (grid0.coords t) = 1#1)
    (f9 : Bf (F := Ideal) c (ms7 t)) (f10 : Bf (F := Ideal) c (ms8 t)) (f11 : Bf (F := Ideal) c (ms9 t)) (f12 : Bf (F := Ideal) c (ms10 t)) (f13 : Bf (F := Ideal) c (ms11 t))
    (f14 : Bf (F := Ideal) c sc14) (f16 : Bf (F := Ideal) c sc16) (f17 : Bf (F := Ideal) c sc17) (f20 : Bf (F := Ideal) c sc20) (f21 : Bf (F := Ideal) c sc21) (hI : (post m).inv c t.val f14 f16 f17) :
    (post m).out7 c t ((ms7 t).view.read (Elt Ideal) ((ms7 t).view.writes (Elt Ideal) f9 (evenAt m c t h1 h3 h4 f14 f17 f20 f21).1.1))
    ∧ (post m).out8 c t ((ms8 t).view.read (Elt Ideal) ((ms8 t).view.writes (Elt Ideal) f10 (evenAt m c t h1 h3 h4 f14 f17 f20 f21).1.2.1))
    ∧ (post m).out9 c t ((ms9 t).view.read (Elt Ideal) ((ms9 t).view.writes (Elt Ideal) f11 (evenAt m c t h1 h3 h4 f14 f17 f20 f21).1.2.2.1))
    ∧ (post m).out10 c t ((ms10 t).view.read (Elt Ideal) ((ms10 t).view.writes (Elt Ideal) f12 (evenAt m c t h1 h3 h4 f14 f17 f20 f21).1.2.2.2.1))
    ∧ (post m).out11 c t ((ms11 t).view.read (Elt Ideal) ((ms11 t).view.writes (Elt Ideal) f13 (evenAt m c t h1 h3 h4 f14 f17 f20 f21).1.2.2.2.2.1))
    ∧ (post m).inv c (t.val + 1) f14 (sc16.view.writes (Elt Ideal) f16 (evenAt m c t h1 h3 h4 f14 f17 f20 f21).1.2.2.2.2.2.1) f17 := by
  have ht : t.val % 2 = 0 ∧ t.val ≠ 0 := (cond4_iff t).1 h4
  refine ⟨fun tp htp z => ?_, fun z => ?_, fun z => ?_, fun tp htp z => ?_, fun tp htp z => ?_, fun tp htp => ⟨(hI ⟨t.val - 1, by omega⟩ (by show t.val - 1 + 1 = _; omega)).1, fun _ => ?_, fun h => absurd h (by omega)⟩⟩
  · rw [runEven_dx]; exact dx_read _ _ (tile_post m c t tp f14 f17 (hI tp htp).1 ((hI tp htp).2.2 ht.1)) _ _ z
  · rw [runEven_gc]; exact codes_read c _ _ _ _ _ _ _ _ _ _ _ _ _ _ _ _ z
  · rw [runEven_gs]; exact gs_spec c _ _ _ _ _ _ _ _ _ _ _ _ _ _ _ _ _ _ z
  · rw [runEven_dc]; exact dc_read _ _ (tile_post m c t tp f14 f17 (hI tp htp).1 ((hI tp htp).2.2 ht.1)) _ _ z
  · rw [runEven_ds]; exact ds_spec c _ _ _ _ (tile_post m c t tp f14 f17 (hI tp htp).1 ((hI tp htp).2.2 ht.1)) _ _ z
  · rw [runEven_lhs]
    obtain rfl : tp = t := Fin.ext (by omega)
    exact funext fun y => lhs_read c _ _ _ _ _ _ _ _ _ _ _ _ _ _ _ _ y

/-- Every point keeps the claim up. -/
theorem post_kept : (post m).Kept m where
  start c f14 f16 f17 := fun tp h => absurd h (by omega)
  first c t h1 h3 h4 f9 f10 f11 f12 f13 f14 f16 f17 f20 f21 ht :=
    have h := post_first m c t h1 h3 h4 f10 f11 f14 f16 f17 f20 ht
    ⟨fun tp htp => absurd htp (by omega), h.1, h.2.1, fun tp htp => absurd htp (by omega), fun tp htp => absurd htp (by omega), h.2.2⟩
  odd c t h1 h3 h4 f9 f10 f11 f12 f13 f14 f16 f17 f20 f21 hI := post_odd m c t h1 h3 h4 f9 f10 f11 f12 f13 f14 f16 f17 f20 f21 hI
  even c t h1 h3 h4 f9 f10 f11 f12 f13 f14 f16 f17 f20 f21 hI := post_even m c t h1 h3 h4 f9 f10 f11 f12 f13 f14 f16 f17 f20 f21 hI

end Cert.KernelIdeal.Hand

end
-- ==== Proof.PI.Input.lean ====
/- The blocks that a point reads, as elements of the arguments, and the rows of a point as rows of the whole gradient. -/
module

public import proofs.«01_k».proof.Proof.PI.Post
public import Idealize.ShloMosaic.Lib.Claim
public import Idealize.ShloMosaic.Lib.StableHlo.ReadAt
public import Idealize.ShloMosaic.Lib.Pointwise

@[expose] public section

set_option maxRecDepth 16384

noncomputable section

namespace Cert.KernelIdeal.Hand

open Cert.KernelIdeal Cert.KernelIdeal.Gen Cert.Quant
open Idealize.ShloMosaic Idealize.ShloMosaic.TcCoe

/-! ## The mathematics, on the whole arrays -/

/-- The frequency of lane `j`. -/
def invF (j : ℕ) : EReal :=
  Ideal.div 1 (Ideal.pow (Ideal.ofBits FTy.f32 1176256512#32)
    (Ideal.div (Ideal.ofBits FTy.f32 1073741824#32 * FloatOps.sitofp (F := Ideal) FTy.f32 (BitVec.ofNat 32 (j % 64))) (Ideal.ofBits FTy.f32 1124073472#32)))

/-- Row `(b, s)` of group `h` of the gradient. -/
def gFull (a0 : Vec Ideal S2x8192x28x128 .bf16) (a1 a2 : Vec Ideal S2x8192x4x128 .bf16) (a4 : Vec Ideal S2x8192 .i32) (b : Fin 2) (s : Fin 8192) (h : ℕ) : Fin 128 → EReal :=
  if h < 28 then rope (fun l => a0 (ix4 b s (⟨h % 28, Nat.mod_lt _ (by norm_num)⟩ : Fin 28) l)) (a4 (ix2 b s)) (fun l => invF l.val)
  else if h < 32 then rope (fun l => a1 (ix4 b s (⟨(h - 28) % 4, Nat.mod_lt _ (by norm_num)⟩ : Fin 4) l)) (a4 (ix2 b s)) (fun l => invF l.val)
  else fun l => a2 (ix4 b s (⟨(h - 32) % 4, Nat.mod_lt _ (by norm_num)⟩ : Fin 4) l)

/-- Row `(b, s)` of column group `n` of the product plus the residual. -/
def yFull (g : Fin 2 → Fin 8192 → ℕ → Fin 128 → EReal) (a3 : Vec Ideal S2x8192x3584 .bf16) (a5 : Vec Ideal S3584x4608 .fp8e4m3) (a6 : Vec Ideal S28x36 .f32)
    (b : Fin 2) (s : Fin 8192) (n : ℕ) (l : Fin 128) : EReal :=
  (∑ k : Fin 4608, (rowCode (g b s (k.val / 128)) (f128 k.val) * rowScale (g b s (k.val / 128))) * wVal a5 a6 (ix2 k (⟨128 * (n % 28) + l.val, by omega⟩ : Fin 3584)))
    + a3 (ix3 b s (⟨128 * (n % 28) + l.val, by omega⟩ : Fin 3584))

variable (m : (ℓ : Loc nD τ sig) → Buf (Elt Ideal) ℓ)

theorem V0_apply (c : Dev nD) (b : Fin 2) (h : Fin 28) (s : Fin 8192) (l : Fin 128) :
    V m c main_v0 (ix4 b h s l) = m ((c : Thread nD τ).loc main_arg0) (ix4 b s h l) := by
  unfold V
  after_reads_at
theorem V1_apply (c : Dev nD) (b : Fin 2) (R : Fin 32768) (l : Fin 128) :
    V m c main_v1 (ix3 b R l) = m ((c : Thread nD τ).loc main_arg1) (ix4 b (⟨R.val / 4, by omega⟩ : Fin 8192) (⟨R.val % 4, by omega⟩ : Fin 4) l) := by
  unfold V
  after_reads_at
theorem V2_apply (c : Dev nD) (b : Fin 2) (R : Fin 32768) (l : Fin 128) :
    V m c main_v2 (ix3 b R l) = m ((c : Thread nD τ).loc main_arg2) (ix4 b (⟨R.val / 4, by omega⟩ : Fin 8192) (⟨R.val % 4, by omega⟩ : Fin 4) l) := by
  unfold V
  after_reads_at
theorem V17_apply (c : Dev nD) (l : Fin 128) : V m c main_v17 (ix2 (0 : Fin 8) l) = invF l.val := by
  unfold V invF
  after_reads_at

theorem idx0 : ∀ t : Fin cfg0.N, win0_0.index t (0 : Fin 4) = 0 ∧ win0_0.index t (1 : Fin 4) = 0 ∧ win0_0.index t (2 : Fin 4) = min t.val 63 ∧ win0_0.index t (3 : Fin 4) = 0 := by decide +kernel
theorem idx1 : ∀ t : Fin cfg0.N, win0_1.index t (0 : Fin 3) = 0 ∧ win0_1.index t (1 : Fin 3) = min t.val 63 ∧ win0_1.index t (2 : Fin 3) = 0 := by decide +kernel
theorem idx2 : ∀ t : Fin cfg0.N, win0_2.index t (0 : Fin 3) = 0 ∧ win0_2.index t (1 : Fin 3) = min t.val 63 ∧ win0_2.index t (2 : Fin 3) = 0 := by decide +kernel
theorem idx3 : ∀ t : Fin cfg0.N, win0_3.index t (0 : Fin 3) = 0 ∧ win0_3.index t (1 : Fin 3) = t.val - 1 ∧ win0_3.index t (2 : Fin 3) = 0 := by decide +kernel
theorem idx4 : ∀ t : Fin cfg0.N, win0_4.index t (0 : Fin 2) = 0 ∧ win0_4.index t (1 : Fin 2) = min t.val 63 := by decide +kernel
theorem idx5 : ∀ t : Fin cfg0.N, win0_5.index t (0 : Fin 2) = 0 ∧ win0_5.index t (1 : Fin 2) = 0 := by decide +kernel
theorem idx6 : ∀ t : Fin cfg0.N, win0_6.index t (0 : Fin 2) = 0 ∧ win0_6.index t (1 : Fin 2) = 0 := by decide +kernel

theorem iblk0_apply (c : Dev nD) (t : Fin cfg0.N) (b : Fin 2) (h : Fin 28) (r l : Fin 128) :
    iblk m c 0 t (ix4 b h r l) = m ((c : Thread nD τ).loc main_arg0) (ix4 b (⟨128 * min t.val 63 + r.val, by omega⟩ : Fin 8192) h l) := by
  obtain ⟨e0, e1, e2, e3⟩ := idx0 t
  refine Eq.trans ?_ (V0_apply m c b h _ l)
  refine congrArg (V m c main_v0) (funext fun a => Fin.ext ?_)
  fin_cases a
  · show win0_0.index t (0 : Fin 4) * 2 + 1 * b.val = b.val; omega
  · show win0_0.index t (1 : Fin 4) * 28 + 1 * h.val = h.val; omega
  · show win0_0.index t (2 : Fin 4) * 128 + 1 * r.val = 128 * min t.val 63 + r.val; omega
  · show win0_0.index t (3 : Fin 4) * 128 + 1 * l.val = l.val; omega
theorem iblk1_apply (c : Dev nD) (t : Fin cfg0.N) (b : Fin 2) (h : Fin 4) (r l : Fin 128) :
    iblk m c 1 t (ix3 b (⟨4 * r.val + h.val, by omega⟩ : Fin 512) l) = m ((c : Thread nD τ).loc main_arg1) (ix4 b (⟨128 * min t.val 63 + r.val, by omega⟩ : Fin 8192) h l) := by
  obtain ⟨e0, e1, e2⟩ := idx1 t
  have e : V m c main_v1 (ix3 b (⟨512 * min t.val 63 + (4 * r.val + h.val), by omega⟩ : Fin 32768) l) = m ((c : Thread nD τ).loc main_arg1) (ix4 b (⟨128 * min t.val 63 + r.val, by omega⟩ : Fin 8192) h l) := by
    refine (V1_apply m c b _ l).trans ?_
    refine congrArg (m ((c : Thread nD τ).loc main_arg1)) (congrArg₂ (fun p q => ix4 b p q l) (Fin.ext ?_) (Fin.ext ?_))
    · show (512 * min t.val 63 + (4 * r.val + h.val)) / 4 = 128 * min t.val 63 + r.val; omega
    · show (512 * min t.val 63 + (4 * r.val + h.val)) % 4 = h.val; omega
  refine Eq.trans ?_ e
  refine congrArg (V m c main_v1) (funext fun a => Fin.ext ?_)
  fin_cases a
  · show win0_1.index t (0 : Fin 3) * 2 + 1 * b.val = b.val; omega
  · show win0_1.index t (1 : Fin 3) * 512 + 1 * (4 * r.val + h.val) = 512 * min t.val 63 + (4 * r.val + h.val); omega
  · show win0_1.index t (2 : Fin 3) * 128 + 1 * l.val = l.val; omega
theorem iblk2_apply (c : Dev nD) (t : Fin cfg0.N) (b : Fin 2) (h : Fin 4) (r l : Fin 128) :
    iblk m c 2 t (ix3 b (⟨4 * r.val + h.val, by omega⟩ : Fin 512) l) = m ((c : Thread nD τ).loc main_arg2) (ix4 b (⟨128 * min t.val 63 + r.val, by omega⟩ : Fin 8192) h l) := by
  obtain ⟨e0, e1, e2⟩ := idx2 t
  have e : V m c main_v2 (ix3 b (⟨512 * min t.val 63 + (4 * r.val + h.val), by omega⟩ : Fin 32768) l) = m ((c : Thread nD τ).loc main_arg2) (ix4 b (⟨128 * min t.val 63 + r.val, by omega⟩ : Fin 8192) h l) := by
    refine (V2_apply m c b _ l).trans ?_
    refine congrArg (m ((c : Thread nD τ).loc main_arg2)) (congrArg₂ (fun p q => ix4 b p q l) (Fin.ext ?_) (Fin.ext ?_))
    · show (512 * min t.val 63 + (4 * r.val + h.val)) / 4 = 128 * min t.val 63 + r.val; omega
    · show (512 * min t.val 63 + (4 * r.val + h.val)) % 4 = h.val; omega
  refine Eq.trans ?_ e
  refine congrArg (V m c main_v2) (funext fun a => Fin.ext ?_)
  fin_cases a
  · show win0_2.index t (0 : Fin 3) * 2 + 1 * b.val = b.val; omega
  · show win0_2.index t (1 : Fin 3) * 512 + 1 * (4 * r.val + h.val) = 512 * min t.val 63 + (4 * r.val + h.val); omega
  · show win0_2.index t (2 : Fin 3) * 128 + 1 * l.val = l.val; omega
theorem iblk3_apply (c : Dev nD) (t : Fin cfg0.N) (b : Fin 2) (r : Fin 128) (n : Fin 3584) :
    iblk m c 3 t (ix3 b r n) = m ((c : Thread nD τ).loc main_arg3) (ix3 b (⟨128 * (t.val - 1) + r.val, by have : t.val < 65 := t.isLt; omega⟩ : Fin 8192) n) := by
  obtain ⟨e0, e1, e2⟩ := idx3 t
  rw [← V_main_arg3 m c]
  refine congrArg (V m c main_arg3) (funext fun a => Fin.ext ?_)
  fin_cases a
  · show win0_3.index t (0 : Fin 3) * 2 + 1 * b.val = b.val; omega
  · show win0_3.index t (1 : Fin 3) * 128 + 1 * r.val = 128 * (t.val - 1) + r.val; omega
  · show win0_3.index t (2 : Fin 3) * 3584 + 1 * n.val = n.val; omega
theorem iblk4_apply (c : Dev nD) (t : Fin cfg0.N) (b : Fin 2) (r : Fin 128) :
    iblk m c 4 t (ix2 b r) = m ((c : Thread nD τ).loc main_arg4) (ix2 b (⟨128 * min t.val 63 + r.val, by omega⟩ : Fin 8192)) := by
  obtain ⟨e0, e1⟩ := idx4 t
  rw [← V_main_arg4 m c]
  refine congrArg (V m c main_arg4) (funext fun a => Fin.ext ?_)
  fin_cases a
  · show win0_4.index t (0 : Fin 2) * 2 + 1 * b.val = b.val; omega
  · show win0_4.index t (1 : Fin 2) * 128 + 1 * r.val = 128 * min t.val 63 + r.val; omega
theorem iblk5_apply (c : Dev nD) (t : Fin cfg0.N) (l : Fin 128) : iblk m c 5 t (ix2 (0 : Fin 8) l) = invF l.val := by
  obtain ⟨e0, e1⟩ := idx5 t
  rw [← V17_apply m c l]
  refine congrArg (V m c main_v17) (funext fun a => Fin.ext ?_)
  fin_cases a
  · show win0_5.index t (0 : Fin 2) * 8 + 1 * 0 = 0; omega
  · show win0_5.index t (1 : Fin 2) * 128 + 1 * l.val = l.val; omega
theorem iblk6_eq (c : Dev nD) (t : Fin cfg0.N) : iblk m c 6 t = m ((c : Thread nD τ).loc main_arg6) := by
  obtain ⟨e0, e1⟩ := idx6 t
  rw [← V_main_arg6 m c]
  funext z
  refine congrArg (V m c main_arg6) (funext fun a => Fin.ext ?_)
  fin_cases a
  · show win0_6.index t (0 : Fin 2) * 28 + 1 * (z 0).val = (z 0).val; omega
  · show win0_6.index t (1 : Fin 2) * 36 + 1 * (z 1).val = (z 1).val; omega

/-- The gradient, of the arguments. -/
abbrev gM (c : Dev nD) : Fin 2 → Fin 8192 → ℕ → Fin 128 → EReal :=
  gFull (m ((c : Thread nD τ).loc main_arg0)) (m ((c : Thread nD τ).loc main_arg1)) (m ((c : Thread nD τ).loc main_arg2)) (m ((c : Thread nD τ).loc main_arg4))
/-- The product plus the residual, of the arguments. -/
abbrev yM (c : Dev nD) : Fin 2 → Fin 8192 → ℕ → Fin 128 → EReal :=
  yFull (gM m c) (m ((c : Thread nD τ).loc main_arg3)) (m ((c : Thread nD τ).loc main_arg5)) (m ((c : Thread nD τ).loc main_arg6))

theorem gT_eq (c : Dev nD) (t : Fin cfg0.N) (b : Fin 2) (h : ℕ) (r : Fin 128) : gT m c t b h r = gM m c b (⟨128 * min t.val 63 + r.val, by omega⟩ : Fin 8192) h := by
  unfold gT gRow gM gFull
  have e5 : (fun l : Fin 128 => iblk m c 5 t (ix2 (0 : Fin 8) l)) = fun l => invF l.val := funext fun l => iblk5_apply m c t l
  split
  · exact congr (congrArg₂ rope (funext fun l => iblk0_apply m c t b _ r l) (iblk4_apply m c t b r)) e5
  · split
    · exact congr (congrArg₂ rope (funext fun l => iblk1_apply m c t b (⟨(h - 28) % 4, Nat.mod_lt _ (by norm_num)⟩ : Fin 4) r l) (iblk4_apply m c t b r)) e5
    · exact funext fun l => iblk2_apply m c t b (⟨(h - 32) % 4, Nat.mod_lt _ (by norm_num)⟩ : Fin 4) r l

theorem wT_eq (c : Dev nD) : wT m c = wVal (m ((c : Thread nD τ).loc main_arg5)) (m ((c : Thread nD τ).loc main_arg6)) := by
  unfold wT
  rw [iblk6_eq]
  exact congrArg (fun X => wVal X (m ((c : Thread nD τ).loc main_arg6))) (V_main_arg5 m c)

theorem yT_eq (c : Dev nD) (t tp : Fin cfg0.N) (h : tp.val + 1 = t.val) (b : Fin 2) (n : ℕ) (r l : Fin 128) :
    yT m c t tp b n r l = yM m c b (⟨128 * (t.val - 1) + r.val, by have : t.val < 65 := t.isLt; omega⟩ : Fin 8192) n l := by
  have ht : t.val < 65 := t.isLt
  have hg : ∀ k : ℕ, gT m c tp b k r = gM m c b (⟨128 * (t.val - 1) + r.val, by omega⟩ : Fin 8192) k := fun k =>
    (gT_eq m c tp b k r).trans (congrArg (fun s => gM m c b s k) (Fin.ext (by show 128 * min tp.val 63 + r.val = 128 * (t.val - 1) + r.val; omega)))
  unfold yT yRow yM yFull
  refine congrArg₂ (fun x y : EReal => x + y) (Finset.sum_congr rfl fun k _ => ?_) (iblk3_apply m c t b r _)
  rw [wT_eq]
  refine congrArg (fun x : EReal => x * _) ?_
  show rowCode (gT m c tp (f2 ((128 * b.val + r.val) / 128)) (k.val / 128) (f128 (128 * b.val + r.val))) (f128 k.val) * rowScale (gT m c tp (f2 ((128 * b.val + r.val) / 128)) (k.val / 128) (f128 (128 * b.val + r.val))) = _
  rw [show f2 ((128 * b.val + r.val) / 128) = b from Fin.ext (by show (128 * b.val + r.val) / 128 % 2 = b.val; omega),
    show f128 (128 * b.val + r.val) = r from Fin.ext (by show (128 * b.val + r.val) % 128 = r.val; omega), hg]

end Cert.KernelIdeal.Hand

end
-- ==== Proof.PI.Arrays.lean ====
/- The five result arrays after the run, element by element, of the arguments. -/
module

public import proofs.«01_k».proof.Proof.PI.Input
public import Idealize.ShloMosaic.Lib.Pipeline.ArrRel

@[expose] public section

set_option maxRecDepth 16384

noncomputable section

namespace Cert.KernelIdeal.Hand

open Cert.KernelIdeal Cert.KernelIdeal.Gen Cert.Quant
open Idealize.ShloMosaic Idealize.ShloMosaic.TcCoe

/-! ## The results of a family of rows -/

/-- The rows themselves, their codes and their scales, laid out as the result arrays. -/
def rowsA (y : Fin 2 → Fin 8192 → ℕ → Fin 128 → EReal) {n : ℕ} : Vec Ideal (⟨3, ![2, 8192, n]⟩ : Shape) .bf16 :=
  fun z => y (z 0) (z 1) ((z 2).val / 128) (f128 (z 2).val)
def codesA (y : Fin 2 → Fin 8192 → ℕ → Fin 128 → EReal) {n : ℕ} : Vec Ideal (⟨3, ![2, 8192, n]⟩ : Shape) .fp8e5m2 :=
  fun z => rowCode (y (z 0) (z 1) ((z 2).val / 128)) (f128 (z 2).val)
def scalesA (y : Fin 2 → Fin 8192 → ℕ → Fin 128 → EReal) {n : ℕ} : Vec Ideal (⟨3, ![n, 2, 8192]⟩ : Shape) .f32 :=
  fun z => rowScale (y (z 1) (z 2) (z 0).val)

variable (m : (ℓ : Loc nD τ sig) → Buf (Elt Ideal) ℓ)

theorem odx7 : ∀ t : Fin cfg0.N, win0_7.index t (0 : Fin 3) = 0 ∧ win0_7.index t (1 : Fin 3) = t.val - 1 ∧ win0_7.index t (2 : Fin 3) = 0 ∧ ((cfg0.win 7).flush t = true → 1 ≤ t.val) := by decide +kernel
theorem odx8 : ∀ t : Fin cfg0.N, win0_8.index t (0 : Fin 3) = 0 ∧ win0_8.index t (1 : Fin 3) = min t.val 63 ∧ win0_8.index t (2 : Fin 3) = 0 := by decide +kernel
theorem odx9 : ∀ t : Fin cfg0.N, win0_9.index t (0 : Fin 3) = 0 ∧ win0_9.index t (1 : Fin 3) = 0 ∧ win0_9.index t (2 : Fin 3) = min t.val 63 := by decide +kernel
theorem odx10 : ∀ t : Fin cfg0.N, win0_10.index t (0 : Fin 3) = 0 ∧ win0_10.index t (1 : Fin 3) = t.val - 1 ∧ win0_10.index t (2 : Fin 3) = 0 ∧ ((cfg0.win 10).flush t = true → 1 ≤ t.val) := by decide +kernel
theorem odx11 : ∀ t : Fin cfg0.N, win0_11.index t (0 : Fin 3) = 0 ∧ win0_11.index t (1 : Fin 3) = 0 ∧ win0_11.index t (2 : Fin 3) = t.val - 1 ∧ ((cfg0.win 11).flush t = true → 1 ≤ t.val) := by decide +kernel

/-- The point before. -/
def before (t : Fin cfg0.N) : Fin cfg0.N := ⟨t.val - 1, lt_of_le_of_lt (Nat.sub_le _ _) t.isLt⟩
theorem before_succ (t : Fin cfg0.N) (h : 1 ≤ t.val) : (before t).val + 1 = t.val := Nat.sub_add_cancel h

theorem yT_row (c : Dev nD) (t : Fin cfg0.N) (h : 1 ≤ t.val) (b : Fin 2) (n : ℕ) (r : Fin 128) :
    yT m c t (before t) b n r = yM m c b (⟨128 * (t.val - 1) + r.val, by have : t.val < 65 := t.isLt; omega⟩ : Fin 8192) n :=
  funext fun l => yT_eq m c t (before t) (before_succ t h) b n r l

/-- Indices of a three-axis array are equal when their coordinates are. -/
theorem idx_ext3 {n₀ n₁ n₂ : ℕ} (i : (⟨3, ![n₀, n₁, n₂]⟩ : Shape).Idx) (a : Fin n₀) (b : Fin n₁) (d : Fin n₂)
    (h0 : (i 0).val = a.val) (h1 : (i 1).val = b.val) (h2 : (i 2).val = d.val) : i = ix3 a b d := by
  funext k
  refine Fin.ext ?_
  fin_cases k
  · exact h0
  · exact h1
  · exact h2

variable {m} {r : PUnit × MemSt nD τ sig (Elt Ideal)} (h : Pipeline.RDat.FramePost cfg0 (rdats m (post m)) (V m) r) (c : Dev nD)

include h

theorem dx_array : r.2.mem ((c : Thread nD τ).loc main_v18_0) = rowsA (n := 3584) (yM m c) := by
  obtain ⟨after, hl, he⟩ := h.exists_exact c
  refine (he 7).trans (Pipeline.Dat.arrAt_eq_of_covers _ 7 _ (by decide +kernel) fun t hf y => ?_)
  obtain ⟨e0, e1, e2, e3⟩ := odx7 t
  have ht := e3 hf
  have ht' : t.val < 65 := t.isLt
  have hL : (post m).out7 c t (after 7 t) := Pipeline.Dat.toRRel_leaves _ rfl (hl 7 t hf)
  refine (hL (before t) (before_succ t ht) y).trans ?_
  refine (congrFun (yT_row m c t ht (y 0) ((y 2).val / 128) (y 1)) (f128 (y 2).val)).trans ?_
  refine Eq.trans ?_ (congrArg (rowsA (yM m c)) (idx_ext3 (((cfg0.win 7).blk t).view.emb y) (y 0) (⟨128 * (t.val - 1) + (y 1).val, by have : (y 1).val < 128 := (y 1).isLt; omega⟩ : Fin 8192) (y 2) ?_ ?_ ?_).symm)
  · rfl
  · show win0_7.index t (0 : Fin 3) * 2 + 1 * (y 0).val = (y 0).val; omega
  · show win0_7.index t (1 : Fin 3) * 128 + 1 * (y 1).val = 128 * (t.val - 1) + (y 1).val; omega
  · show win0_7.index t (2 : Fin 3) * 3584 + 1 * (y 2).val = (y 2).val; omega

theorem codes_array : r.2.mem ((c : Thread nD τ).loc main_v18_1) = codesA (n := 4608) (gM m c) := by
  obtain ⟨after, hl, he⟩ := h.exists_exact c
  refine (he 8).trans (Pipeline.Dat.arrAt_eq_of_covers _ 8 _ (by decide +kernel) fun t hf y => ?_)
  obtain ⟨e0, e1, e2⟩ := odx8 t
  have hL : (post m).out8 c t (after 8 t) := Pipeline.Dat.toRRel_leaves _ rfl (hl 8 t hf)
  refine (hL y).trans ?_
  refine (congrArg (fun v => rowCode v (f128 (y 2).val)) (gT_eq m c t (y 0) ((y 2).val / 128) (y 1))).trans ?_
  refine Eq.trans ?_ (congrArg (codesA (gM m c)) (idx_ext3 (((cfg0.win 8).blk t).view.emb y) (y 0) (⟨128 * min t.val 63 + (y 1).val, by have : (y 1).val < 128 := (y 1).isLt; omega⟩ : Fin 8192) (y 2) ?_ ?_ ?_).symm)
  · rfl
  · show win0_8.index t (0 : Fin 3) * 2 + 1 * (y 0).val = (y 0).val; omega
  · show win0_8.index t (1 : Fin 3) * 128 + 1 * (y 1).val = 128 * min t.val 63 + (y 1).val; omega
  · show win0_8.index t (2 : Fin 3) * 4608 + 1 * (y 2).val = (y 2).val; omega

theorem scales_array : r.2.mem ((c : Thread nD τ).loc main_v18_2) = scalesA (n := 36) (gM m c) := by
  obtain ⟨after, hl, he⟩ := h.exists_exact c
  refine (he 9).trans (Pipeline.Dat.arrAt_eq_of_covers _ 9 _ (by decide +kernel) fun t hf y => ?_)
  obtain ⟨e0, e1, e2⟩ := odx9 t
  have hL : (post m).out9 c t (after 9 t) := Pipeline.Dat.toRRel_leaves _ rfl (hl 9 t hf)
  refine (hL y).trans ?_
  refine (congrArg rowScale (gT_eq m c t (y 1) (y 0).val (y 2))).trans ?_
  refine Eq.trans ?_ (congrArg (scalesA (gM m c)) (idx_ext3 (((cfg0.win 9).blk t).view.emb y) (y 0) (y 1) (⟨128 * min t.val 63 + (y 2).val, by have : (y 2).val < 128 := (y 2).isLt; omega⟩ : Fin 8192) ?_ ?_ ?_).symm)
  · rfl
  · show win0_9.index t (0 : Fin 3) * 36 + 1 * (y 0).val = (y 0).val; omega
  · show win0_9.index t (1 : Fin 3) * 2 + 1 * (y 1).val = (y 1).val; omega
  · show win0_9.index t (2 : Fin 3) * 128 + 1 * (y 2).val = 128 * min t.val 63 + (y 2).val; omega

theorem dcodes_array : r.2.mem ((c : Thread nD τ).loc main_v18_3) = codesA (n := 3584) (yM m c) := by
  obtain ⟨after, hl, he⟩ := h.exists_exact c
  refine (he 10).trans (Pipeline.Dat.arrAt_eq_of_covers _ 10 _ (by decide +kernel) fun t hf y => ?_)
  obtain ⟨e0, e1, e2, e3⟩ := odx10 t
  have ht := e3 hf
  have ht' : t.val < 65 := t.isLt
  have hL : (post m).out10 c t (after 10 t) := Pipeline.Dat.toRRel_leaves _ rfl (hl 10 t hf)
  refine (hL (before t) (before_succ t ht) y).trans ?_
  refine (congrArg (fun v => rowCode v (f128 (y 2).val)) (yT_row m c t ht (y 0) ((y 2).val / 128) (y 1))).trans ?_
  refine Eq.trans ?_ (congrArg (codesA (yM m c)) (idx_ext3 (((cfg0.win 10).blk t).view.emb y) (y 0) (⟨128 * (t.val - 1) + (y 1).val, by have : (y 1).val < 128 := (y 1).isLt; omega⟩ : Fin 8192) (y 2) ?_ ?_ ?_).symm)
  · rfl
  · show win0_10.index t (0 : Fin 3) * 2 + 1 * (y 0).val = (y 0).val; omega
  · show win0_10.index t (1 : Fin 3) * 128 + 1 * (y 1).val = 128 * (t.val - 1) + (y 1).val; omega
  · show win0_10.index t (2 : Fin 3) * 3584 + 1 * (y 2).val = (y 2).val; omega

theorem dscales_array : r.2.mem ((c : Thread nD τ).loc main_v18_4) = scalesA (n := 28) (yM m c) := by
  obtain ⟨after, hl, he⟩ := h.exists_exact c
  refine (he 11).trans (Pipeline.Dat.arrAt_eq_of_covers _ 11 _ (by decide +kernel) fun t hf y => ?_)
  obtain ⟨e0, e1, e2, e3⟩ := odx11 t
  have ht := e3 hf
  have ht' : t.val < 65 := t.isLt
  have hL : (post m).out11 c t (after 11 t) := Pipeline.Dat.toRRel_leaves _ rfl (hl 11 t hf)
  refine (hL (before t) (before_succ t ht) y).trans ?_
  refine (congrArg rowScale (yT_row m c t ht (y 1) (y 0).val (y 2))).trans ?_
  refine Eq.trans ?_ (congrArg (scalesA (yM m c)) (idx_ext3 (((cfg0.win 11).blk t).view.emb y) (y 0) (y 1) (⟨128 * (t.val - 1) + (y 2).val, by have : (y 2).val < 128 := (y 2).isLt; omega⟩ : Fin 8192) ?_ ?_ ?_).symm)
  · rfl
  · show win0_11.index t (0 : Fin 3) * 28 + 1 * (y 0).val = (y 0).val; omega
  · show win0_11.index t (1 : Fin 3) * 2 + 1 * (y 1).val = (y 1).val; omega
  · show win0_11.index t (2 : Fin 3) * 128 + 1 * (y 2).val = 128 * (t.val - 1) + (y 2).val; omega

end Cert.KernelIdeal.Hand

end
-- ==== Proof.RI.Vec.lean ====
/- The reference's vector operations read at one index, over the extended reals. -/
module

public import proofs.«01_k».proof.Proof.PI.Arrays
public import proofs.«01_k».proof.Proof.Gen.ReferenceIdeal.Value
public import Idealize.ShloMosaic.Lib.Pointwise

@[expose] public section

set_option maxRecDepth 16384

noncomputable section

namespace Cert.ReferenceIdeal.Hand

open Cert.ReferenceIdeal Cert.ReferenceIdeal.Gen Cert.Quant
open Cert.KernelIdeal.Hand (rowAmp rowScale rowCode f128 wVal)
open Idealize.ShloMosaic Idealize.ShloMosaic.TcCoe

/-! ## The gradient's quantisation -/

/-- The greatest element of a row. -/
theorem top36_apply (g : FVec Ideal S2x8192x36x128 .f32) (b : Fin 2) (s : Fin 8192) (h : Fin 36) :
    multiReduction .maximumf [3] S2x8192x36 g 0xFF800000#32 reduces_S2x8192x36x128_S2x8192x36 (.inl rfl) rfl (ix3 b s h)
      = Finset.fold max (Ideal.ofBits .f32 4286578688#32) (fun k : Fin 128 => g (ix4 b s h k)) Finset.univ := by
  pointwise

/-- A product by one number. -/
theorem times36_apply (x : FVec Ideal S2x8192x36 .f32) (i : S2x8192x36.Idx) :
    mulf x (broadcast S2x8192x36 (Scalar.ofBits .f32 0x37924925#32 : Ideal .f32)) i = x i * Ideal.ofBits .f32 932333861#32 := by
  pointwise
/-- The greatest magnitude of a row over 57344. -/
theorem amp36_apply (g : FVec Ideal S2x8192x36x128 .f32) (b : Fin 2) (s : Fin 8192) (h : Fin 36) :
    mulf (multiReduction .maximumf [3] S2x8192x36 (absf g) 0xFF800000#32 reduces_S2x8192x36x128_S2x8192x36 (.inl rfl) rfl) (broadcast S2x8192x36 (Scalar.ofBits .f32 0x37924925#32 : Ideal .f32)) (ix3 b s h)
      = rowAmp fun l => g (ix4 b s h l) := by
  rw [times36_apply, top36_apply]
  rfl

/-- The table of powers of two. -/
theorem table_apply (l : Fin 252) : exp2 (sitofp (F := Ideal) .f32 (subi (iota .tc S1x1x1x252 32 [3] iota_S1x1x1x252_d3_w32) (broadcast S1x1x1x252 125#32))) (ix4 0 0 0 l) = power l.val := by
  unfold power
  pointwise
  rfl

/-- One for a row whose amplitude is below the least normal number. -/
theorem small36_apply (x y : FVec Ideal S2x8192x36 .f32) (i : S2x8192x36.Idx) :
    select (cmpf .olt x (broadcast S2x8192x36 (Scalar.ofBits .f32 0x00800000#32 : Ideal .f32))) (broadcast S2x8192x36 (Scalar.ofBits .f32 0x3F800000#32 : Ideal .f32)) y i
      = if x i < Ideal.ofBits .f32 8388608#32 then Ideal.ofBits .f32 1065353216#32 else y i := by
  pointwise

/-- The least power of two above `x`. -/
theorem least36_apply (x : FVec Ideal S2x8192x36 .f32) (p : FVec Ideal S1x1x1x252 .f32) (b : Fin 2) (s : Fin 8192) (h : Fin 36) :
    multiReduction .minimumf [3] S2x8192x36
      (select (cmpf .ogt (broadcastTo S2x8192x36x252 p broadcasts_S1x1x1x252_S2x8192x36x252) (broadcastTo S2x8192x36x252 (shapeCast S2x8192x36x1 x shapeCasts_S2x8192x36_S2x8192x36x1) broadcasts_S2x8192x36x1_S2x8192x36x252))
        (broadcastTo S2x8192x36x252 p broadcasts_S1x1x1x252_S2x8192x36x252) (broadcast S2x8192x36x252 (Scalar.ofBits .f32 0x7E800000#32 : Ideal .f32)))
      0x7F800000#32 reduces_S2x8192x36x252_S2x8192x36 (.inl rfl) rfl (ix3 b s h)
      = Finset.fold min (Ideal.ofBits .f32 2139095040#32) (fun l : Fin 252 => if x (ix3 b s h) < p (ix4 0 0 0 l) then p (ix4 0 0 0 l) else Ideal.ofBits .f32 2122317824#32) Finset.univ := by
  pointwise

/-- One over a row's scale, at every lane of the row. -/
theorem inv36_apply (y : FVec Ideal S2x8192x36 .f32) (b : Fin 2) (s : Fin 8192) (h : Fin 36) (l : Fin 128) :
    broadcastTo S2x8192x36x128 (shapeCast S2x8192x36x1 (divf (broadcast S2x8192x36 (Scalar.ofBits .f32 0x3F800000#32 : Ideal .f32)) y) shapeCasts_S2x8192x36_S2x8192x36x1) broadcasts_S2x8192x36x1_S2x8192x36x128 (ix4 b s h l)
      = Ideal.div (Ideal.ofBits .f32 1065353216#32) (y (ix3 b s h)) := by
  pointwise
/-- The clipped product. -/
theorem clip36_apply (g z : FVec Ideal S2x8192x36x128 .f32) (i : S2x8192x36x128.Idx) :
    truncf .fp8e5m2 (minimumf (broadcast S2x8192x36x128 (Scalar.ofBits .f32 0x47600000#32)) (maximumf (broadcast S2x8192x36x128 (Scalar.ofBits .f32 0xC7600000#32)) (mulf g z))) bitsLt_fp8e5m2_f32 i
      = min (Ideal.ofBits .f32 1197473792#32) (max (Ideal.ofBits .f32 3344957440#32) (g i * z i)) := by
  pointwise

/-- The scales, the codes and their layouts as results. -/
theorem pay5_apply (g : Vec Ideal S2x8192x36x128 .f32) (b : Fin 2) (s : Fin 8192) (h : Fin 36) :
    k0_pay5 g (ix3 b s h) = rowScale fun l => g (ix4 b s h l) := by
  unfold k0_pay5 k0_pay4
  refine (small36_apply _ _ _).trans ?_
  unfold rowScale rScale
  rw [shapeCast_self, shapeCast_self, amp36_apply, least36_apply, amp36_apply]
  exact congrArg (fun f => if (rowAmp fun l => g (ix4 b s h l)) < Ideal.ofBits .f32 8388608#32 then Ideal.ofBits .f32 1065353216#32 else Finset.fold min (Ideal.ofBits .f32 2139095040#32) f Finset.univ)
    (funext fun x => congrArg (fun q : EReal => if (rowAmp fun l => g (ix4 b s h l)) < q then q else Ideal.ofBits .f32 2122317824#32) (table_apply x))
theorem pay6_apply (g : Vec Ideal S2x8192x36x128 .f32) (b : Fin 2) (s : Fin 8192) (h : Fin 36) (l : Fin 128) :
    k0_pay6 g (ix4 b s h l) = rowCode (fun l => g (ix4 b s h l)) l := by
  unfold k0_pay6 k0_pay4
  refine (clip36_apply _ _ _).trans ?_
  rw [shapeCast_self, inv36_apply, pay5_apply]
  rfl
theorem pay7_apply (g : Vec Ideal S2x8192x36x128 .f32) (b : Fin 2) (s : Fin 8192) (k : Fin 4608) :
    k0_pay7 g (ix3 b s k) = rowCode (fun l => g (ix4 b s (⟨k.val / 128, by omega⟩ : Fin 36) l)) (f128 k.val) := by
  unfold k0_pay7
  pointwise
  exact pay6_apply g b s _ _
theorem pay8_apply (g : Vec Ideal S2x8192x36x128 .f32) (h : Fin 36) (b : Fin 2) (s : Fin 8192) :
    k0_pay8 g (ix3 h b s) = rowScale fun l => g (ix4 b s h l) := by
  unfold k0_pay8
  pointwise
  exact pay5_apply g b s h

end Cert.ReferenceIdeal.Hand

end
-- ==== Proof.RI.Dot.lean ====
/- The reference's product read at one index, over the extended reals. -/
module

public import proofs.«01_k».proof.Proof.PI.Arrays
public import proofs.«01_k».proof.Proof.Gen.ReferenceIdeal.Value
public import Idealize.ShloMosaic.Lib.Pointwise

@[expose] public section

set_option maxRecDepth 16384

noncomputable section

namespace Cert.ReferenceIdeal.Hand

open Cert.ReferenceIdeal Cert.ReferenceIdeal.Gen Cert.Quant
open Cert.KernelIdeal.Hand (rowAmp rowScale rowCode f128 wVal)
open Idealize.ShloMosaic Idealize.ShloMosaic.TcCoe

/-! ## The product and the residual -/

/-- A dequantised operand row by row: the gradient. -/
theorem lhs_apply (cd : FVec Ideal S2x8192x36x128 .fp8e5m2) (sc : FVec Ideal S2x8192x36 .f32) (R : Fin 16384) (k : Fin 4608) :
    shapeCast S16384x4608 (mulf (extf .bf16 cd bitsLt_fp8e5m2_bf16) (broadcastTo S2x8192x36x128 (shapeCast S2x8192x36x1 (truncf .bf16 sc bitsLt_bf16_f32) shapeCasts_S2x8192x36_S2x8192x36x1) broadcasts_S2x8192x36x1_S2x8192x36x128)) shapeCasts_S2x8192x36x128_S16384x4608 (ix2 R k)
      = cd (ix4 (⟨R.val / 8192, by omega⟩ : Fin 2) (⟨R.val % 8192, by omega⟩ : Fin 8192) (⟨k.val / 128, by omega⟩ : Fin 36) (f128 k.val)) * sc (ix3 (⟨R.val / 8192, by omega⟩ : Fin 2) (⟨R.val % 8192, by omega⟩ : Fin 8192) (⟨k.val / 128, by omega⟩ : Fin 36)) := by
  pointwise
/-- A dequantised operand row by row: the weight. -/
theorem rhs_apply (X : FVec Ideal S3584x4608 .fp8e4m3) (x6 : FVec Ideal S28x36 .f32) (n : Fin 3584) (k : Fin 4608) :
    shapeCast S3584x4608 (mulf (shapeCast S28x128x36x128 (extf .bf16 X bitsLt_fp8e4m3_bf16) shapeCasts_S3584x4608_S28x128x36x128) (broadcastTo S28x128x36x128 (shapeCast S28x1x36x1 (truncf .bf16 x6 bitsLt_bf16_f32) shapeCasts_S28x36_S28x1x36x1) broadcasts_S28x1x36x1_S28x128x36x128)) shapeCasts_S28x128x36x128_S3584x4608 (ix2 n k)
      = wVal X x6 (ix2 k n) := by
  unfold wVal
  pointwise

/-- The product of the operands, an element of it. -/
theorem dot_apply (A : FVec Ideal S16384x4608 .bf16) (B : FVec Ideal S3584x4608 .bf16) (R : Fin 16384) (n : Fin 3584) :
    matmul dot_S16384x4608_S3584x4608_S16384x3584_1_1_0_0_n_n none A B (constant S16384x3584 .f32 0x00000000#32) (ix2 R n) = ∑ k : Fin 4608, A (ix2 R k) * B (ix2 n k) := by
  pointwise

/-- The product of the dequantised operands plus the residual. -/
theorem pay9_apply (sc : FVec Ideal S2x8192x36 .f32) (cd : FVec Ideal S2x8192x36x128 .fp8e5m2) (X : Vec Ideal S3584x4608 .fp8e4m3) (x6 : Vec Ideal S28x36 .f32) (x3 : Vec Ideal S2x8192x3584 .bf16) (b : Fin 2) (s : Fin 8192) (n : Fin 3584) :
    k0_pay9 sc cd X x6 x3 (ix3 b s n)
      = (∑ k : Fin 4608, (cd (ix4 b s (⟨k.val / 128, by omega⟩ : Fin 36) (f128 k.val)) * sc (ix3 b s (⟨k.val / 128, by omega⟩ : Fin 36))) * wVal X x6 (ix2 k n)) + x3 (ix3 b s n) := by
  unfold k0_pay9
  refine congrArg (fun q : EReal => q + x3 (ix3 b s n)) ?_
  refine (shapeCast_apply _ _ (ix3 b s n) (ix2 (⟨8192 * b.val + s.val, by omega⟩ : Fin 16384) n) ?_).trans ?_
  · rw [Shape.rowMajor_val_two, Shape.rowMajor_val_three]
    show (8192 * b.val + s.val) * 3584 + n.val = (b.val * 8192 + s.val) * 3584 + n.val
    omega
  refine (dot_apply _ _ _ _).trans (Finset.sum_congr rfl fun k _ => ?_)
  refine congrArg₂ (fun x y : EReal => x * y) ((lhs_apply cd sc _ k).trans ?_) (rhs_apply X x6 n k)
  have e0 : (⟨(8192 * b.val + s.val) / 8192, by omega⟩ : Fin 2) = b := Fin.ext (by show (8192 * b.val + s.val) / 8192 = b.val; omega)
  have e1 : (⟨(8192 * b.val + s.val) % 8192, by omega⟩ : Fin 8192) = s := Fin.ext (by show (8192 * b.val + s.val) % 8192 = s.val; omega)
  rw [e0, e1]

end Cert.ReferenceIdeal.Hand

end
-- ==== Proof.RI.Vec28.lean ====
/- The quantisation of the reference's result read at one index, over the extended reals. -/
module

public import proofs.«01_k».proof.Proof.RI.Vec
public import proofs.«01_k».proof.Proof.Gen.ReferenceIdeal.Value
public import Idealize.ShloMosaic.Lib.Pointwise

@[expose] public section

set_option maxRecDepth 16384

noncomputable section

namespace Cert.ReferenceIdeal.Hand

open Cert.ReferenceIdeal Cert.ReferenceIdeal.Gen Cert.Quant
open Cert.KernelIdeal.Hand (rowAmp rowScale rowCode f128 wVal)
open Idealize.ShloMosaic Idealize.ShloMosaic.TcCoe

/-! ## The result's quantisation -/

/-- The greatest element of a row. -/
theorem top28_apply (g : FVec Ideal S2x8192x28x128 .f32) (b : Fin 2) (s : Fin 8192) (h : Fin 28) :
    multiReduction .maximumf [3] S2x8192x28 g 0xFF800000#32 reduces_S2x8192x28x128_S2x8192x28 (.inl rfl) rfl (ix3 b s h)
      = Finset.fold max (Ideal.ofBits .f32 4286578688#32) (fun k : Fin 128 => g (ix4 b s h k)) Finset.univ := by
  pointwise

/-- A product by one number. -/
theorem times28_apply (x : FVec Ideal S2x8192x28 .f32) (i : S2x8192x28.Idx) :
    mulf x (broadcast S2x8192x28 (Scalar.ofBits .f32 0x37924925#32 : Ideal .f32)) i = x i * Ideal.ofBits .f32 932333861#32 := by
  pointwise
/-- The greatest magnitude of a row over 57344. -/
theorem amp28_apply (g : FVec Ideal S2x8192x28x128 .f32) (b : Fin 2) (s : Fin 8192) (h : Fin 28) :
    mulf (multiReduction .maximumf [3] S2x8192x28 (absf g) 0xFF800000#32 reduces_S2x8192x28x128_S2x8192x28 (.inl rfl) rfl) (broadcast S2x8192x28 (Scalar.ofBits .f32 0x37924925#32 : Ideal .f32)) (ix3 b s h)
      = rowAmp fun l => g (ix4 b s h l) := by
  rw [times28_apply, top28_apply]
  rfl

/-- One for a row whose amplitude is below the least normal number. -/
theorem small28_apply (x y : FVec Ideal S2x8192x28 .f32) (i : S2x8192x28.Idx) :
    select (cmpf .olt x (broadcast S2x8192x28 (Scalar.ofBits .f32 0x00800000#32 : Ideal .f32))) (broadcast S2x8192x28 (Scalar.ofBits .f32 0x3F800000#32 : Ideal .f32)) y i
      = if x i < Ideal.ofBits .f32 8388608#32 then Ideal.ofBits .f32 1065353216#32 else y i := by
  pointwise

/-- The least power of two above `x`. -/
theorem least28_apply (x : FVec Ideal S2x8192x28 .f32) (p : FVec Ideal S1x1x1x252 .f32) (b : Fin 2) (s : Fin 8192) (h : Fin 28) :
    multiReduction .minimumf [3] S2x8192x28
      (select (cmpf .ogt (broadcastTo S2x8192x28x252 p broadcasts_S1x1x1x252_S2x8192x28x252) (broadcastTo S2x8192x28x252 (shapeCast S2x8192x28x1 x shapeCasts_S2x8192x28_S2x8192x28x1) broadcasts_S2x8192x28x1_S2x8192x28x252))
        (broadcastTo S2x8192x28x252 p broadcasts_S1x1x1x252_S2x8192x28x252) (broadcast S2x8192x28x252 (Scalar.ofBits .f32 0x7E800000#32 : Ideal .f32)))
      0x7F800000#32 reduces_S2x8192x28x252_S2x8192x28 (.inl rfl) rfl (ix3 b s h)
      = Finset.fold min (Ideal.ofBits .f32 2139095040#32) (fun l : Fin 252 => if x (ix3 b s h) < p (ix4 0 0 0 l) then p (ix4 0 0 0 l) else Ideal.ofBits .f32 2122317824#32) Finset.univ := by
  pointwise

/-- One over a row's scale, at every lane of the row. -/
theorem inv28_apply (y : FVec Ideal S2x8192x28 .f32) (b : Fin 2) (s : Fin 8192) (h : Fin 28) (l : Fin 128) :
    broadcastTo S2x8192x28x128 (shapeCast S2x8192x28x1 (divf (broadcast S2x8192x28 (Scalar.ofBits .f32 0x3F800000#32 : Ideal .f32)) y) shapeCasts_S2x8192x28_S2x8192x28x1) broadcasts_S2x8192x28x1_S2x8192x28x128 (ix4 b s h l)
      = Ideal.div (Ideal.ofBits .f32 1065353216#32) (y (ix3 b s h)) := by
  pointwise
/-- The clipped product. -/
theorem clip28_apply (g z : FVec Ideal S2x8192x28x128 .f32) (i : S2x8192x28x128.Idx) :
    truncf .fp8e5m2 (minimumf (broadcast S2x8192x28x128 (Scalar.ofBits .f32 0x47600000#32)) (maximumf (broadcast S2x8192x28x128 (Scalar.ofBits .f32 0xC7600000#32)) (mulf g z))) bitsLt_fp8e5m2_f32 i
      = min (Ideal.ofBits .f32 1197473792#32) (max (Ideal.ofBits .f32 3344957440#32) (g i * z i)) := by
  pointwise

section
variable (sc : FVec Ideal S2x8192x36 .f32) (cd : FVec Ideal S2x8192x36x128 .fp8e5m2) (X : Vec Ideal S3584x4608 .fp8e4m3) (x6 : Vec Ideal S28x36 .f32) (x3 : Vec Ideal S2x8192x3584 .bf16)

theorem pay11_apply (b : Fin 2) (s : Fin 8192) (n : Fin 28) (l : Fin 128) :
    k0_pay11 sc cd X x6 x3 (ix4 b s n l) = k0_pay9 sc cd X x6 x3 (ix3 b s (⟨128 * n.val + l.val, by omega⟩ : Fin 3584)) := by
  unfold k0_pay11
  refine shapeCast_apply _ _ (ix4 b s n l) (ix3 b s (⟨128 * n.val + l.val, by omega⟩ : Fin 3584)) ?_
  rw [Shape.rowMajor_val_four, Shape.rowMajor_val_three]
  show (b.val * 8192 + s.val) * 3584 + (128 * n.val + l.val) = ((b.val * 8192 + s.val) * 28 + n.val) * 128 + l.val
  omega
/-- The scales of the rows of the result. -/
theorem pay1_apply (b : Fin 2) (s : Fin 8192) (n : Fin 28) :
    k0_pay1 (k0_pay12 sc cd X x6 x3) (k0_pay13 sc cd X x6 x3) k0_pay14 (ix3 b s n) = rowScale fun l => k0_pay11 sc cd X x6 x3 (ix4 b s n l) := by
  unfold k0_pay1 k0_pay13 k0_pay14
  refine (small28_apply _ _ _).trans ?_
  unfold rowScale rScale
  have e : k0_pay12 sc cd X x6 x3 (ix3 b s n) = rowAmp fun l => k0_pay11 sc cd X x6 x3 (ix4 b s n l) := by
    unfold k0_pay12
    exact amp28_apply _ b s n
  rw [shapeCast_self, least28_apply, e]
  exact congrArg (fun f => if (rowAmp fun l => k0_pay11 sc cd X x6 x3 (ix4 b s n l)) < Ideal.ofBits .f32 8388608#32 then Ideal.ofBits .f32 1065353216#32 else Finset.fold min (Ideal.ofBits .f32 2139095040#32) f Finset.univ)
    (funext fun x => congrArg (fun q : EReal => if (rowAmp fun l => k0_pay11 sc cd X x6 x3 (ix4 b s n l)) < q then q else Ideal.ofBits .f32 2122317824#32) (table_apply x))
/-- Their codes. -/
theorem pay2_apply (b : Fin 2) (s : Fin 8192) (k : Fin 3584) :
    k0_pay2 (k0_pay11 sc cd X x6 x3) (k0_pay12 sc cd X x6 x3) (k0_pay13 sc cd X x6 x3) k0_pay14 (ix3 b s k)
      = rowCode (fun l => k0_pay11 sc cd X x6 x3 (ix4 b s (⟨k.val / 128, by omega⟩ : Fin 28) l)) (f128 k.val) := by
  unfold k0_pay2
  refine (shapeCast_apply _ _ (ix3 b s k) (ix4 b s (⟨k.val / 128, by omega⟩ : Fin 28) (f128 k.val)) ?_).trans ?_
  · rw [Shape.rowMajor_val_four, Shape.rowMajor_val_three]
    show ((b.val * 8192 + s.val) * 28 + k.val / 128) * 128 + k.val % 128 = (b.val * 8192 + s.val) * 3584 + k.val
    omega
  refine (clip28_apply _ _ _).trans ?_
  rw [inv28_apply, pay1_apply]
  rfl
theorem pay3_apply (n : Fin 28) (b : Fin 2) (s : Fin 8192) :
    k0_pay3 (k0_pay12 sc cd X x6 x3) (k0_pay13 sc cd X x6 x3) k0_pay14 (ix3 n b s) = rowScale fun l => k0_pay11 sc cd X x6 x3 (ix4 b s n l) := by
  unfold k0_pay3
  refine Eq.trans ?_ (pay1_apply sc cd X x6 x3 b s n)
  exact congrArg (k0_pay1 (k0_pay12 sc cd X x6 x3) (k0_pay13 sc cd X x6 x3) k0_pay14) (funext fun a => by fin_cases a <;> rfl)

end

end Cert.ReferenceIdeal.Hand

end
-- ==== Proof.RI.Out.lean ====
/- The five outputs of the reference's one block: rows, codes and scales of the gradient and of the update. -/
module

public import proofs.«01_k».proof.Proof.RI.Vec
public import proofs.«01_k».proof.Proof.RI.Dot
public import proofs.«01_k».proof.Proof.RI.Vec28
public import Idealize.ShloMosaic.Lib.Pipeline.Value

@[expose] public section

set_option maxRecDepth 16384

noncomputable section

namespace Cert.ReferenceIdeal.Hand

open Cert.ReferenceIdeal Cert.ReferenceIdeal.Gen Cert.Quant
open Cert.KernelIdeal.Hand (rowAmp rowScale rowCode f128 wVal)
open Idealize.ShloMosaic Idealize.ShloMosaic.TcCoe

open Cert.KernelIdeal.Hand (gFull yFull rowsA codesA scalesA)

/-! ## The block's five outputs as families of rows -/

/-- Row `s` of head `h` and batch `b` of the block's input. -/
def gOf (G : Vec Ideal S2x8192x36x128 .f32) (b : Fin 2) (s : Fin 8192) (h : ℕ) : Fin 128 → EReal :=
  fun l => G (ix4 b s ⟨h % 36, Nat.mod_lt _ (by decide)⟩ l)

theorem gOf_lt (G : Vec Ideal S2x8192x36x128 .f32) (b : Fin 2) (s : Fin 8192) (h : ℕ) (hh : h < 36) :
    gOf G b s h = fun l => G (ix4 b s ⟨h, hh⟩ l) := by
  unfold gOf
  rw [show (⟨h % 36, Nat.mod_lt _ (by decide)⟩ : Fin 36) = ⟨h, hh⟩ from Fin.ext (Nat.mod_eq_of_lt hh)]

variable (G : Vec Ideal S2x8192x36x128 .f32) (X : Vec Ideal S2x8192x3584 .bf16) (W : Vec Ideal S3584x4608 .fp8e4m3) (S : Vec Ideal S28x36 .f32)

theorem zero2 : (![0, 0] : Fin 2 → ℕ) = fun _ => 0 := by funext a; fin_cases a <;> rfl
theorem zero3 : (![0, 0, 0] : Fin 3 → ℕ) = fun _ => 0 := by funext a; fin_cases a <;> rfl
theorem zero4 : (![0, 0, 0, 0] : Fin 4 → ℕ) = fun _ => 0 := by funext a; fin_cases a <;> rfl

theorem ld_G : View.ld G r0_0 = G := View.ld_unit_zero zero4 _ G
theorem ld_X : View.ld X r0_5 = X := View.ld_unit_zero zero3 _ X
theorem ld_W : View.ld W r0_3 = W := View.ld_unit_zero zero2 _ W
theorem ld_S : View.ld S r0_4 = S := View.ld_unit_zero zero2 _ S

/-- The update by rows: column `128 n + l` of the product with the weights, and the tensor added to it. -/
theorem update_apply (b : Fin 2) (s : Fin 8192) (n : ℕ) (l : Fin 128) (k : Fin 3584) (hk : k.val = 128 * (n % 28) + l.val) :
    k0_pay9 (k0_pay5 G) (k0_pay6 G) W S X (ix3 b s k) = yFull (gOf G) X W S b s n l := by
  rw [pay9_apply]
  have hb : 128 * (n % 28) + l.val < 3584 := by have := l.isLt; omega
  obtain rfl : k = ⟨128 * (n % 28) + l.val, hb⟩ := Fin.ext hk
  unfold yFull
  refine congrArg (fun z => z + X (ix3 b s _)) (Finset.sum_congr rfl fun q _ => ?_)
  have hq : q.val / 128 < 36 := by have := q.isLt; omega
  rw [pay6_apply, pay5_apply, gOf_lt G b s _ hq]

/-- The update laid out by groups of 128 columns. -/
theorem group_row (b : Fin 2) (s : Fin 8192) (n : Fin 28) :
    (fun l => k0_pay11 (k0_pay5 G) (k0_pay6 G) W S X (ix4 b s n l)) = yFull (gOf G) X W S b s n.val := by
  funext l
  rw [pay11_apply]
  exact update_apply G X W S b s n.val l _ (by show 128 * n.val + l.val = 128 * (n.val % 28) + l.val; rw [Nat.mod_eq_of_lt n.isLt])

theorem out4_eq : out0_4 G X W S = rowsA (n := 3584) (yFull (gOf G) X W S) := by
  unfold out0_4 k0_pay15 k0_pay16
  rw [ld_G, ld_X, ld_W, ld_S]
  refine (View.canon_unit_zero zero3 _ _).trans ?_
  funext z
  refine (congrArg (k0_pay9 (k0_pay5 G) (k0_pay6 G) W S X) (Cert.KernelIdeal.Hand.idx_ext3 z (z 0) (z 1) (z 2) rfl rfl rfl)).trans ?_
  refine update_apply G X W S (z 0) (z 1) ((z 2).val / 128) (f128 (z 2).val) (z 2) ?_
  have h2 : (z 2).val < 3584 := (z 2).isLt
  show (z 2).val = 128 * ((z 2).val / 128 % 28) + (z 2).val % 128
  omega

theorem out5_eq : out0_5 G X W S = codesA (n := 4608) (gOf G) := by
  unfold out0_5
  rw [ld_G]
  refine (View.canon_unit_zero zero3 _ _).trans ?_
  funext z
  have h2 : (z 2).val / 128 < 36 := by have : (z 2).val < 4608 := (z 2).isLt; omega
  refine (congrArg (k0_pay7 G) (Cert.KernelIdeal.Hand.idx_ext3 z (z 0) (z 1) (z 2) rfl rfl rfl)).trans ?_
  refine (pay7_apply G (z 0) (z 1) (z 2)).trans ?_
  exact congrArg (fun v => rowCode v (f128 (z 2).val)) (gOf_lt G (z 0) (z 1) _ h2).symm

theorem out6_eq : out0_6 G X W S = scalesA (n := 36) (gOf G) := by
  unfold out0_6
  rw [ld_G]
  refine (View.canon_unit_zero zero3 _ _).trans ?_
  funext z
  refine (congrArg (k0_pay8 G) (Cert.KernelIdeal.Hand.idx_ext3 z (z 0) (z 1) (z 2) rfl rfl rfl)).trans ?_
  refine (pay8_apply G (z 0) (z 1) (z 2)).trans ?_
  exact congrArg rowScale (gOf_lt G (z 1) (z 2) (z 0).val (z 0).isLt).symm

theorem out7_eq : out0_7 G X W S = codesA (n := 3584) (yFull (gOf G) X W S) := by
  unfold out0_7 k0_pay17 k0_pay18 k0_pay19 k0_pay15 k0_pay16
  rw [ld_G, ld_X, ld_W, ld_S]
  refine (View.canon_unit_zero zero3 _ _).trans ?_
  funext z
  refine (congrArg _ (Cert.KernelIdeal.Hand.idx_ext3 z (z 0) (z 1) (z 2) rfl rfl rfl)).trans ?_
  refine (pay2_apply (k0_pay5 G) (k0_pay6 G) W S X (z 0) (z 1) (z 2)).trans ?_
  exact congrArg (fun v => rowCode v (f128 (z 2).val)) (group_row G X W S (z 0) (z 1) _)

theorem out8_eq : out0_8 G X W S = scalesA (n := 28) (yFull (gOf G) X W S) := by
  unfold out0_8 k0_pay17 k0_pay18 k0_pay19 k0_pay15 k0_pay16
  rw [ld_G, ld_X, ld_W, ld_S]
  refine (View.canon_unit_zero zero3 _ _).trans ?_
  funext z
  refine (congrArg _ (Cert.KernelIdeal.Hand.idx_ext3 z (z 0) (z 1) (z 2) rfl rfl rfl)).trans ?_
  refine (pay3_apply (k0_pay5 G) (k0_pay6 G) W S X (z 0) (z 1) (z 2)).trans ?_
  exact congrArg rowScale (group_row G X W S (z 1) (z 2) (z 0))

end Cert.ReferenceIdeal.Hand

end
-- ==== Proof.RI.Input.lean ====
/- The array that the reference quantises: the rotated query and key gradients and the value gradient side by side, read on the arguments. -/
module

public import proofs.«01_k».proof.Proof.PI.Arrays
public import proofs.«01_k».proof.Proof.Gen.ReferenceIdeal.Value
public import Idealize.ShloMosaic.Lib.Claim
public import Idealize.ShloMosaic.Lib.StableHlo.ReadAt
public import Idealize.ShloMosaic.Lib.Pointwise

@[expose] public section

set_option maxRecDepth 16384

noncomputable section

namespace Cert.ReferenceIdeal.Hand

open Cert.ReferenceIdeal Cert.ReferenceIdeal.Gen Cert.Quant
open Cert.KernelIdeal.Hand (rowAmp rowScale rowCode f128 wVal)
open Idealize.ShloMosaic Idealize.ShloMosaic.TcCoe

/-! ## The rotation -/

open Cert.KernelIdeal.Hand (rope angle invF gFull)

/-- The reciprocal frequency of lane `j` of a half. -/
def invAt (j : ℕ) : EReal :=
  Ideal.div 1 (Ideal.pow (Ideal.ofBits .f32 1176256512#32)
    (Ideal.div (Ideal.ofBits .f32 1073741824#32 * FloatOps.sitofp (F := Ideal) .f32 (BitVec.ofNat 32 j)) (Ideal.ofBits .f32 1124073472#32)))

/-- The rotation by halves: the first half adds the partner's sine term, the second half subtracts it. -/
theorem rope_halves (v : Fin 128 → EReal) (p : BitVec 32) (l : Fin 128) :
    (if h : l.val < 64 then
        v l * Ideal.cos (FloatOps.sitofp (F := Ideal) .f32 p * invAt l.val)
          + v ⟨64 + l.val, by omega⟩ * Ideal.sin (FloatOps.sitofp (F := Ideal) .f32 p * invAt l.val)
      else
        v ⟨64 + (l.val - 64), by omega⟩ * Ideal.cos (FloatOps.sitofp (F := Ideal) .f32 p * invAt (l.val - 64))
          - v ⟨l.val - 64, by omega⟩ * Ideal.sin (FloatOps.sitofp (F := Ideal) .f32 p * invAt (l.val - 64)))
      = rope v p (fun l => invF l.val) l := by
  have hl := l.isLt
  unfold rope angle
  beta_reduce
  by_cases h : l.val < 64
  · rw [dif_pos h, if_pos h]
    have e1 : invF l.val = invAt l.val := by
      unfold invF invAt; rw [Nat.mod_eq_of_lt h]
    have e2 : (⟨(l.val + 64) % 128, by omega⟩ : Fin 128) = ⟨64 + l.val, by omega⟩ := Fin.ext (by show (l.val + 64) % 128 = 64 + l.val; omega)
    rw [e1, e2]
  · rw [dif_neg h, if_neg h]
    have e1 : invF l.val = invAt (l.val - 64) := by
      unfold invF invAt; rw [show l.val % 64 = l.val - 64 by omega]
    have e2 : (⟨(l.val + 64) % 128, by omega⟩ : Fin 128) = ⟨l.val - 64, by omega⟩ := Fin.ext (by show (l.val + 64) % 128 = l.val - 64; omega)
    have e3 : (⟨64 + (l.val - 64), by omega⟩ : Fin 128) = l := Fin.ext (by show 64 + (l.val - 64) = l.val; omega)
    rw [e1, e2, e3, sub_eq_add_neg, zero_sub, mul_neg]

/-! ## The host's arrays at an index -/

variable (m : (ℓ : Loc nD τ sig) → Buf (Elt Ideal) ℓ)

/-- The query gradient: one element of its rotated rows, on the arguments. -/
theorem v34_apply (c : Dev nD) (b : Fin 2) (s : Fin 8192) (h : Fin 28) (l : Fin 128) :
    (StableHlo.upto hostOps0 (fun b => m (c, b)) 55 (Proc.devRef .tc main_v34) : Vec Ideal S2x8192x28x128 .f32) (ix4 b s h l)
      = rope (fun l => m ((c : Thread nD τ).loc main_arg0) (ix4 b s h l)) (m ((c : Thread nD τ).loc main_arg4) (ix2 b s)) (fun l => invF l.val) l := by
  refine Eq.trans ?_ (rope_halves _ _ l)
  after_reads_at
  rfl

/-- The key gradient: one element of its rotated rows, on the arguments. -/
theorem v48_apply (c : Dev nD) (b : Fin 2) (s : Fin 8192) (h : Fin 4) (l : Fin 128) :
    (StableHlo.upto hostOps0 (fun b => m (c, b)) 55 (Proc.devRef .tc main_v48) : Vec Ideal S2x8192x4x128 .f32) (ix4 b s h l)
      = rope (fun l => m ((c : Thread nD τ).loc main_arg1) (ix4 b s h l)) (m ((c : Thread nD τ).loc main_arg4) (ix2 b s)) (fun l => invF l.val) l := by
  refine Eq.trans ?_ (rope_halves _ _ l)
  after_reads_at
  rfl

/-- The value gradient is widened and not rotated. -/
theorem v49_apply (c : Dev nD) (b : Fin 2) (s : Fin 8192) (h : Fin 4) (l : Fin 128) :
    (StableHlo.upto hostOps0 (fun b => m (c, b)) 55 (Proc.devRef .tc main_v49) : Vec Ideal S2x8192x4x128 .f32) (ix4 b s h l)
      = m ((c : Thread nD τ).loc main_arg2) (ix4 b s h l) := by
  after_reads_at

/-! ## The heads side by side -/

/-- The three gradients side by side along the heads, read at an index. -/
theorem heads_apply (x0 : Vec Ideal S2x8192x28x128 .f32) (x1 x2 : Vec Ideal S2x8192x4x128 .f32) (b : Fin 2) (s : Fin 8192) (h : Fin 36) (l : Fin 128) :
    (concatenate S2x8192x36x128 2 [⟨S2x8192x28x128, x0⟩, ⟨S2x8192x4x128, x1⟩, ⟨S2x8192x4x128, x2⟩]
        concatenates_S2x8192x28x128_S2x8192x4x128_S2x8192x4x128_S2x8192x36x128_d2 : Vec Ideal S2x8192x36x128 .f32) (ix4 b s h l)
      = if h1 : h.val < 28 then x0 (ix4 b s ⟨h.val, h1⟩ l)
        else if h2 : h.val - 28 < 4 then x1 (ix4 b s ⟨h.val - 28, h2⟩ l)
        else x2 (ix4 b s ⟨h.val - 28 - 4, by omega⟩ l) := by
  pointwise

/-- The array that the reference's one block quantises, on the arguments. -/
theorem V50_apply (c : Dev nD) (b : Fin 2) (s : Fin 8192) (h : Fin 36) (l : Fin 128) :
    V m c main_v50 (ix4 b s h l)
      = gFull (m ((c : Thread nD τ).loc main_arg0)) (m ((c : Thread nD τ).loc main_arg1)) (m ((c : Thread nD τ).loc main_arg2))
          (m ((c : Thread nD τ).loc main_arg4)) b s h.val l := by
  have hh := h.isLt
  unfold V
  after_reads_simp
  refine (heads_apply (StableHlo.upto hostOps0 (fun b => m (c, b)) 55 (Proc.devRef .tc main_v34))
    (StableHlo.upto hostOps0 (fun b => m (c, b)) 55 (Proc.devRef .tc main_v48))
    (StableHlo.upto hostOps0 (fun b => m (c, b)) 55 (Proc.devRef .tc main_v49)) b s h l).trans ?_
  unfold gFull
  by_cases h1 : h.val < 28
  · rw [dif_pos h1, if_pos h1, v34_apply]
    rw [show (⟨h.val, h1⟩ : Fin 28) = ⟨h.val % 28, Nat.mod_lt _ (by decide)⟩ from Fin.ext (Nat.mod_eq_of_lt h1).symm]
  · rw [dif_neg h1, if_neg h1]
    by_cases h2 : h.val < 32
    · rw [dif_pos (show h.val - 28 < 4 by omega), if_pos h2, v48_apply]
      rw [show (⟨h.val - 28, by omega⟩ : Fin 4) = ⟨(h.val - 28) % 4, Nat.mod_lt _ (by decide)⟩ from Fin.ext (by show h.val - 28 = (h.val - 28) % 4; omega)]
    · rw [dif_neg (show ¬ h.val - 28 < 4 by omega), if_neg h2, v49_apply]
      rw [show (⟨h.val - 28 - 4, by omega⟩ : Fin 4) = ⟨(h.val - 32) % 4, Nat.mod_lt _ (by decide)⟩ from Fin.ext (by show h.val - 28 - 4 = (h.val - 32) % 4; omega)]

end Cert.ReferenceIdeal.Hand

end
-- ==== Proof.RI.Arrays.lean ====
/- The five result arrays of the reference, in closed form on the arguments. -/
module

public import proofs.«01_k».proof.Proof.RI.Out
public import proofs.«01_k».proof.Proof.RI.Input
public import Idealize.ShloMosaic.Lib.Pipeline.Value

@[expose] public section

set_option maxRecDepth 16384

noncomputable section

namespace Cert.ReferenceIdeal.Hand

open Cert.ReferenceIdeal Cert.ReferenceIdeal.Gen Cert.Quant
open Cert.KernelIdeal.Hand (rowAmp rowScale rowCode f128 wVal)
open Idealize.ShloMosaic Idealize.ShloMosaic.TcCoe

open Cert.KernelIdeal.Hand (gFull yFull rowsA codesA scalesA)

variable (m : (ℓ : Loc nD τ sig) → Buf (Elt Ideal) ℓ) (c : Dev nD)

/-! ## The one block of each window is its whole array -/

theorem idx0 : ∀ t : Fin cfg0.N, win0_0.index t (0 : Fin 4) = 0 ∧ win0_0.index t (1 : Fin 4) = 0 ∧ win0_0.index t (2 : Fin 4) = 0 ∧ win0_0.index t (3 : Fin 4) = 0 := by decide +kernel
theorem idx2 : ∀ t : Fin cfg0.N, win0_2.index t (0 : Fin 2) = 0 ∧ win0_2.index t (1 : Fin 2) = 0 := by decide +kernel
theorem idx3 : ∀ t : Fin cfg0.N, win0_3.index t (0 : Fin 2) = 0 ∧ win0_3.index t (1 : Fin 2) = 0 := by decide +kernel
theorem idx1 : ∀ t : Fin cfg0.N, win0_1.index t (0 : Fin 3) = 0 ∧ win0_1.index t (1 : Fin 3) = 0 ∧ win0_1.index t (2 : Fin 3) = 0 := by decide +kernel
theorem idx4 : ∀ t : Fin cfg0.N, win0_4.index t (0 : Fin 3) = 0 ∧ win0_4.index t (1 : Fin 3) = 0 ∧ win0_4.index t (2 : Fin 3) = 0 := by decide +kernel
theorem idx5 : ∀ t : Fin cfg0.N, win0_5.index t (0 : Fin 3) = 0 ∧ win0_5.index t (1 : Fin 3) = 0 ∧ win0_5.index t (2 : Fin 3) = 0 := by decide +kernel
theorem idx6 : ∀ t : Fin cfg0.N, win0_6.index t (0 : Fin 3) = 0 ∧ win0_6.index t (1 : Fin 3) = 0 ∧ win0_6.index t (2 : Fin 3) = 0 := by decide +kernel
theorem idx7 : ∀ t : Fin cfg0.N, win0_7.index t (0 : Fin 3) = 0 ∧ win0_7.index t (1 : Fin 3) = 0 ∧ win0_7.index t (2 : Fin 3) = 0 := by decide +kernel
theorem idx8 : ∀ t : Fin cfg0.N, win0_8.index t (0 : Fin 3) = 0 ∧ win0_8.index t (1 : Fin 3) = 0 ∧ win0_8.index t (2 : Fin 3) = 0 := by decide +kernel

theorem emb0 (t : Fin cfg0.N) (y : ((cfg0.win 0).xblock (cfg0.grid.coords t)).Idx) : ((cfg0.win 0).blk t).view.emb y = y := by
  obtain ⟨e0, e1, e2, e3⟩ := idx0 t
  funext k
  refine Fin.ext ?_
  fin_cases k
  · show win0_0.index t (0 : Fin 4) * 2 + 1 * (y 0).val = (y 0).val; omega
  · show win0_0.index t (1 : Fin 4) * 8192 + 1 * (y 1).val = (y 1).val; omega
  · show win0_0.index t (2 : Fin 4) * 36 + 1 * (y 2).val = (y 2).val; omega
  · show win0_0.index t (3 : Fin 4) * 128 + 1 * (y 3).val = (y 3).val; omega

theorem emb1 (t : Fin cfg0.N) (y : ((cfg0.win 1).xblock (cfg0.grid.coords t)).Idx) : ((cfg0.win 1).blk t).view.emb y = y := by
  obtain ⟨e0, e1, e2⟩ := idx1 t
  funext k
  refine Fin.ext ?_
  fin_cases k
  · show win0_1.index t (0 : Fin 3) * 2 + 1 * (y 0).val = (y 0).val; omega
  · show win0_1.index t (1 : Fin 3) * 8192 + 1 * (y 1).val = (y 1).val; omega
  · show win0_1.index t (2 : Fin 3) * 3584 + 1 * (y 2).val = (y 2).val; omega

theorem emb2 (t : Fin cfg0.N) (y : ((cfg0.win 2).xblock (cfg0.grid.coords t)).Idx) : ((cfg0.win 2).blk t).view.emb y = y := by
  obtain ⟨e0, e1⟩ := idx2 t
  funext k
  refine Fin.ext ?_
  fin_cases k
  · show win0_2.index t (0 : Fin 2) * 3584 + 1 * (y 0).val = (y 0).val; omega
  · show win0_2.index t (1 : Fin 2) * 4608 + 1 * (y 1).val = (y 1).val; omega

theorem emb3 (t : Fin cfg0.N) (y : ((cfg0.win 3).xblock (cfg0.grid.coords t)).Idx) : ((cfg0.win 3).blk t).view.emb y = y := by
  obtain ⟨e0, e1⟩ := idx3 t
  funext k
  refine Fin.ext ?_
  fin_cases k
  · show win0_3.index t (0 : Fin 2) * 28 + 1 * (y 0).val = (y 0).val; omega
  · show win0_3.index t (1 : Fin 2) * 36 + 1 * (y 1).val = (y 1).val; omega

theorem emb4 (t : Fin cfg0.N) (y : ((cfg0.win 4).xblock (cfg0.grid.coords t)).Idx) : ((cfg0.win 4).blk t).view.emb y = y := by
  obtain ⟨e0, e1, e2⟩ := idx4 t
  funext k
  refine Fin.ext ?_
  fin_cases k
  · show win0_4.index t (0 : Fin 3) * 2 + 1 * (y 0).val = (y 0).val; omega
  · show win0_4.index t (1 : Fin 3) * 8192 + 1 * (y 1).val = (y 1).val; omega
  · show win0_4.index t (2 : Fin 3) * 3584 + 1 * (y 2).val = (y 2).val; omega

theorem emb5 (t : Fin cfg0.N) (y : ((cfg0.win 5).xblock (cfg0.grid.coords t)).Idx) : ((cfg0.win 5).blk t).view.emb y = y := by
  obtain ⟨e0, e1, e2⟩ := idx5 t
  funext k
  refine Fin.ext ?_
  fin_cases k
  · show win0_5.index t (0 : Fin 3) * 2 + 1 * (y 0).val = (y 0).val; omega
  · show win0_5.index t (1 : Fin 3) * 8192 + 1 * (y 1).val = (y 1).val; omega
  · show win0_5.index t (2 : Fin 3) * 4608 + 1 * (y 2).val = (y 2).val; omega

theorem emb6 (t : Fin cfg0.N) (y : ((cfg0.win 6).xblock (cfg0.grid.coords t)).Idx) : ((cfg0.win 6).blk t).view.emb y = y := by
  obtain ⟨e0, e1, e2⟩ := idx6 t
  funext k
  refine Fin.ext ?_
  fin_cases k
  · show win0_6.index t (0 : Fin 3) * 36 + 1 * (y 0).val = (y 0).val; omega
  · show win0_6.index t (1 : Fin 3) * 2 + 1 * (y 1).val = (y 1).val; omega
  · show win0_6.index t (2 : Fin 3) * 8192 + 1 * (y 2).val = (y 2).val; omega

theorem emb7 (t : Fin cfg0.N) (y : ((cfg0.win 7).xblock (cfg0.grid.coords t)).Idx) : ((cfg0.win 7).blk t).view.emb y = y := by
  obtain ⟨e0, e1, e2⟩ := idx7 t
  funext k
  refine Fin.ext ?_
  fin_cases k
  · show win0_7.index t (0 : Fin 3) * 2 + 1 * (y 0).val = (y 0).val; omega
  · show win0_7.index t (1 : Fin 3) * 8192 + 1 * (y 1).val = (y 1).val; omega
  · show win0_7.index t (2 : Fin 3) * 3584 + 1 * (y 2).val = (y 2).val; omega

theorem emb8 (t : Fin cfg0.N) (y : ((cfg0.win 8).xblock (cfg0.grid.coords t)).Idx) : ((cfg0.win 8).blk t).view.emb y = y := by
  obtain ⟨e0, e1, e2⟩ := idx8 t
  funext k
  refine Fin.ext ?_
  fin_cases k
  · show win0_8.index t (0 : Fin 3) * 28 + 1 * (y 0).val = (y 0).val; omega
  · show win0_8.index t (1 : Fin 3) * 2 + 1 * (y 1).val = (y 1).val; omega
  · show win0_8.index t (2 : Fin 3) * 8192 + 1 * (y 2).val = (y 2).val; omega

/-! ## The four inputs of the block -/

theorem iblk0 (t : Fin cfg0.N) : (iblk m c 0 t : Vec Ideal S2x8192x36x128 .f32) = V m c main_v50 :=
  funext fun y => congrArg (V m c main_v50) (emb0 t y)

theorem iblk1 (t : Fin cfg0.N) : (iblk m c 1 t : Vec Ideal S2x8192x3584 .bf16) = m ((c : Thread nD τ).loc main_arg3) :=
  (funext fun y => congrArg (V m c main_arg3) (emb1 t y) : (iblk m c 1 t : Vec Ideal S2x8192x3584 .bf16) = V m c main_arg3).trans (V_main_arg3 m c)

theorem iblk2 (t : Fin cfg0.N) : (iblk m c 2 t : Vec Ideal S3584x4608 .fp8e4m3) = m ((c : Thread nD τ).loc main_arg5) :=
  (funext fun y => congrArg (V m c main_arg5) (emb2 t y) : (iblk m c 2 t : Vec Ideal S3584x4608 .fp8e4m3) = V m c main_arg5).trans (V_main_arg5 m c)

theorem iblk3 (t : Fin cfg0.N) : (iblk m c 3 t : Vec Ideal S28x36 .f32) = m ((c : Thread nD τ).loc main_arg6) :=
  (funext fun y => congrArg (V m c main_arg6) (emb3 t y) : (iblk m c 3 t : Vec Ideal S28x36 .f32) = V m c main_arg6).trans (V_main_arg6 m c)

/-! ## The rows of the gradient and of the update on the arguments -/

/-- The rows of the gradient, rotated, on the arguments. -/
abbrev gR := gFull (m ((c : Thread nD τ).loc main_arg0)) (m ((c : Thread nD τ).loc main_arg1)) (m ((c : Thread nD τ).loc main_arg2)) (m ((c : Thread nD τ).loc main_arg4))
/-- The rows of the update, on the arguments. -/
abbrev yR := yFull (gR m c) (m ((c : Thread nD τ).loc main_arg3)) (m ((c : Thread nD τ).loc main_arg5)) (m ((c : Thread nD τ).loc main_arg6))

theorem gOf_V (b : Fin 2) (s : Fin 8192) (h : ℕ) (hh : h < 36) : gOf (V m c main_v50) b s h = gR m c b s h := by
  rw [gOf_lt _ b s h hh]
  exact funext fun l => V50_apply m c b s ⟨h, hh⟩ l

theorem yFull_V : yFull (gOf (V m c main_v50)) (m ((c : Thread nD τ).loc main_arg3)) (m ((c : Thread nD τ).loc main_arg5)) (m ((c : Thread nD τ).loc main_arg6)) = yR m c := by
  funext b s n l
  unfold yR yFull
  refine congrArg (fun z => z + _) (Finset.sum_congr rfl fun q _ => ?_)
  have hq : q.val / 128 < 36 := by have := q.isLt; omega
  rw [gOf_V m c b s _ hq]

theorem codes_V : codesA (n := 4608) (gOf (V m c main_v50)) = codesA (n := 4608) (gR m c) := by
  funext z
  have h2 : (z 2).val / 128 < 36 := by have : (z 2).val < 4608 := (z 2).isLt; omega
  exact congrArg (fun v => rowCode v (f128 (z 2).val)) (gOf_V m c (z 0) (z 1) _ h2)

theorem scales_V : scalesA (n := 36) (gOf (V m c main_v50)) = scalesA (n := 36) (gR m c) := by
  funext z
  exact congrArg rowScale (gOf_V m c (z 1) (z 2) _ (z 0).isLt)

/-! ## The five result arrays -/

theorem dx_block (t : Fin cfg0.N) : out0_4 (iblk m c 0 t) (iblk m c 1 t) (iblk m c 2 t) (iblk m c 3 t) = rowsA (n := 3584) (yR m c) := by
  rw [iblk0 m c t, iblk1 m c t, iblk2 m c t, iblk3 m c t, out4_eq, yFull_V m c]

theorem dx_array : (dats m 0 c).arrAt 4 cfg0.N = rowsA (n := 3584) (yR m c) := by
  refine Pipeline.Dat.arrAt_eq_of_covers _ 4 _ (by decide +kernel) fun t hf y => ?_
  refine (congrFun ((after0_4 m c t).trans (dx_block m c t)) y).trans ?_
  exact congrArg (rowsA (n := 3584) (yR m c)) (emb4 t y).symm

theorem codes_block (t : Fin cfg0.N) : out0_5 (iblk m c 0 t) (iblk m c 1 t) (iblk m c 2 t) (iblk m c 3 t) = codesA (n := 4608) (gR m c) := by
  rw [iblk0 m c t, iblk1 m c t, iblk2 m c t, iblk3 m c t, out5_eq, codes_V m c]

theorem codes_array : (dats m 0 c).arrAt 5 cfg0.N = codesA (n := 4608) (gR m c) := by
  refine Pipeline.Dat.arrAt_eq_of_covers _ 5 _ (by decide +kernel) fun t hf y => ?_
  refine (congrFun ((after0_5 m c t).trans (codes_block m c t)) y).trans ?_
  exact congrArg (codesA (n := 4608) (gR m c)) (emb5 t y).symm

theorem scales_block (t : Fin cfg0.N) : out0_6 (iblk m c 0 t) (iblk m c 1 t) (iblk m c 2 t) (iblk m c 3 t) = scalesA (n := 36) (gR m c) := by
  rw [iblk0 m c t, iblk1 m c t, iblk2 m c t, iblk3 m c t, out6_eq, scales_V m c]

theorem scales_array : (dats m 0 c).arrAt 6 cfg0.N = scalesA (n := 36) (gR m c) := by
  refine Pipeline.Dat.arrAt_eq_of_covers _ 6 _ (by decide +kernel) fun t hf y => ?_
  refine (congrFun ((after0_6 m c t).trans (scales_block m c t)) y).trans ?_
  exact congrArg (scalesA (n := 36) (gR m c)) (emb6 t y).symm

theorem dcodes_block (t : Fin cfg0.N) : out0_7 (iblk m c 0 t) (iblk m c 1 t) (iblk m c 2 t) (iblk m c 3 t) = codesA (n := 3584) (yR m c) := by
  rw [iblk0 m c t, iblk1 m c t, iblk2 m c t, iblk3 m c t, out7_eq, yFull_V m c]

theorem dcodes_array : (dats m 0 c).arrAt 7 cfg0.N = codesA (n := 3584) (yR m c) := by
  refine Pipeline.Dat.arrAt_eq_of_covers _ 7 _ (by decide +kernel) fun t hf y => ?_
  refine (congrFun ((after0_7 m c t).trans (dcodes_block m c t)) y).trans ?_
  exact congrArg (codesA (n := 3584) (yR m c)) (emb7 t y).symm

theorem dscales_block (t : Fin cfg0.N) : out0_8 (iblk m c 0 t) (iblk m c 1 t) (iblk m c 2 t) (iblk m c 3 t) = scalesA (n := 28) (yR m c) := by
  rw [iblk0 m c t, iblk1 m c t, iblk2 m c t, iblk3 m c t, out8_eq, yFull_V m c]

theorem dscales_array : (dats m 0 c).arrAt 8 cfg0.N = scalesA (n := 28) (yR m c) := by
  refine Pipeline.Dat.arrAt_eq_of_covers _ 8 _ (by decide +kernel) fun t hf y => ?_
  refine (congrFun ((after0_8 m c t).trans (dscales_block m c t)) y).trans ?_
  exact congrArg (scalesA (n := 28) (yR m c)) (emb8 t y).symm

end Cert.ReferenceIdeal.Hand

end
-- ==== Proof.RI.Algebraic.lean ====
/- The kernel and the reference leave the same five results: each side's arrays are the same closed forms of the arguments. -/
module

public import proofs.«01_k».proof.Defs
public import proofs.«01_k».proof.Proof.Gen.KernelIdeal
public import proofs.«01_k».proof.Proof.Gen.ReferenceIdeal
public import proofs.«01_k».proof.Proof.PI.Frame
public import proofs.«01_k».proof.Proof.PI.Post
public import proofs.«01_k».proof.Proof.PI.Arrays
public import proofs.«01_k».proof.Proof.RI.Arrays

@[expose] public section

set_option maxRecDepth 16384

noncomputable section

namespace Cert.Proof

open Idealize.ShloMosaic Idealize.ShloMosaic.TcCoe Idealize.SL.Sem
open Cert.KernelIdeal.Hand (gFull yFull gM yM rowsA codesA scalesA)
open Cert.ReferenceIdeal.Hand (gR yR)

/-! ## Equal arguments give equal rows -/

theorem gFull_congr {a0 b0 : Vec Ideal (⟨4, ![2, 8192, 28, 128]⟩ : Shape) .bf16} {a1 b1 a2 b2 : Vec Ideal (⟨4, ![2, 8192, 4, 128]⟩ : Shape) .bf16}
    {a4 b4 : Vec Ideal (⟨2, ![2, 8192]⟩ : Shape) .i32} (h0 : a0 = b0) (h1 : a1 = b1) (h2 : a2 = b2) (h4 : a4 = b4) :
    gFull a0 a1 a2 a4 = gFull b0 b1 b2 b4 := by
  subst h0 h1 h2 h4; rfl

theorem yFull_congr {g k : Fin 2 → Fin 8192 → ℕ → Fin 128 → EReal} {a3 b3 : Vec Ideal (⟨3, ![2, 8192, 3584]⟩ : Shape) .bf16}
    {a5 b5 : Vec Ideal (⟨2, ![3584, 4608]⟩ : Shape) .fp8e4m3} {a6 b6 : Vec Ideal (⟨2, ![28, 36]⟩ : Shape) .f32}
    (hg : g = k) (h3 : a3 = b3) (h5 : a5 = b5) (h6 : a6 = b6) : yFull g a3 a5 a6 = yFull k b3 b5 b6 := by
  subst hg h3 h5 h6; rfl

/-- Over the extended reals, from equal arguments, the kernel and the reference both leave the update, its codes and scales, and the
    gradient's codes and scales, and keep their arguments. -/
theorem algebraic : letI := Cert.KernelIdeal.Gen.facts; letI := Cert.ReferenceIdeal.Gen.facts; Cert.algebraic_KernelIdeal_ReferenceIdeal := by
  intro m g m' g' _ hargs
  have hg : ∀ c, gR m' c = gM m c := fun c => by
    obtain ⟨h0, h1, h2, h3, h4, h5, h6⟩ := hargs c
    exact gFull_congr h0 h1 h2 h4
  have hy : ∀ c, yR m' c = yM m c := fun c => by
    obtain ⟨h0, h1, h2, h3, h4, h5, h6⟩ := hargs c
    exact yFull_congr (hg c) h3 h5 h6
  refine ⟨fun c => rowsA (n := 3584) (yM m c), fun c => codesA (n := 4608) (gM m c), fun c => scalesA (n := 36) (gM m c),
    fun c => codesA (n := 3584) (yM m c), fun c => scalesA (n := 28) (yM m c), ?_, ?_⟩
  · refine (θ_run Cert.KernelIdeal.defs _ _).mono (fun r h c => ?_)
      (Cert.KernelIdeal.Hand.run_main m g (Cert.KernelIdeal.Hand.post m) (Cert.KernelIdeal.Hand.post_kept m))
    exact ⟨Cert.KernelIdeal.Hand.dx_array h.1 c, Cert.KernelIdeal.Hand.codes_array h.1 c, Cert.KernelIdeal.Hand.scales_array h.1 c,
      Cert.KernelIdeal.Hand.dcodes_array h.1 c, Cert.KernelIdeal.Hand.dscales_array h.1 c, Cert.KernelIdeal.Hand.args_of m _ h.1 c⟩
  · refine (θ_run Cert.ReferenceIdeal.defs _ _).mono (fun r h c => ?_) (Cert.ReferenceIdeal.Value.run_blocks m' g')
    obtain ⟨e0, e1, e2, e3, e4, hk⟩ := h c
    exact ⟨(e0.trans (Cert.ReferenceIdeal.Hand.dx_array m' c)).trans (congrArg (fun y => rowsA (n := 3584) y) (hy c)),
      (e1.trans (Cert.ReferenceIdeal.Hand.codes_array m' c)).trans (congrArg (fun y => codesA (n := 4608) y) (hg c)),
      (e2.trans (Cert.ReferenceIdeal.Hand.scales_array m' c)).trans (congrArg (fun y => scalesA (n := 36) y) (hg c)),
      (e3.trans (Cert.ReferenceIdeal.Hand.dcodes_array m' c)).trans (congrArg (fun y => codesA (n := 3584) y) (hy c)),
      (e4.trans (Cert.ReferenceIdeal.Hand.dscales_array m' c)).trans (congrArg (fun y => scalesA (n := 28) y) (hy c)), hk⟩

end Cert.Proof

end
-- ==== Proof.lean ====
/- The certificate. The frames of the kernel and of its idealization are in Proof/P and Proof/PI, that of the reference in the
   generated modules; the equality of the five results is in Proof/RI/Algebraic. -/
module

public import proofs.«01_k».proof.Proof.Gen.ReferenceIdeal.Value
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.P.Frame
public import proofs.«01_k».proof.Proof.PI.Frame
public import proofs.«01_k».proof.Proof.RI.Algebraic
public import Idealize.ShloMosaic.Lib.Bf16Pair
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  fun m g _ => Cert.Kernel.Hand.frame_claim m g,
  fun m g _ => Cert.KernelIdeal.Hand.frame_claim m g,
  fun m g _ => Cert.ReferenceIdeal.Gen.frame m g,
  ⟨IdealRules.bf16_pair.statement _ _, IdealRules.bf16_pair.statement _ _⟩,
  algebraic⟩

end Cert.Proof

end
